-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_infinity [hPre_decays_below_infinity : Cert.Pre_decays_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_infinity [hPre_decays_below_infinity : Cert.Pre_decays_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays_below_infinity [hKernelIdeal : Cert.KernelIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays_below_infinity [hReferenceIdeal : Cert.ReferenceIdeal.Facts] [hPre_decays_below_infinity : Cert.Pre_decays_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_decays_below_infinity [hKernelIdeal : Cert.KernelIdeal.Facts] [hReferenceIdeal : Cert.ReferenceIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_v46) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_decays_below_infinity : Cert.Pre_decays_below_infinity.Facts),
    quiescent_Kernel (hKernel := hKernel)
    ∧ quiescent_KernelIdeal (hKernelIdeal := hKernelIdeal)
    ∧ quiescent_KernelIdeal_pre_decays_below_infinity (hKernelIdeal := hKernelIdeal) (hPre_decays_below_infinity := hPre_decays_below_infinity)
    ∧ quiescent_ReferenceIdeal (hReferenceIdeal := hReferenceIdeal)
    ∧ quiescent_ReferenceIdeal_pre_decays_below_infinity (hReferenceIdeal := hReferenceIdeal) (hPre_decays_below_infinity := hPre_decays_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_decays_below_infinity (hKernelIdeal := hKernelIdeal) (hReferenceIdeal := hReferenceIdeal) (hPre_decays_below_infinity := hPre_decays_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_decays_below_infinity.lean ====
abbrev S2x8192x512 : Shape := ⟨3, ![2, 8192, 512]⟩
abbrev S2x8192x1024 : Shape := ⟨3, ![2, 8192, 1024]⟩
abbrev S1x256 : Shape := ⟨2, ![1, 256]⟩
abbrev S_ : Shape := ⟨0, ![]⟩

class Facts : Prop where
  bcast_S_S2x8192x512 : S_.BroadcastsInDim S2x8192x512 (![] : Fin 0 → Fin S2x8192x512.rank)

variable [Facts]

def fn {F : FTy → Type} [FloatOps F] (main_arg0 : FVec F S2x8192x512 .f32) (main_arg1 : FVec F S2x8192x512 .f32) (main_arg2 : FVec F S2x8192x1024 .bf16) (main_arg3 : FVec F S2x8192x1024 .f32) (main_arg4 : FVec F S2x8192x512 .f32) (main_arg5 : FVec F S1x256 .f32) : IVec S2x8192x512 1 :=
  let main_cst : FVec F S_ .f32 := constant S_ .f32 0x7F800000#32
  let main_v0 : FVec F S2x8192x512 .f32 := broadcastInDim S2x8192x512 ![] bcast_S_S2x8192x512 main_cst
  let main_v1 : IVec S2x8192x512 1 := cmpf .olt main_arg4 main_v0
  main_v1
-- ==== Kernel.lean ====
abbrev S2x8192x512 : Shape := ⟨3, ![2, 8192, 512]⟩
abbrev S2x8192x1024 : Shape := ⟨3, ![2, 8192, 1024]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S_ : Shape := ⟨0, ![]⟩
abbrev S1x256x512 : Shape := ⟨3, ![1, 256, 512]⟩
abbrev S1x256x1024 : Shape := ⟨3, ![1, 256, 1024]⟩
abbrev S4x256x128 : Shape := ⟨3, ![4, 256, 128]⟩
abbrev S256x512 : Shape := ⟨2, ![256, 512]⟩
abbrev S64x64 : Shape := ⟨2, ![64, 64]⟩
abbrev S64x512 : Shape := ⟨2, ![64, 512]⟩
abbrev S1x512 : Shape := ⟨2, ![1, 512]⟩
abbrev S1x64x512 : Shape := ⟨3, ![1, 64, 512]⟩
abbrev S1x64x256 : Shape := ⟨3, ![1, 64, 256]⟩
abbrev S64x256 : Shape := ⟨2, ![64, 256]⟩
abbrev S64x128 : Shape := ⟨2, ![64, 128]⟩
abbrev S1x256x128 : Shape := ⟨3, ![1, 256, 128]⟩
abbrev S256x128 : Shape := ⟨2, ![256, 128]⟩
abbrev S1x128 : Shape := ⟨2, ![1, 128]⟩
abbrev S64 : Shape := ⟨1, ![64]⟩
abbrev S64x1 : Shape := ⟨2, ![64, 1]⟩

abbrev nBuf : Space → Nat
  | .hbm => 58
  | .vmem => 15
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .bf16⟩
  | .hbm, ⟨3, _⟩ => ⟨S2x8192x1024, .f32⟩
  | .hbm, ⟨4, _⟩ => ⟨S2x8192x512, .f32⟩
  | .hbm, ⟨5, _⟩ => ⟨S1x256, .f32⟩
  | .hbm, ⟨6, _⟩ => ⟨S256, .f32⟩
  | .hbm, ⟨7, _⟩ => ⟨S1x256, .f32⟩
  | .hbm, ⟨8, _⟩ => ⟨S256, .i32⟩
  | .hbm, ⟨9, _⟩ => ⟨S256x1, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x1, .i32⟩
  | .hbm, ⟨15, _⟩ => ⟨S_, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S1x256, .i32⟩
  | .hbm, ⟨34, _⟩ => ⟨S_, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S1x256, .i32⟩
  | .hbm, ⟨39, _⟩ => ⟨S_, .i32⟩
  | .hbm, ⟨40, _⟩ => ⟨S1x256, .i32⟩
  | .hbm, ⟨41, _⟩ => ⟨S1x256, .i1⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S256x256, .bf16⟩
  | .hbm, ⟨57, _⟩ => ⟨S2x8192x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x512, .f32⟩
  | .local _ .vmem, ⟨9, _⟩ => ⟨S1x256x512, .f32⟩
  | .local _ .vmem, ⟨10, _⟩ => ⟨S1x256, .f32⟩
  | .local _ .vmem, ⟨11, _⟩ => ⟨S256x256, .bf16⟩
  | .local _ .vmem, ⟨12, _⟩ => ⟨S1x256x1024, .bf16⟩
  | .local _ .vmem, ⟨13, _⟩ => ⟨S1x256x1024, .bf16⟩
  | .local _ .vmem, ⟨14, _⟩ => ⟨S4x256x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x512 : Shape := ⟨3, ![2, 8192, 512]⟩
abbrev S2x8192x1024 : Shape := ⟨3, ![2, 8192, 1024]⟩
abbrev S1x256 : Shape := ⟨2, ![1, 256]⟩
abbrev S2x128x64x4x128 : Shape := ⟨5, ![2, 128, 64, 4, 128]⟩
abbrev S_ : Shape := ⟨0, ![]⟩
abbrev S2x128x1x4x128 : Shape := ⟨5, ![2, 128, 1, 4, 128]⟩
abbrev S2x128x64x4x256 : Shape := ⟨5, ![2, 128, 64, 4, 256]⟩
abbrev S2x128x4x128x256 : Shape := ⟨5, ![2, 128, 4, 128, 256]⟩
abbrev S2x128x4x128 : Shape := ⟨4, ![2, 128, 4, 128]⟩
abbrev S2x4x128x256 : Shape := ⟨4, ![2, 4, 128, 256]⟩
abbrev S128x2x4x128 : Shape := ⟨4, ![128, 2, 4, 128]⟩
abbrev S128x2x4x128x256 : Shape := ⟨5, ![128, 2, 4, 128, 256]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S2x4x128x1 : Shape := ⟨4, ![2, 4, 128, 1]⟩
abbrev S64x64 : Shape := ⟨2, ![64, 64]⟩
abbrev S2x128x4x64x64 : Shape := ⟨5, ![2, 128, 4, 64, 64]⟩
abbrev S2x128x4x256x64 : Shape := ⟨5, ![2, 128, 4, 256, 64]⟩
abbrev S2x8192x4x256 : Shape := ⟨4, ![2, 8192, 4, 256]⟩
abbrev S256 : Shape := ⟨1, ![256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .bf16⟩
  | .hbm, ⟨3, _⟩ => ⟨S2x8192x1024, .f32⟩
  | .hbm, ⟨4, _⟩ => ⟨S2x8192x512, .f32⟩
  | .hbm, ⟨5, _⟩ => ⟨S1x256, .f32⟩
  | .hbm, ⟨6, _⟩ => ⟨S2x128x64x4x128, .f32⟩
  | .hbm, ⟨7, _⟩ => ⟨S_, .f32⟩
  | .hbm, ⟨8, _⟩ => ⟨S_, .f32⟩
  | .hbm, ⟨9, _⟩ => ⟨S2x128x64x4x128, .f32⟩
  | .hbm, ⟨10, _⟩ => ⟨S2x128x1x4x128, .f32⟩
  | .hbm, ⟨11, _⟩ => ⟨S2x128x64x4x128, .f32⟩
  | .hbm, ⟨12, _⟩ => ⟨S2x128x64x4x128, .f32⟩
  | .hbm, ⟨13, _⟩ => ⟨S2x128x64x4x128, .f32⟩
  | .hbm, ⟨14, _⟩ => ⟨S2x128x64x4x128, .f32⟩
  | .hbm, ⟨15, _⟩ => ⟨S2x128x64x4x128, .f32⟩
  | .hbm, ⟨16, _⟩ => ⟨S2x8192x1024, .f32⟩
  | .hbm, ⟨17, _⟩ => ⟨S2x128x64x4x256, .f32⟩
  | .hbm, ⟨18, _⟩ => ⟨S2x128x4x128x256, .f32⟩
  | .hbm, ⟨19, _⟩ => ⟨S2x128x4x128, .f32⟩
  | .hbm, ⟨20, _⟩ => ⟨S2x128x4x128, .f32⟩
  | .hbm, ⟨21, _⟩ => ⟨S_, .f32⟩
  | .hbm, ⟨22, _⟩ => ⟨S2x4x128x256, .f32⟩
  | .hbm, ⟨23, _⟩ => ⟨S128x2x4x128, .f32⟩
  | .hbm, ⟨24, _⟩ => ⟨S128x2x4x128x256, .f32⟩
  | .hbm, ⟨25, _⟩ => ⟨S_, .f32⟩
  | .hbm, ⟨26, _⟩ => ⟨S128x2x4x128x256, .f32⟩
  | .hbm, ⟨27, _⟩ => ⟨S_, .i32⟩
  | .hbm, ⟨28, _⟩ => ⟨S128x2x4x128, .f32⟩
  | .hbm, ⟨29, _⟩ => ⟨S128x2x4x128x256, .f32⟩
  | .hbm, ⟨30, _⟩ => ⟨S_, .i32⟩
  | .hbm, ⟨31, _⟩ => ⟨S2x4x128x256, .f32⟩
  | .hbm, ⟨32, _⟩ => ⟨S128x2x4x128x256, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x2x4x128, .f32⟩
  | .hbm, ⟨39, _⟩ => ⟨S2x4x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x4x128x256, .f32⟩
  | .hbm, ⟨45, _⟩ => ⟨S2x4x128x256, .f32⟩
  | .hbm, ⟨46, _⟩ => ⟨S2x4x128x1, .f32⟩
  | .hbm, ⟨47, _⟩ => ⟨S2x4x128x256, .f32⟩
  | .hbm, ⟨48, _⟩ => ⟨S2x4x128x256, .f32⟩
  | .hbm, ⟨49, _⟩ => ⟨S2x4x128x256, .f32⟩
  | .hbm, ⟨50, _⟩ => ⟨S1x2x4x128x256, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S128x2x4x128x256, .f32⟩
  | .hbm, ⟨56, _⟩ => ⟨S_, .i32⟩
  | .hbm, ⟨57, _⟩ => ⟨S_, .i32⟩
  | .hbm, ⟨58, _⟩ => ⟨S2x128x4x128x256, .f32⟩
  | .hbm, ⟨59, _⟩ => ⟨S2x128x64x4x128, .f32⟩
  | .hbm, ⟨60, _⟩ => ⟨S_, .f32⟩
  | .hbm, ⟨61, _⟩ => ⟨S_, .f32⟩
  | .hbm, ⟨62, _⟩ => ⟨S2x128x64x4x128, .f32⟩
  | .hbm, ⟨63, _⟩ => ⟨S2x128x64x4x128, .f32⟩
  | .hbm, ⟨64, _⟩ => ⟨S_, .f32⟩
  | .hbm, ⟨65, _⟩ => ⟨S2x128x64x4x128, .f32⟩
  | .hbm, ⟨66, _⟩ => ⟨S2x128x64x4x128, .f32⟩
  | .hbm, ⟨67, _⟩ => ⟨S2x128x64x4x128, .f32⟩
  | .hbm, ⟨68, _⟩ => ⟨S2x128x64x4x128, .f32⟩
  | .hbm, ⟨69, _⟩ => ⟨S2x128x64x4x128, .f32⟩
  | .hbm, ⟨70, _⟩ => ⟨S2x128x64x4x128, .f32⟩
  | .hbm, ⟨71, _⟩ => ⟨S2x128x64x4x128, .f32⟩
  | .hbm, ⟨72, _⟩ => ⟨S2x128x64x4x128, .f32⟩
  | .hbm, ⟨73, _⟩ => ⟨S_, .i1⟩
  | .hbm, ⟨74, _⟩ => ⟨S64x64, .i1⟩
  | .hbm, ⟨75, _⟩ => ⟨S64x64, .i32⟩
  | .hbm, ⟨76, _⟩ => ⟨S_, .i32⟩
  | .hbm, ⟨77, _⟩ => ⟨S64x64, .i32⟩
  | .hbm, ⟨78, _⟩ => ⟨S64x64, .i32⟩
  | .hbm, ⟨79, _⟩ => ⟨S64x64, .i32⟩
  | .hbm, ⟨80, _⟩ => ⟨S64x64, .i1⟩
  | .hbm, ⟨81, _⟩ => ⟨S_, .i1⟩
  | .hbm, ⟨82, _⟩ => ⟨S64x64, .i1⟩
  | .hbm, ⟨83, _⟩ => ⟨S64x64, .i1⟩
  | .hbm, ⟨84, _⟩ => ⟨S2x128x4x64x64, .f32⟩
  | .hbm, ⟨85, _⟩ => ⟨S_, .f32⟩
  | .hbm, ⟨86, _⟩ => ⟨S_, .f32⟩
  | .hbm, ⟨87, _⟩ => ⟨S2x128x4x64x64, .i1⟩
  | .hbm, ⟨88, _⟩ => ⟨S2x128x4x64x64, .f32⟩
  | .hbm, ⟨89, _⟩ => ⟨S2x128x4x64x64, .f32⟩
  | .hbm, ⟨90, _⟩ => ⟨S2x8192x1024, .f32⟩
  | .hbm, ⟨91, _⟩ => ⟨S2x128x64x4x256, .f32⟩
  | .hbm, ⟨92, _⟩ => ⟨S2x128x4x256x64, .f32⟩
  | .hbm, ⟨93, _⟩ => ⟨S2x128x64x4x256, .f32⟩
  | .hbm, ⟨94, _⟩ => ⟨S2x128x4x256x64, .f32⟩
  | .hbm, ⟨95, _⟩ => ⟨S2x128x64x4x256, .f32⟩
  | .hbm, ⟨96, _⟩ => ⟨S2x128x64x4x256, .f32⟩
  | .hbm, ⟨97, _⟩ => ⟨S2x8192x4x256, .f32⟩
  | .hbm, ⟨98, _⟩ => ⟨S256, .f32⟩
  | .hbm, ⟨99, _⟩ => ⟨S2x8192x4x256, .f32⟩
  | .hbm, ⟨100, _⟩ => ⟨S_, .f32⟩
  | .hbm, ⟨101, _⟩ => ⟨S2x8192x4, .f32⟩
  | .hbm, ⟨102, _⟩ => ⟨S2x8192x4x1, .f32⟩
  | .hbm, ⟨103, _⟩ => ⟨S_, .f32⟩
  | .hbm, ⟨104, _⟩ => ⟨S2x8192x4x1, .f32⟩
  | .hbm, ⟨105, _⟩ => ⟨S2x8192x4x1, .f32⟩
  | .hbm, ⟨106, _⟩ => ⟨S_, .f32⟩
  | .hbm, ⟨107, _⟩ => ⟨S2x8192x4x1, .f32⟩
  | .hbm, ⟨108, _⟩ => ⟨S2x8192x4x1, .f32⟩
  | .hbm, ⟨109, _⟩ => ⟨S2x8192x4x1, .f32⟩
  | .hbm, ⟨110, _⟩ => ⟨S2x8192x4x256, .f32⟩
  | .hbm, ⟨111, _⟩ => ⟨S2x8192x4x256, .f32⟩
  | .hbm, ⟨112, _⟩ => ⟨S1x1x1x256, .f32⟩
  | .hbm, ⟨113, _⟩ => ⟨S2x8192x4x256, .f32⟩
  | .hbm, ⟨114, _⟩ => ⟨S2x8192x4x256, .f32⟩
  | .hbm, ⟨115, _⟩ => ⟨S2x8192x4x256, .f32⟩
  | .hbm, ⟨116, _⟩ => ⟨S2x8192x4x256, .f32⟩
  | .hbm, ⟨117, _⟩ => ⟨S2x8192x4x256, .f32⟩
  | .hbm, ⟨118, _⟩ => ⟨S_, .f32⟩
  | .hbm, ⟨119, _⟩ => ⟨S2x8192x4x256, .f32⟩
  | .hbm, ⟨120, _⟩ => ⟨S2x8192x4x256, .f32⟩
  | .hbm, ⟨121, _⟩ => ⟨S_, .f32⟩
  | .hbm, ⟨122, _⟩ => ⟨S2x8192x4x256, .f32⟩
  | .hbm, ⟨123, _⟩ => ⟨S2x8192x4x256, .f32⟩
  | .hbm, ⟨124, _⟩ => ⟨S2x8192x4x256, .f32⟩
  | .hbm, ⟨125, _⟩ => ⟨S2x8192x4x256, .f32⟩
  | .hbm, ⟨126, _⟩ => ⟨S2x8192x1024, .f32⟩
  | .hbm, ⟨127, _⟩ => ⟨S2x8192x1024, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_c : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_while0c_c_11 : Ref sig .tc := ⟨.hbm, 33, rfl⟩
abbrev main_while0c_v61 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_call1_v0 : Ref sig .tc := ⟨.hbm, 38, rfl⟩
abbrev main_while0b_v61 : Ref sig .tc := ⟨.hbm, 39, rfl⟩
abbrev main_while0b_call2_c : Ref sig .tc := ⟨.hbm, 40, rfl⟩
abbrev main_while0b_call2_c_0 : Ref sig .tc := ⟨.hbm, 41, rfl⟩
abbrev main_while0b_call2_c_1 : Ref sig .tc := ⟨.hbm, 42, rfl⟩
abbrev main_while0b_call2_c_2 : Ref sig .tc := ⟨.hbm, 43, rfl⟩
abbrev main_while0b_call2_v0 : Ref sig .tc := ⟨.hbm, 44, rfl⟩
abbrev main_while0b_v62 : Ref sig .tc := ⟨.hbm, 45, rfl⟩
abbrev main_while0b_v63 : Ref sig .tc := ⟨.hbm, 46, rfl⟩
abbrev main_while0b_v64 : Ref sig .tc := ⟨.hbm, 47, rfl⟩
abbrev main_while0b_v65 : Ref sig .tc := ⟨.hbm, 48, rfl⟩
abbrev main_while0b_v66 : Ref sig .tc := ⟨.hbm, 49, rfl⟩
abbrev main_while0b_call3_v0 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_v67 : Ref sig .tc := ⟨.hbm, 55, rfl⟩
abbrev main_while0b_c_11 : Ref sig .tc := ⟨.hbm, 56, rfl⟩
abbrev main_while0b_v68 : Ref sig .tc := ⟨.hbm, 57, rfl⟩
abbrev main_v18 : Ref sig .tc := ⟨.hbm, 58, rfl⟩
abbrev main_v19 : Ref sig .tc := ⟨.hbm, 59, rfl⟩
abbrev main_call4_call0_cst : Ref sig .tc := ⟨.hbm, 60, rfl⟩
abbrev main_call4_call0_v0 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c_2 : Ref sig .tc := ⟨.hbm, 73, rfl⟩
abbrev main_v30 : Ref sig .tc := ⟨.hbm, 74, rfl⟩
abbrev main_call5_v0 : Ref sig .tc := ⟨.hbm, 75, rfl⟩
abbrev main_call5_c : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_c_0 : Ref sig .tc := ⟨.hbm, 81, rfl⟩
abbrev main_call5_v5 : Ref sig .tc := ⟨.hbm, 82, rfl⟩
abbrev main_v31 : Ref sig .tc := ⟨.hbm, 83, rfl⟩
abbrev main_v32 : Ref sig .tc := ⟨.hbm, 84, rfl⟩
abbrev main_cst_3 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_4 : Ref sig .tc := ⟨.hbm, 100, rfl⟩
abbrev main_v44 : Ref sig .tc := ⟨.hbm, 101, rfl⟩
abbrev main_v45 : Ref sig .tc := ⟨.hbm, 102, rfl⟩
abbrev main_cst_5 : Ref sig .tc := ⟨.hbm, 103, rfl⟩
abbrev main_v46 : Ref sig .tc := ⟨.hbm, 104, rfl⟩
abbrev main_v47 : Ref sig .tc := ⟨.hbm, 105, rfl⟩
abbrev main_cst_6 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_call7_v0 : Ref sig .tc := ⟨.hbm, 116, rfl⟩
abbrev main_call7_v1 : Ref sig .tc := ⟨.hbm, 117, rfl⟩
abbrev main_call7_cst : Ref sig .tc := ⟨.hbm, 118, rfl⟩
abbrev main_call7_v2 : Ref sig .tc := ⟨.hbm, 119, rfl⟩
abbrev main_call7_v3 : Ref sig .tc := ⟨.hbm, 120, rfl⟩
abbrev main_call7_cst_0 : Ref sig .tc := ⟨.hbm, 121, rfl⟩
abbrev main_call7_v4 : Ref sig .tc := ⟨.hbm, 122, rfl⟩
abbrev main_call7_v5 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S1x1024x1024 : Shape := ⟨3, ![1, 1024, 1024]⟩
abbrev S2x2x6144 : Shape := ⟨3, ![2, 2, 6144]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S2x2x6x1024 : Shape := ⟨4, ![2, 2, 6, 1024]⟩
abbrev S1x2x6x1024 : Shape := ⟨4, ![1, 2, 6, 1024]⟩
abbrev S2x6x1024 : Shape := ⟨3, ![2, 6, 1024]⟩
abbrev S1024x1024 : Shape := ⟨2, ![1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S1x512x1024 : Shape := ⟨3, ![1, 512, 1024]⟩
abbrev S1x6x1024 : Shape := ⟨3, ![1, 6, 1024]⟩
abbrev S8x2816 : Shape := ⟨2, ![8, 2816]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S8x256 : Shape := ⟨2, ![8, 256]⟩
abbrev S1x256 : Shape := ⟨2, ![1, 256]⟩

abbrev nBuf : Space → Nat
  | .hbm => 31
  | .vmem => 17
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S2x8192x1024, .f32⟩
  | .hbm, ⟨3, _⟩ => ⟨S2x2x6144, .f32⟩
  | .hbm, ⟨4, _⟩ => ⟨S2x1024, .f32⟩
  | .hbm, ⟨5, _⟩ => ⟨S2x1024x5632, .f32⟩
  | .hbm, ⟨6, _⟩ => ⟨S2x3x2816, .f32⟩
  | .hbm, ⟨7, _⟩ => ⟨S2x2816, .f32⟩
  | .hbm, ⟨8, _⟩ => ⟨S2x2816x1024, .f32⟩
  | .hbm, ⟨9, _⟩ => ⟨S1024, .f32⟩
  | .hbm, ⟨10, _⟩ => ⟨S2x2x6x1024, .f32⟩
  | .hbm, ⟨11, _⟩ => ⟨S1x2x6x1024, .f32⟩
  | .hbm, ⟨12, _⟩ => ⟨S2x6x1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024x5632, .f32⟩
  | .hbm, ⟨19, _⟩ => ⟨S1024x5632, .f32⟩
  | .hbm, ⟨20, _⟩ => ⟨S1024x5632, .bf16⟩
  | .hbm, ⟨21, _⟩ => ⟨S1x3x2816, .f32⟩
  | .hbm, ⟨22, _⟩ => ⟨S3x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S1x2816x1024, .f32⟩
  | .hbm, ⟨27, _⟩ => ⟨S2816x1024, .f32⟩
  | .hbm, ⟨28, _⟩ => ⟨S2816x1024, .bf16⟩
  | .hbm, ⟨29, _⟩ => ⟨S1x1024, .f32⟩
  | .hbm, ⟨30, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1024x5632, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S8x2816, .f32⟩
  | .local _ .vmem, ⟨16, _⟩ => ⟨S512x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S1x1024x1024 : Shape := ⟨3, ![1, 1024, 1024]⟩
abbrev S2x2x6144 : Shape := ⟨3, ![2, 2, 6144]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S1024 : Shape := ⟨1, ![1024]⟩
abbrev S1x2x6144 : Shape := ⟨3, ![1, 2, 6144]⟩
abbrev S2x6144 : Shape := ⟨2, ![2, 6144]⟩
abbrev S1024x1024 : Shape := ⟨2, ![1024, 1024]⟩
abbrev S2x1x1024 : Shape := ⟨3, ![2, 1, 1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x1x2816 : Shape := ⟨3, ![1, 1, 2816]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S1x1024x1024, .f32⟩
  | .hbm, ⟨2, _⟩ => ⟨S2x8192x1024, .f32⟩
  | .hbm, ⟨3, _⟩ => ⟨S2x2x6144, .f32⟩
  | .hbm, ⟨4, _⟩ => ⟨S2x1024, .f32⟩
  | .hbm, ⟨5, _⟩ => ⟨S2x1024x5632, .f32⟩
  | .hbm, ⟨6, _⟩ => ⟨S2x3x2816, .f32⟩
  | .hbm, ⟨7, _⟩ => ⟨S2x2816, .f32⟩
  | .hbm, ⟨8, _⟩ => ⟨S2x2816x1024, .f32⟩
  | .hbm, ⟨9, _⟩ => ⟨S1024, .f32⟩
  | .hbm, ⟨10, _⟩ => ⟨S1x2x6144, .f32⟩
  | .hbm, ⟨11, _⟩ => ⟨S2x6144, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x8192x1024, .f32⟩
  | .hbm, ⟨19, _⟩ => ⟨S1024x1024, .f32⟩
  | .hbm, ⟨20, _⟩ => ⟨S2x8192x1024, .f32⟩
  | .hbm, ⟨21, _⟩ => ⟨S2x1x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1x1024, .f32⟩
  | .hbm, ⟨26, _⟩ => ⟨S1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S2x1x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x8192x1024, .f32⟩
  | .hbm, ⟨48, _⟩ => ⟨S2x8192x1024, .f32⟩
  | .hbm, ⟨49, _⟩ => ⟨S2x1x1024, .f32⟩
  | .hbm, ⟨50, _⟩ => ⟨S2x8192x1024, .f32⟩
  | .hbm, ⟨51, _⟩ => ⟨S2x8192x1024, .f32⟩
  | .hbm, ⟨52, _⟩ => ⟨S2x1x1024, .f32⟩
  | .hbm, ⟨53, _⟩ => ⟨S1x1024x5632, .f32⟩
  | .hbm, ⟨54, _⟩ => ⟨S1024x5632, .f32⟩
  | .hbm, ⟨55, _⟩ => ⟨S1x3x2816, .f32⟩
  | .hbm, ⟨56, _⟩ => ⟨S3x2816, .f32⟩
  | .hbm, ⟨57, _⟩ => ⟨S1x2816, .f32⟩
  | .hbm, ⟨58, _⟩ => ⟨S2816, .f32⟩
  | .hbm, ⟨59, _⟩ => ⟨S1x2816x1024, .f32⟩
  | .hbm, ⟨60, _⟩ => ⟨S2816x1024, .f32⟩
  | .hbm, ⟨61, _⟩ => ⟨S2x8192x5632, .f32⟩
  | .hbm, ⟨62, _⟩ => ⟨S2x8192x2816, .f32⟩
  | .hbm, ⟨63, _⟩ => ⟨S2x8192x2816, .f32⟩
  | .hbm, ⟨64, _⟩ => ⟨S_, .i32⟩
  | .hbm, ⟨65, _⟩ => ⟨S_, .f32⟩
  | .hbm, ⟨66, _⟩ => ⟨S2x8194x2816, .f32⟩
  | .hbm, ⟨67, _⟩ => ⟨S2x8192x2816, .f32⟩
  | .hbm, ⟨68, _⟩ => ⟨S1x2816, .f32⟩
  | .hbm, ⟨69, _⟩ => ⟨S2816, .f32⟩
  | .hbm, ⟨70, _⟩ => ⟨S1x1x2816, .f32⟩
  | .hbm, ⟨71, _⟩ => ⟨S2x8192x2816, .f32⟩
  | .hbm, ⟨72, _⟩ => ⟨S2x8192x2816, .f32⟩
  | .hbm, ⟨73, _⟩ => ⟨S_, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S1x2816, .f32⟩
  | .hbm, ⟨78, _⟩ => ⟨S2816, .f32⟩
  | .hbm, ⟨79, _⟩ => ⟨S1x1x2816, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S1x2816, .f32⟩
  | .hbm, ⟨85, _⟩ => ⟨S2816, .f32⟩
  | .hbm, ⟨86, _⟩ => ⟨S1x1x2816, .f32⟩
  | .hbm, ⟨87, _⟩ => ⟨S2x8192x2816, .f32⟩
  | .hbm, ⟨88, _⟩ => ⟨S2x8192x2816, .f32⟩
  | .hbm, ⟨89, _⟩ => ⟨S2x8192x2816, .f32⟩
  | .hbm, ⟨90, _⟩ => ⟨S1x1x2816, .f32⟩
  | .hbm, ⟨91, _⟩ => ⟨S2x8192x2816, .f32⟩
  | .hbm, ⟨92, _⟩ => ⟨S2x8192x2816, .f32⟩
  | .hbm, ⟨93, _⟩ => ⟨S2x8192x2816, .f32⟩
  | .hbm, ⟨94, _⟩ => ⟨S2x8192x2816, .f32⟩
  | .hbm, ⟨95, _⟩ => ⟨S_, .f32⟩
  | .hbm, ⟨96, _⟩ => ⟨S2x8192x2816, .f32⟩
  | .hbm, ⟨97, _⟩ => ⟨S2x8192x2816, .f32⟩
  | .hbm, ⟨98, _⟩ => ⟨S_, .f32⟩
  | .hbm, ⟨99, _⟩ => ⟨S2x8192x2816, .f32⟩
  | .hbm, ⟨100, _⟩ => ⟨S2x8192x2816, .f32⟩
  | .hbm, ⟨101, _⟩ => ⟨S2x8192x2816, .f32⟩
  | .hbm, ⟨102, _⟩ => ⟨S2x8192x2816, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S_, .f32⟩
  | .hbm, ⟨109, _⟩ => ⟨S2x8192, .f32⟩
  | .hbm, ⟨110, _⟩ => ⟨S2x8192x1, .f32⟩
  | .hbm, ⟨111, _⟩ => ⟨S_, .f32⟩
  | .hbm, ⟨112, _⟩ => ⟨S2x8192x1, .f32⟩
  | .hbm, ⟨113, _⟩ => ⟨S2x8192x1, .f32⟩
  | .hbm, ⟨114, _⟩ => ⟨S_, .f32⟩
  | .hbm, ⟨115, _⟩ => ⟨S2x8192x1, .f32⟩
  | .hbm, ⟨116, _⟩ => ⟨S2x8192x1, .f32⟩
  | .hbm, ⟨117, _⟩ => ⟨S2x8192x1, .f32⟩
  | .hbm, ⟨118, _⟩ => ⟨S2x8192x1024, .f32⟩
  | .hbm, ⟨119, _⟩ => ⟨S2x8192x1024, .f32⟩
  | .hbm, ⟨120, _⟩ => ⟨S1x1x1024, .f32⟩
  | .hbm, ⟨121, _⟩ => ⟨S2x8192x1024, .f32⟩
  | .hbm, ⟨122, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_call0_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_4 : Ref sig .tc := ⟨.hbm, 108, rfl⟩
abbrev main_v83 : Ref sig .tc := ⟨.hbm, 109, rfl⟩
abbrev main_v84 : Ref sig .tc := ⟨.hbm, 110, rfl⟩
abbrev main_cst_5 : Ref sig .tc := ⟨.hbm, 111, rfl⟩
abbrev main_v85 : Ref sig .tc := ⟨.hbm, 112, rfl⟩
abbrev main_v86 : Ref sig .tc := ⟨.hbm, 113, rfl⟩
abbrev main_cst_6 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x2x6144 : Shape := ⟨3, ![2, 2, 6144]⟩
abbrev S2x1024 : Shape := ⟨2, ![2, 1024]⟩
abbrev S1x1024x9216 : Shape := ⟨3, ![1, 1024, 9216]⟩
abbrev S2x2x6x1024 : Shape := ⟨4, ![2, 2, 6, 1024]⟩
abbrev S1x2x6x1024 : Shape := ⟨4, ![1, 2, 6, 1024]⟩
abbrev S2x6x1024 : Shape := ⟨3, ![2, 6, 1024]⟩
abbrev S1x1024 : Shape := ⟨2, ![1, 1024]⟩
abbrev S1024 : Shape := ⟨1, ![1024]⟩
abbrev S1024x9216 : Shape := ⟨2, ![1024, 9216]⟩
abbrev S2x72x8192x128 : Shape := ⟨4, ![2, 72, 8192, 128]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x24x1024x128 : Shape := ⟨4, ![1, 24, 1024, 128]⟩
abbrev S3x1024x1024 : Shape := ⟨3, ![3, 1024, 1024]⟩
abbrev S8x1024x128 : Shape := ⟨3, ![8, 1024, 128]⟩
abbrev S1x1x1024 : Shape := ⟨3, ![1, 1, 1024]⟩
abbrev S1024x1 : Shape := ⟨2, ![1024, 1]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S1x1x1024x128 : Shape := ⟨4, ![1, 1, 1024, 128]⟩

abbrev nBuf : Space → Nat
  | .hbm => 13
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x1024, .f32⟩
  | .hbm, ⟨3, _⟩ => ⟨S1x1024x9216, .f32⟩
  | .hbm, ⟨4, _⟩ => ⟨S2x2x6x1024, .f32⟩
  | .hbm, ⟨5, _⟩ => ⟨S1x2x6x1024, .f32⟩
  | .hbm, ⟨6, _⟩ => ⟨S2x6x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x9216, .f32⟩
  | .hbm, ⟨11, _⟩ => ⟨S1024x9216, .bf16⟩
  | .hbm, ⟨12, _⟩ => ⟨S2x72x8192x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x24x1024x128, .bf16⟩
  | .local _ .vmem, ⟨12, _⟩ => ⟨S1x24x1024x128, .bf16⟩
  | .local _ .vmem, ⟨13, _⟩ => ⟨S3x1024x1024, .bf16⟩
  | .local _ .vmem, ⟨14, _⟩ => ⟨S8x1024x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 3], ![false, false, false]⟩

def k0_off1 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x24x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S2x8192x1024 : Shape := ⟨3, ![2, 8192, 1024]⟩
abbrev S2x2x6144 : Shape := ⟨3, ![2, 2, 6144]⟩
abbrev S2x1024 : Shape := ⟨2, ![2, 1024]⟩
abbrev S1x1024x9216 : Shape := ⟨3, ![1, 1024, 9216]⟩
abbrev S1x2x6144 : Shape := ⟨3, ![1, 2, 6144]⟩
abbrev S2x6144 : Shape := ⟨2, ![2, 6144]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x9216 : Shape := ⟨2, ![1024, 9216]⟩
abbrev S2x8192x9216 : Shape := ⟨3, ![2, 8192, 9216]⟩
abbrev S2x8192x3x3x1024 : Shape := ⟨5, ![2, 8192, 3, 3, 1024]⟩
abbrev S2x8192x1x1x1024 : Shape := ⟨5, ![2, 8192, 1, 1, 1024]⟩
abbrev S2x8x1024x1x8x128 : Shape := ⟨6, ![2, 8, 1024, 1, 8, 128]⟩
abbrev S2x8x8x1x1024x128 : Shape := ⟨6, ![2, 8, 8, 1, 1024, 128]⟩
abbrev S2x8x8192x128 : Shape := ⟨4, ![2, 8, 8192, 128]⟩
abbrev S2x8x256x4x8x128 : Shape := ⟨6, ![2, 8, 256, 4, 8, 128]⟩
abbrev S2x8x8x4x256x128 : Shape := ⟨6, ![2, 8, 8, 4, 256, 128]⟩
abbrev S2x8x64x16x8x128 : Shape := ⟨6, ![2, 8, 64, 16, 8, 128]⟩
abbrev S2x8x8x16x64x128 : Shape := ⟨6, ![2, 8, 8, 16, 64, 128]⟩
abbrev S2x72x8192x128 : Shape := ⟨4, ![2, 72, 8192, 128]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x1024, .f32⟩
  | .hbm, ⟨3, _⟩ => ⟨S1x1024x9216, .f32⟩
  | .hbm, ⟨4, _⟩ => ⟨S1x2x6144, .f32⟩
  | .hbm, ⟨5, _⟩ => ⟨S2x6144, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S1024x9216, .f32⟩
  | .hbm, ⟨40, _⟩ => ⟨S2x8192x9216, .f32⟩
  | .hbm, ⟨41, _⟩ => ⟨S2x8192x3x3x1024, .f32⟩
  | .hbm, ⟨42, _⟩ => ⟨S2x8192x1x1x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S2x8x1024x1x8x128, .f32⟩
  | .hbm, ⟨48, _⟩ => ⟨S2x8x8x1x1024x128, .f32⟩
  | .hbm, ⟨49, _⟩ => ⟨S2x8x8192x128, .f32⟩
  | .hbm, ⟨50, _⟩ => ⟨S2x8192x1x1x1024, .f32⟩
  | .hbm, ⟨51, _⟩ => ⟨S2x8192x1024, .f32⟩
  | .hbm, ⟨52, _⟩ => ⟨S2x8x1024x1x8x128, .f32⟩
  | .hbm, ⟨53, _⟩ => ⟨S2x8x8x1x1024x128, .f32⟩
  | .hbm, ⟨54, _⟩ => ⟨S2x8x8192x128, .f32⟩
  | .hbm, ⟨55, _⟩ => ⟨S2x8192x1x1x1024, .f32⟩
  | .hbm, ⟨56, _⟩ => ⟨S2x8192x1024, .f32⟩
  | .hbm, ⟨57, _⟩ => ⟨S2x8x1024x1x8x128, .f32⟩
  | .hbm, ⟨58, _⟩ => ⟨S2x8x8x1x1024x128, .f32⟩
  | .hbm, ⟨59, _⟩ => ⟨S2x8x8192x128, .f32⟩
  | .hbm, ⟨60, _⟩ => ⟨S2x8192x1x1x1024, .f32⟩
  | .hbm, ⟨61, _⟩ => ⟨S2x8192x1024, .f32⟩
  | .hbm, ⟨62, _⟩ => ⟨S_, .f32⟩
  | .hbm, ⟨63, _⟩ => ⟨S2x8192x1024, .f32⟩
  | .hbm, ⟨64, _⟩ => ⟨S2x8192x1024, .f32⟩
  | .hbm, ⟨65, _⟩ => ⟨S2x8x256x4x8x128, .f32⟩
  | .hbm, ⟨66, _⟩ => ⟨S2x8x8x4x256x128, .f32⟩
  | .hbm, ⟨67, _⟩ => ⟨S2x8x8192x128, .f32⟩
  | .hbm, ⟨68, _⟩ => ⟨S2x8192x1x1x1024, .f32⟩
  | .hbm, ⟨69, _⟩ => ⟨S2x8192x1024, .f32⟩
  | .hbm, ⟨70, _⟩ => ⟨S2x8x256x4x8x128, .f32⟩
  | .hbm, ⟨71, _⟩ => ⟨S2x8x8x4x256x128, .f32⟩
  | .hbm, ⟨72, _⟩ => ⟨S2x8x8192x128, .f32⟩
  | .hbm, ⟨73, _⟩ => ⟨S2x8192x1x1x1024, .f32⟩
  | .hbm, ⟨74, _⟩ => ⟨S2x8192x1024, .f32⟩
  | .hbm, ⟨75, _⟩ => ⟨S2x8x256x4x8x128, .f32⟩
  | .hbm, ⟨76, _⟩ => ⟨S2x8x8x4x256x128, .f32⟩
  | .hbm, ⟨77, _⟩ => ⟨S2x8x8192x128, .f32⟩
  | .hbm, ⟨78, _⟩ => ⟨S2x8192x1x1x1024, .f32⟩
  | .hbm, ⟨79, _⟩ => ⟨S2x8192x1024, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8x64x16x8x128, .f32⟩
  | .hbm, ⟨84, _⟩ => ⟨S2x8x8x16x64x128, .f32⟩
  | .hbm, ⟨85, _⟩ => ⟨S2x8x8192x128, .f32⟩
  | .hbm, ⟨86, _⟩ => ⟨S2x8192x1x1x1024, .f32⟩
  | .hbm, ⟨87, _⟩ => ⟨S2x8192x1024, .f32⟩
  | .hbm, ⟨88, _⟩ => ⟨S2x8x64x16x8x128, .f32⟩
  | .hbm, ⟨89, _⟩ => ⟨S2x8x8x16x64x128, .f32⟩
  | .hbm, ⟨90, _⟩ => ⟨S2x8x8192x128, .f32⟩
  | .hbm, ⟨91, _⟩ => ⟨S2x8192x1x1x1024, .f32⟩
  | .hbm, ⟨92, _⟩ => ⟨S2x8192x1024, .f32⟩
  | .hbm, ⟨93, _⟩ => ⟨S2x8x64x16x8x128, .f32⟩
  | .hbm, ⟨94, _⟩ => ⟨S2x8x8x16x64x128, .f32⟩
  | .hbm, ⟨95, _⟩ => ⟨S2x8x8192x128, .f32⟩
  | .hbm, ⟨96, _⟩ => ⟨S2x72x8192x128, .f32⟩
  | .hbm, ⟨97, _⟩ => ⟨S2x72x8192x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x2x6144 : Shape := ⟨3, ![2, 2, 6144]⟩
abbrev S2x1024 : Shape := ⟨2, ![2, 1024]⟩
abbrev S1x1024x3088 : Shape := ⟨3, ![1, 1024, 3088]⟩
abbrev S1x16x512 : Shape := ⟨3, ![1, 16, 512]⟩
abbrev S1x512 : Shape := ⟨2, ![1, 512]⟩
abbrev S2x2x6x1024 : Shape := ⟨4, ![2, 2, 6, 1024]⟩
abbrev S1x2x6x1024 : Shape := ⟨4, ![1, 2, 6, 1024]⟩
abbrev S2x6x1024 : Shape := ⟨3, ![2, 6, 1024]⟩
abbrev S1024x3088 : Shape := ⟨2, ![1024, 3088]⟩
abbrev S1024x2048 : Shape := ⟨2, ![1024, 2048]⟩
abbrev S1024x1024 : Shape := ⟨2, ![1024, 1024]⟩
abbrev S1024x3072 : Shape := ⟨2, ![1024, 3072]⟩
abbrev S1024x16 : Shape := ⟨2, ![1024, 16]⟩
abbrev S1x1024 : Shape := ⟨2, ![1, 1024]⟩
abbrev S1024 : Shape := ⟨1, ![1024]⟩
abbrev S16x512 : Shape := ⟨2, ![16, 512]⟩
abbrev S512 : Shape := ⟨1, ![512]⟩
abbrev S2x8192x512 : Shape := ⟨3, ![2, 8192, 512]⟩
abbrev S1x512x1024 : Shape := ⟨3, ![1, 512, 1024]⟩
abbrev S1x6x1024 : Shape := ⟨3, ![1, 6, 1024]⟩
abbrev S1x512x512 : Shape := ⟨3, ![1, 512, 512]⟩
abbrev S512x1024 : Shape := ⟨2, ![512, 1024]⟩
abbrev S1x1x1024 : Shape := ⟨3, ![1, 1, 1024]⟩
abbrev S512x1 : Shape := ⟨2, ![512, 1]⟩
abbrev S1024x512 : Shape := ⟨2, ![1024, 512]⟩
abbrev S512x512 : Shape := ⟨2, ![512, 512]⟩
abbrev S512x16 : Shape := ⟨2, ![512, 16]⟩

abbrev nBuf : Space → Nat
  | .hbm => 28
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x1024, .f32⟩
  | .hbm, ⟨3, _⟩ => ⟨S1x1024x3088, .f32⟩
  | .hbm, ⟨4, _⟩ => ⟨S1x16x512, .f32⟩
  | .hbm, ⟨5, _⟩ => ⟨S1x512, .f32⟩
  | .hbm, ⟨6, _⟩ => ⟨S2x2x6x1024, .f32⟩
  | .hbm, ⟨7, _⟩ => ⟨S1x2x6x1024, .f32⟩
  | .hbm, ⟨8, _⟩ => ⟨S2x6x1024, .f32⟩
  | .hbm, ⟨9, _⟩ => ⟨S1024x3088, .f32⟩
  | .hbm, ⟨10, _⟩ => ⟨S1024x2048, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S1024x16, .f32⟩
  | .hbm, ⟨15, _⟩ => ⟨S1024x16, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16x512, .f32⟩
  | .hbm, ⟨20, _⟩ => ⟨S16x512, .bf16⟩
  | .hbm, ⟨21, _⟩ => ⟨S512, .f32⟩
  | .hbm, ⟨22, _⟩ => ⟨S1x512, .f32⟩
  | .hbm, ⟨23, _⟩ => ⟨S2x8192x512, .f32⟩
  | .hbm, ⟨24, _⟩ => ⟨S2x8192x512, .f32⟩
  | .hbm, ⟨25, _⟩ => ⟨S2x8192x1024, .bf16⟩
  | .hbm, ⟨26, _⟩ => ⟨S2x8192x1024, .f32⟩
  | .hbm, ⟨27, _⟩ => ⟨S2x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1024x16, .bf16⟩
  | .local _ .vmem, ⟨7, _⟩ => ⟨S16x512, .bf16⟩
  | .local _ .vmem, ⟨8, _⟩ => ⟨S1x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x512, .f32⟩
  | .local _ .vmem, ⟨18, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2x8192x1024 : Shape := ⟨3, ![2, 8192, 1024]⟩
abbrev S2x2x6144 : Shape := ⟨3, ![2, 2, 6144]⟩
abbrev S2x1024 : Shape := ⟨2, ![2, 1024]⟩
abbrev S1x1024x3088 : Shape := ⟨3, ![1, 1024, 3088]⟩
abbrev S1x16x512 : Shape := ⟨3, ![1, 16, 512]⟩
abbrev S1x512 : Shape := ⟨2, ![1, 512]⟩
abbrev S1x2x6144 : Shape := ⟨3, ![1, 2, 6144]⟩
abbrev S2x6144 : Shape := ⟨2, ![2, 6144]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x3088 : Shape := ⟨2, ![1024, 3088]⟩
abbrev S2x8192x3088 : Shape := ⟨3, ![2, 8192, 3088]⟩
abbrev S2x8192x512 : Shape := ⟨3, ![2, 8192, 512]⟩
abbrev S2x8192x16 : Shape := ⟨3, ![2, 8192, 16]⟩
abbrev S16x512 : Shape := ⟨2, ![16, 512]⟩
abbrev S512 : Shape := ⟨1, ![512]⟩
abbrev S1x1x512 : Shape := ⟨3, ![1, 1, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2x6144, .f32⟩
  | .hbm, ⟨2, _⟩ => ⟨S2x1024, .f32⟩
  | .hbm, ⟨3, _⟩ => ⟨S1x1024x3088, .f32⟩
  | .hbm, ⟨4, _⟩ => ⟨S1x16x512, .f32⟩
  | .hbm, ⟨5, _⟩ => ⟨S1x512, .f32⟩
  | .hbm, ⟨6, _⟩ => ⟨S1x2x6144, .f32⟩
  | .hbm, ⟨7, _⟩ => ⟨S2x6144, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S1x1x1024, .f32⟩
  | .hbm, ⟨30, _⟩ => ⟨S2x8192x1024, .f32⟩
  | .hbm, ⟨31, _⟩ => ⟨S2x8192x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S2x1x1024, .f32⟩
  | .hbm, ⟨39, _⟩ => ⟨S2x8192x1024, .f32⟩
  | .hbm, ⟨40, _⟩ => ⟨S2x8192x1024, .f32⟩
  | .hbm, ⟨41, _⟩ => ⟨S1024x3088, .f32⟩
  | .hbm, ⟨42, _⟩ => ⟨S2x8192x3088, .f32⟩
  | .hbm, ⟨43, _⟩ => ⟨S2x8192x512, .f32⟩
  | .hbm, ⟨44, _⟩ => ⟨S2x8192x512, .f32⟩
  | .hbm, ⟨45, _⟩ => ⟨S2x8192x1024, .f32⟩
  | .hbm, ⟨46, _⟩ => ⟨S2x8192x16, .f32⟩
  | .hbm, ⟨47, _⟩ => ⟨S2x8192x1024, .f32⟩
  | .hbm, ⟨48, _⟩ => ⟨S16x512, .f32⟩
  | .hbm, ⟨49, _⟩ => ⟨S2x8192x512, .f32⟩
  | .hbm, ⟨50, _⟩ => ⟨S512, .f32⟩
  | .hbm, ⟨51, _⟩ => ⟨S1x1x512, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S_, .f32⟩
  | .hbm, ⟨56, _⟩ => ⟨S2x8192x512, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S2x8192x512, .i1⟩
  | .hbm, ⟨61, _⟩ => ⟨S2x8192x512, .f32⟩
  | .hbm, ⟨62, _⟩ => ⟨S2x8192x512, .f32⟩
  | .hbm, ⟨63, _⟩ => ⟨S2x8192x512, .f32⟩
  | .hbm, ⟨64, _⟩ => ⟨S2x8192x512, .f32⟩
  | .hbm, ⟨65, _⟩ => ⟨S2x8192x512, .f32⟩
  | .hbm, ⟨66, _⟩ => ⟨S2x8192x512, .f32⟩
  | .hbm, ⟨67, _⟩ => ⟨S2x8192x512, .f32⟩
  | .hbm, ⟨68, _⟩ => ⟨S2x8192x512, .f32⟩
  | .hbm, ⟨69, _⟩ => ⟨S2x8192x512, .f32⟩
  | .hbm, ⟨70, _⟩ => ⟨S_, .f32⟩
  | .hbm, ⟨71, _⟩ => ⟨S2x8192x512, .f32⟩
  | .hbm, ⟨72, _⟩ => ⟨S2x8192x512, .f32⟩
  | .hbm, ⟨73, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel5.lean ====
abbrev S2x1024 : Shape := ⟨2, ![2, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x2x6144 : Shape := ⟨3, ![2, 2, 6144]⟩
abbrev S1x1024x1536 : Shape := ⟨3, ![1, 1024, 1536]⟩
abbrev S1x1x1536 : Shape := ⟨3, ![1, 1, 1536]⟩
abbrev S1x2x1536 : Shape := ⟨3, ![1, 2, 1536]⟩
abbrev S1024x1536 : Shape := ⟨2, ![1024, 1536]⟩
abbrev S2x1536 : Shape := ⟨2, ![2, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x2x6144, .f32⟩
  | .local _ .vmem, ⟨0, _⟩ => ⟨S2x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x2x1536, .f32⟩
  | .local _ .vmem, ⟨6, _⟩ => ⟨S1x2x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x2x6144 : Shape := ⟨3, ![1, 2, 6144]⟩
abbrev S2x2x6144 : Shape := ⟨3, ![2, 2, 6144]⟩

abbrev nBuf : Space → Nat
  | .hbm => 31
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024x6144, .f32⟩
  | .hbm, ⟨13, _⟩ => ⟨S1024x6144, .f32⟩
  | .hbm, ⟨14, _⟩ => ⟨S2x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S2x6144, .f32⟩
  | .hbm, ⟨19, _⟩ => ⟨S2x6144, .f32⟩
  | .hbm, ⟨20, _⟩ => ⟨S1x1024x6144, .f32⟩
  | .hbm, ⟨21, _⟩ => ⟨S1024x6144, .f32⟩
  | .hbm, ⟨22, _⟩ => ⟨S2x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S2x6144, .f32⟩
  | .hbm, ⟨27, _⟩ => ⟨S2x6144, .f32⟩
  | .hbm, ⟨28, _⟩ => ⟨S1x2x6144, .f32⟩
  | .hbm, ⟨29, _⟩ => ⟨S1x2x6144, .f32⟩
  | .hbm, ⟨30, _⟩ => ⟨S2x2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Gla.Step.lean ====
/-
  One chunk of the gated linear attention, for one head, as the kernel's body computes it from what it loads: the
  head's part of the state after the chunk, and the chunk's outputs, over the cumulative log decays of a tile.
-/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gla

open Idealize.ShloMosaic Idealize.ShloMosaic.TcCoe Idealize.SL.Sem
open Cert.KernelIdeal Cert.KernelIdeal.Gen

/-- Row `i` of chunk `c` of a tile of four chunks. -/
def rowIn (c : Fin 4) (i : Fin 64) : Fin 256 := ⟨64 * ↑c + ↑i, by omega⟩

/-- Key lane `k` of head `h`. -/
def keyLane (h : Fin 4) (k : Fin 128) : Fin 512 := ⟨128 * ↑h + ↑k, by omega⟩

/-! The rows and lanes of each chunk and head, in numbers. -/

theorem keyLane_0 (k : Fin 128) : keyLane 0 k = ⟨↑k, by omega⟩ := Fin.ext (by simp [keyLane])
theorem keyLane_1 (k : Fin 128) : keyLane 1 k = ⟨128 + ↑k, by omega⟩ := Fin.ext (by simp [keyLane])
theorem keyLane_2 (k : Fin 128) : keyLane 2 k = ⟨256 + ↑k, by omega⟩ := Fin.ext (by simp [keyLane])
theorem keyLane_3 (k : Fin 128) : keyLane 3 k = ⟨384 + ↑k, by omega⟩ := Fin.ext (by simp [keyLane])
theorem rowIn_0 (i : Fin 64) : rowIn 0 i = ⟨↑i, by omega⟩ := Fin.ext (by simp [rowIn])
theorem rowIn_0_last : rowIn 0 63 = 63 := rfl
theorem rowIn_1 (i : Fin 64) : rowIn 1 i = ⟨64 + ↑i, by omega⟩ := Fin.ext (by simp [rowIn])
theorem rowIn_1_last : rowIn 1 63 = 127 := rfl
theorem rowIn_2 (i : Fin 64) : rowIn 2 i = ⟨128 + ↑i, by omega⟩ := Fin.ext (by simp [rowIn])
theorem rowIn_2_last : rowIn 2 63 = 191 := rfl
theorem rowIn_3 (i : Fin 64) : rowIn 3 i = ⟨192 + ↑i, by omega⟩ := Fin.ext (by simp [rowIn])
theorem rowIn_3_last : rowIn 3 63 = 255 := rfl

/-- A head's state after a chunk: the state before it, decayed over the whole chunk, and the chunk's values times its
    keys, each key decayed from its row to the chunk's end. -/
def stateStep (B : FVec Ideal S256x512 .f32) (c h : Fin 4) (K : Vec Ideal S1x64x512 .f32)
    (V : Vec Ideal S1x64x256 .bf16) (x : Vec Ideal S1x256x128 .f32) : FVec Ideal S1x256x128 .f32 := fun j =>
  x (ix3 0 (j 1) (j 2)) * Ideal.exp (B (ix2 (rowIn c 63) (keyLane h (j 2))))
    + ∑ i : Fin 64, V (ix3 0 i (j 1))
        * (K (ix3 0 i (keyLane h (j 2)))
            * Ideal.exp (B (ix2 (rowIn c 63) (keyLane h (j 2))) - B (ix2 (rowIn c i) (keyLane h (j 2)))))

/-- A head's score in a chunk: query `i` against key `j`, each carrying its decay. -/
def headAtt (B : FVec Ideal S256x512 .f32) (c h : Fin 4) (Q K : Vec Ideal S1x64x512 .f32) (i j : Fin 64) : EReal :=
  ∑ k : Fin 128, Q (ix3 0 i (keyLane h k)) * Ideal.ofBits .f32 0x3DB504F3#32 * Ideal.exp (B (ix2 (rowIn c i) (keyLane h k)))
    * (K (ix3 0 j (keyLane h k)) * Ideal.exp (0 - B (ix2 (rowIn c j) (keyLane h k))))

/-- A head's attention output in a chunk: the scores at the keys not after the query times the values, and the decayed
    query times the state. -/
def headOut (B : FVec Ideal S256x512 .f32) (c h : Fin 4) (Q K : Vec Ideal S1x64x512 .f32)
    (V : Vec Ideal S1x64x256 .bf16) (x : Vec Ideal S1x256x128 .f32) (i : Fin 64) (w : Fin 256) : EReal :=
  (∑ j : Fin 64, Scalar.select (IntOp.cmpi .sge (BitVec.ofNat 32 ↑i) (BitVec.ofNat 32 ↑j))
      (headAtt B c h Q K i j * V (ix3 0 j w)) 0)
    + ∑ k : Fin 128, Q (ix3 0 i (keyLane h k)) * Ideal.ofBits .f32 0x3DB504F3#32 * Ideal.exp (B (ix2 (rowIn c i) (keyLane h k)))
        * x (ix3 0 w k)

/-- A chunk's stored outputs of one head: the attention output divided by its root mean square, times the gain and
    times the gate `r · logistic r`. -/
def outStep (B : FVec Ideal S256x512 .f32) (c h : Fin 4) (Q K : Vec Ideal S1x64x512 .f32)
    (V : Vec Ideal S1x64x256 .bf16) (R : Vec Ideal S1x64x256 .f32) (g : Vec Ideal S1x256 .f32)
    (x : Vec Ideal S1x256x128 .f32) : FVec Ideal S1x64x256 .bf16 := fun j =>
  headOut B c h Q K V x (j 1) (j 2)
      * Ideal.rsqrt (Ideal.div (∑ w : Fin 256, headOut B c h Q K V x (j 1) w * headOut B c h Q K V x (j 1) w)
          (Ideal.ofBits .f32 0x43800000#32) + Ideal.ofBits .f32 0x358637BD#32)
      * g (ix2 0 (j 2)) * (R (ix3 0 (j 1) (j 2)) * Ideal.logistic (R (ix3 0 (j 1) (j 2))))

end Cert.KernelIdeal.Gla

end

end
-- ==== Proof.Gla.Chunk0.lean ====
/-
  What the kernel stores for chunk 0 of a tile, head by head: each stored piece is `stateStep` or `outStep` there.
-/
module

public import proofs.«01_k».proof.Proof.Gla.Step

@[expose] public section

set_option maxRecDepth 16384

noncomputable section

namespace Cert.KernelIdeal.Gla

open Idealize.ShloMosaic Idealize.ShloMosaic.TcCoe Idealize.SL.Sem
open Cert.KernelIdeal Cert.KernelIdeal.Gen

/-- The state's piece of head 0 after chunk 0. -/
theorem state_0_0 (la : Vec Ideal S1x256x512 .f32) (tri : Vec Ideal S256x256 .bf16) (K0 : Vec Ideal S1x64x512 .f32)
    (V0 : Vec Ideal S1x64x256 .bf16) (x : Vec Ideal S1x256x128 .f32) :
    k0_pay16 (k0_pay7 la tri) (k0_pay8 K0) (k0_pay11 la tri) V0 x
      = stateStep (k0_pay3 la tri) 0 0 K0 V0 x := by
  funext j
  idx_vars j
  pointwise [k0_pay6, k0_pay7, k0_pay8, k0_pay11, k0_pay12, k0_pay13, k0_pay14, k0_pay15, k0_pay16, stateStep, keyLane_0, rowIn_0_last, rowIn_0]

/-- The state's piece of head 1 after chunk 0. -/
theorem state_0_1 (la : Vec Ideal S1x256x512 .f32) (tri : Vec Ideal S256x256 .bf16) (K0 : Vec Ideal S1x64x512 .f32)
    (V0 : Vec Ideal S1x64x256 .bf16) (x : Vec Ideal S1x256x128 .f32) :
    k0_pay23 (k0_pay12 (k0_pay8 K0) (k0_pay11 la tri)) (k0_pay13 (k0_pay7 la tri)) V0 x
      = stateStep (k0_pay3 la tri) 0 1 K0 V0 x := by
  funext j
  idx_vars j
  pointwise [k0_pay6, k0_pay7, k0_pay8, k0_pay11, k0_pay12, k0_pay13, k0_pay20, k0_pay21, k0_pay23, stateStep, keyLane_1, rowIn_0_last, rowIn_0]

/-- The state's piece of head 2 after chunk 0. -/
theorem state_0_2 (la : Vec Ideal S1x256x512 .f32) (tri : Vec Ideal S256x256 .bf16) (K0 : Vec Ideal S1x64x512 .f32)
    (V0 : Vec Ideal S1x64x256 .bf16) (x : Vec Ideal S1x256x128 .f32) :
    k0_pay31 (k0_pay30 (k0_pay12 (k0_pay8 K0) (k0_pay11 la tri)) (k0_pay13 (k0_pay7 la tri)) V0 x)
      = stateStep (k0_pay3 la tri) 0 2 K0 V0 x := by
  funext j
  idx_vars j
  pointwise [k0_pay6, k0_pay7, k0_pay8, k0_pay11, k0_pay12, k0_pay13, k0_pay27, k0_pay28, k0_pay30, k0_pay31, stateStep, keyLane_2, rowIn_0_last, rowIn_0]

/-- The state's piece of head 3 after chunk 0. -/
theorem state_0_3 (la : Vec Ideal S1x256x512 .f32) (tri : Vec Ideal S256x256 .bf16) (K0 : Vec Ideal S1x64x512 .f32)
    (V0 : Vec Ideal S1x64x256 .bf16) (x : Vec Ideal S1x256x128 .f32) :
    k0_pay37 (k0_pay12 (k0_pay8 K0) (k0_pay11 la tri)) (k0_pay33 V0) (k0_pay34 x) (k0_pay36 (k0_pay13 (k0_pay7 la tri)))
      = stateStep (k0_pay3 la tri) 0 3 K0 V0 x := by
  funext j
  idx_vars j
  pointwise [k0_pay6, k0_pay7, k0_pay8, k0_pay11, k0_pay12, k0_pay13, k0_pay33, k0_pay34, k0_pay36, k0_pay37, stateStep, keyLane_3, rowIn_0_last, rowIn_0]

/-- The output's piece of head 0 in chunk 0. -/
theorem out_0_0 (la : Vec Ideal S1x256x512 .f32) (tri : Vec Ideal S256x256 .bf16) (g : Vec Ideal S1x256 .f32)
    (Q0 K0 : Vec Ideal S1x64x512 .f32) (V0 : Vec Ideal S1x64x256 .bf16) (R0 : Vec Ideal S1x64x256 .f32)
    (x : Vec Ideal S1x256x128 .f32) :
    k0_pay19 (k0_pay5 g) (k0_pay17 R0) (k0_pay18 k0_pay4 (k0_pay9 la tri Q0) (k0_pay10 la tri K0) V0 x)
      = outStep (k0_pay3 la tri) 0 0 Q0 K0 V0 R0 g x := by
  funext j
  idx_vars j
  pointwise [k0_pay4, k0_pay5, k0_pay6, k0_pay8, k0_pay9, k0_pay10, k0_pay14, k0_pay15, k0_pay17, k0_pay18, k0_pay19, outStep, headOut, headAtt, keyLane_0, rowIn_0]

/-- The output's piece of head 1 in chunk 0. -/
theorem out_0_1 (la : Vec Ideal S1x256x512 .f32) (tri : Vec Ideal S256x256 .bf16) (g : Vec Ideal S1x256 .f32)
    (Q0 K0 : Vec Ideal S1x64x512 .f32) (V0 : Vec Ideal S1x64x256 .bf16) (R0 : Vec Ideal S1x64x256 .f32)
    (x : Vec Ideal S1x256x128 .f32) :
    k0_pay26 (k0_pay5 g) (k0_pay22 k0_pay4 (k0_pay9 la tri Q0) (k0_pay10 la tri K0) V0 x) (k0_pay24 R0) (k0_pay25 k0_pay4 (k0_pay9 la tri Q0) (k0_pay10 la tri K0) V0 x)
      = outStep (k0_pay3 la tri) 0 1 Q0 K0 V0 R0 g x := by
  funext j
  idx_vars j
  pointwise [k0_pay4, k0_pay5, k0_pay6, k0_pay8, k0_pay9, k0_pay10, k0_pay20, k0_pay21, k0_pay22, k0_pay24, k0_pay25, k0_pay26, outStep, headOut, headAtt, keyLane_1, rowIn_0]

/-- The output's piece of head 2 in chunk 0. -/
theorem out_0_2 (la : Vec Ideal S1x256x512 .f32) (tri : Vec Ideal S256x256 .bf16) (g : Vec Ideal S1x256 .f32)
    (Q0 K0 : Vec Ideal S1x64x512 .f32) (V0 : Vec Ideal S1x64x256 .bf16) (R0 : Vec Ideal S1x64x256 .f32)
    (x : Vec Ideal S1x256x128 .f32) :
    k0_pay32 (k0_pay5 g) (k0_pay29 k0_pay4 (k0_pay9 la tri Q0) (k0_pay10 la tri K0) V0 x) R0
      = outStep (k0_pay3 la tri) 0 2 Q0 K0 V0 R0 g x := by
  funext j
  idx_vars j
  pointwise [k0_pay4, k0_pay5, k0_pay6, k0_pay8, k0_pay9, k0_pay10, k0_pay27, k0_pay28, k0_pay29, k0_pay32, outStep, headOut, headAtt, keyLane_2, rowIn_0]

/-- The output's piece of head 3 in chunk 0. -/
theorem out_0_3 (la : Vec Ideal S1x256x512 .f32) (tri : Vec Ideal S256x256 .bf16) (g : Vec Ideal S1x256 .f32)
    (Q0 K0 : Vec Ideal S1x64x512 .f32) (V0 : Vec Ideal S1x64x256 .bf16) (R0 : Vec Ideal S1x64x256 .f32)
    (x : Vec Ideal S1x256x128 .f32) :
    k0_pay38 (k0_pay5 g) (k0_pay35 k0_pay4 (k0_pay9 la tri Q0) (k0_pay10 la tri K0) V0 x) R0
      = outStep (k0_pay3 la tri) 0 3 Q0 K0 V0 R0 g x := by
  funext j
  idx_vars j
  pointwise [k0_pay4, k0_pay5, k0_pay6, k0_pay8, k0_pay9, k0_pay10, k0_pay33, k0_pay34, k0_pay35, k0_pay38, outStep, headOut, headAtt, keyLane_3, rowIn_0]

end Cert.KernelIdeal.Gla

end

end
-- ==== Proof.Gla.Chunk1.lean ====
/-
  What the kernel stores for chunk 1 of a tile, head by head: each stored piece is `stateStep` or `outStep` there.
-/
module

public import proofs.«01_k».proof.Proof.Gla.Step

@[expose] public section

set_option maxRecDepth 16384

noncomputable section

namespace Cert.KernelIdeal.Gla

open Idealize.ShloMosaic Idealize.ShloMosaic.TcCoe Idealize.SL.Sem
open Cert.KernelIdeal Cert.KernelIdeal.Gen

/-- The state's piece of head 0 after chunk 1. -/
theorem state_1_0 (la : Vec Ideal S1x256x512 .f32) (tri : Vec Ideal S256x256 .bf16) (K1 : Vec Ideal S1x64x512 .f32)
    (V1 : Vec Ideal S1x64x256 .bf16) (x : Vec Ideal S1x256x128 .f32) :
    k0_pay50 (k0_pay39 (k0_pay3 la tri)) (k0_pay40 (k0_pay3 la tri)) (k0_pay41 K1) V1 x
      = stateStep (k0_pay3 la tri) 1 0 K1 V1 x := by
  funext j
  idx_vars j
  pointwise [k0_pay39, k0_pay40, k0_pay41, k0_pay45, k0_pay46, k0_pay47, k0_pay48, k0_pay50, stateStep, keyLane_0, rowIn_1_last, rowIn_1]

/-- The state's piece of head 1 after chunk 1. -/
theorem state_1_1 (la : Vec Ideal S1x256x512 .f32) (tri : Vec Ideal S256x256 .bf16) (K1 : Vec Ideal S1x64x512 .f32)
    (V1 : Vec Ideal S1x64x256 .bf16) (x : Vec Ideal S1x256x128 .f32) :
    k0_pay58 (k0_pay57 (k0_pay45 (k0_pay39 (k0_pay3 la tri)) (k0_pay40 (k0_pay3 la tri)) (k0_pay41 K1)) (k0_pay46 (k0_pay40 (k0_pay3 la tri))) V1 x)
      = stateStep (k0_pay3 la tri) 1 1 K1 V1 x := by
  funext j
  idx_vars j
  pointwise [k0_pay39, k0_pay40, k0_pay41, k0_pay45, k0_pay46, k0_pay54, k0_pay55, k0_pay57, k0_pay58, stateStep, keyLane_1, rowIn_1_last, rowIn_1]

/-- The state's piece of head 2 after chunk 1. -/
theorem state_1_2 (la : Vec Ideal S1x256x512 .f32) (tri : Vec Ideal S256x256 .bf16) (K1 : Vec Ideal S1x64x512 .f32)
    (V1 : Vec Ideal S1x64x256 .bf16) (x : Vec Ideal S1x256x128 .f32) :
    k0_pay64 (k0_pay45 (k0_pay39 (k0_pay3 la tri)) (k0_pay40 (k0_pay3 la tri)) (k0_pay41 K1)) (k0_pay60 V1) (k0_pay61 x) (k0_pay63 (k0_pay46 (k0_pay40 (k0_pay3 la tri))))
      = stateStep (k0_pay3 la tri) 1 2 K1 V1 x := by
  funext j
  idx_vars j
  pointwise [k0_pay39, k0_pay40, k0_pay41, k0_pay45, k0_pay46, k0_pay60, k0_pay61, k0_pay63, k0_pay64, stateStep, keyLane_2, rowIn_1_last, rowIn_1]

/-- The state's piece of head 3 after chunk 1. -/
theorem state_1_3 (la : Vec Ideal S1x256x512 .f32) (tri : Vec Ideal S256x256 .bf16) (K1 : Vec Ideal S1x64x512 .f32)
    (V1 : Vec Ideal S1x64x256 .bf16) (x : Vec Ideal S1x256x128 .f32) :
    k0_pay69 (k0_pay45 (k0_pay39 (k0_pay3 la tri)) (k0_pay40 (k0_pay3 la tri)) (k0_pay41 K1)) (k0_pay46 (k0_pay40 (k0_pay3 la tri))) (k0_pay66 V1) (k0_pay68 x)
      = stateStep (k0_pay3 la tri) 1 3 K1 V1 x := by
  funext j
  idx_vars j
  pointwise [k0_pay39, k0_pay40, k0_pay41, k0_pay45, k0_pay46, k0_pay66, k0_pay68, k0_pay69, stateStep, keyLane_3, rowIn_1_last, rowIn_1]

/-- The output's piece of head 0 in chunk 1. -/
theorem out_1_0 (la : Vec Ideal S1x256x512 .f32) (tri : Vec Ideal S256x256 .bf16) (g : Vec Ideal S1x256 .f32)
    (Q1 K1 : Vec Ideal S1x64x512 .f32) (V1 : Vec Ideal S1x64x256 .bf16) (R1 : Vec Ideal S1x64x256 .f32)
    (x : Vec Ideal S1x256x128 .f32) :
    k0_pay53 (k0_pay5 g) (k0_pay49 k0_pay4 (k0_pay39 (k0_pay3 la tri)) (k0_pay41 K1) (k0_pay42 (k0_pay3 la tri) Q1) V1 x) (k0_pay51 R1) (k0_pay52 k0_pay4 (k0_pay39 (k0_pay3 la tri)) (k0_pay41 K1) (k0_pay42 (k0_pay3 la tri) Q1) V1 x)
      = outStep (k0_pay3 la tri) 1 0 Q1 K1 V1 R1 g x := by
  funext j
  idx_vars j
  pointwise [k0_pay4, k0_pay5, k0_pay39, k0_pay41, k0_pay42, k0_pay43, k0_pay44, k0_pay47, k0_pay48, k0_pay49, k0_pay51, k0_pay52, k0_pay53, outStep, headOut, headAtt, keyLane_0, rowIn_1]

/-- The output's piece of head 1 in chunk 1. -/
theorem out_1_1 (la : Vec Ideal S1x256x512 .f32) (tri : Vec Ideal S256x256 .bf16) (g : Vec Ideal S1x256 .f32)
    (Q1 K1 : Vec Ideal S1x64x512 .f32) (V1 : Vec Ideal S1x64x256 .bf16) (R1 : Vec Ideal S1x64x256 .f32)
    (x : Vec Ideal S1x256x128 .f32) :
    k0_pay59 (k0_pay5 g) (k0_pay56 k0_pay4 (k0_pay43 (k0_pay42 (k0_pay3 la tri) Q1)) (k0_pay44 (k0_pay39 (k0_pay3 la tri)) (k0_pay41 K1)) V1 x) R1
      = outStep (k0_pay3 la tri) 1 1 Q1 K1 V1 R1 g x := by
  funext j
  idx_vars j
  pointwise [k0_pay4, k0_pay5, k0_pay39, k0_pay41, k0_pay42, k0_pay43, k0_pay44, k0_pay54, k0_pay55, k0_pay56, k0_pay59, outStep, headOut, headAtt, keyLane_1, rowIn_1]

/-- The output's piece of head 2 in chunk 1. -/
theorem out_1_2 (la : Vec Ideal S1x256x512 .f32) (tri : Vec Ideal S256x256 .bf16) (g : Vec Ideal S1x256 .f32)
    (Q1 K1 : Vec Ideal S1x64x512 .f32) (V1 : Vec Ideal S1x64x256 .bf16) (R1 : Vec Ideal S1x64x256 .f32)
    (x : Vec Ideal S1x256x128 .f32) :
    k0_pay65 (k0_pay5 g) (k0_pay62 k0_pay4 (k0_pay43 (k0_pay42 (k0_pay3 la tri) Q1)) (k0_pay44 (k0_pay39 (k0_pay3 la tri)) (k0_pay41 K1)) V1 x) R1
      = outStep (k0_pay3 la tri) 1 2 Q1 K1 V1 R1 g x := by
  funext j
  idx_vars j
  pointwise [k0_pay4, k0_pay5, k0_pay39, k0_pay41, k0_pay42, k0_pay43, k0_pay44, k0_pay60, k0_pay61, k0_pay62, k0_pay65, outStep, headOut, headAtt, keyLane_2, rowIn_1]

/-- The output's piece of head 3 in chunk 1. -/
theorem out_1_3 (la : Vec Ideal S1x256x512 .f32) (tri : Vec Ideal S256x256 .bf16) (g : Vec Ideal S1x256 .f32)
    (Q1 K1 : Vec Ideal S1x64x512 .f32) (V1 : Vec Ideal S1x64x256 .bf16) (R1 : Vec Ideal S1x64x256 .f32)
    (x : Vec Ideal S1x256x128 .f32) :
    k0_pay70 (k0_pay5 g) (k0_pay43 (k0_pay42 (k0_pay3 la tri) Q1)) (k0_pay66 V1) (k0_pay67 k0_pay4 (k0_pay43 (k0_pay42 (k0_pay3 la tri) Q1)) (k0_pay44 (k0_pay39 (k0_pay3 la tri)) (k0_pay41 K1))) (k0_pay68 x) R1
      = outStep (k0_pay3 la tri) 1 3 Q1 K1 V1 R1 g x := by
  funext j
  idx_vars j
  pointwise [k0_pay4, k0_pay5, k0_pay39, k0_pay41, k0_pay42, k0_pay43, k0_pay44, k0_pay66, k0_pay67, k0_pay68, k0_pay70, outStep, headOut, headAtt, keyLane_3, rowIn_1]

end Cert.KernelIdeal.Gla

end

end
-- ==== Proof.Gla.Chunk2.lean ====
/-
  What the kernel stores for chunk 2 of a tile, head by head: each stored piece is `stateStep` or `outStep` there.
-/
module

public import proofs.«01_k».proof.Proof.Gla.Step

@[expose] public section

set_option maxRecDepth 16384

noncomputable section

namespace Cert.KernelIdeal.Gla

open Idealize.ShloMosaic Idealize.ShloMosaic.TcCoe Idealize.SL.Sem
open Cert.KernelIdeal Cert.KernelIdeal.Gen

/-- The state's piece of head 0 after chunk 2. -/
theorem state_2_0 (la : Vec Ideal S1x256x512 .f32) (tri : Vec Ideal S256x256 .bf16) (K2 : Vec Ideal S1x64x512 .f32)
    (V2 : Vec Ideal S1x64x256 .bf16) (x : Vec Ideal S1x256x128 .f32) :
    k0_pay82 (k0_pay81 (k0_pay71 (k0_pay3 la tri)) (k0_pay72 (k0_pay3 la tri)) (k0_pay73 K2) V2 x)
      = stateStep (k0_pay3 la tri) 2 0 K2 V2 x := by
  funext j
  idx_vars j
  pointwise [k0_pay71, k0_pay72, k0_pay73, k0_pay76, k0_pay77, k0_pay78, k0_pay79, k0_pay81, k0_pay82, stateStep, keyLane_0, rowIn_2_last, rowIn_2]

/-- The state's piece of head 1 after chunk 2. -/
theorem state_2_1 (la : Vec Ideal S1x256x512 .f32) (tri : Vec Ideal S256x256 .bf16) (K2 : Vec Ideal S1x64x512 .f32)
    (V2 : Vec Ideal S1x64x256 .bf16) (x : Vec Ideal S1x256x128 .f32) :
    k0_pay88 (k0_pay76 (k0_pay71 (k0_pay3 la tri)) (k0_pay72 (k0_pay3 la tri)) (k0_pay73 K2)) (k0_pay84 V2) (k0_pay85 x) (k0_pay87 (k0_pay77 (k0_pay72 (k0_pay3 la tri))))
      = stateStep (k0_pay3 la tri) 2 1 K2 V2 x := by
  funext j
  idx_vars j
  pointwise [k0_pay71, k0_pay72, k0_pay73, k0_pay76, k0_pay77, k0_pay84, k0_pay85, k0_pay87, k0_pay88, stateStep, keyLane_1, rowIn_2_last, rowIn_2]

/-- The state's piece of head 2 after chunk 2. -/
theorem state_2_2 (la : Vec Ideal S1x256x512 .f32) (tri : Vec Ideal S256x256 .bf16) (K2 : Vec Ideal S1x64x512 .f32)
    (V2 : Vec Ideal S1x64x256 .bf16) (x : Vec Ideal S1x256x128 .f32) :
    k0_pay93 (k0_pay76 (k0_pay71 (k0_pay3 la tri)) (k0_pay72 (k0_pay3 la tri)) (k0_pay73 K2)) (k0_pay77 (k0_pay72 (k0_pay3 la tri))) (k0_pay90 V2) (k0_pay92 x)
      = stateStep (k0_pay3 la tri) 2 2 K2 V2 x := by
  funext j
  idx_vars j
  pointwise [k0_pay71, k0_pay72, k0_pay73, k0_pay76, k0_pay77, k0_pay90, k0_pay92, k0_pay93, stateStep, keyLane_2, rowIn_2_last, rowIn_2]

/-- The state's piece of head 3 after chunk 2. -/
theorem state_2_3 (la : Vec Ideal S1x256x512 .f32) (tri : Vec Ideal S256x256 .bf16) (K2 : Vec Ideal S1x64x512 .f32)
    (V2 : Vec Ideal S1x64x256 .bf16) (x : Vec Ideal S1x256x128 .f32) :
    k0_pay99 (k0_pay76 (k0_pay71 (k0_pay3 la tri)) (k0_pay72 (k0_pay3 la tri)) (k0_pay73 K2)) (k0_pay77 (k0_pay72 (k0_pay3 la tri))) (k0_pay95 V2) x
      = stateStep (k0_pay3 la tri) 2 3 K2 V2 x := by
  funext j
  idx_vars j
  pointwise [k0_pay71, k0_pay72, k0_pay73, k0_pay76, k0_pay77, k0_pay95, k0_pay98, k0_pay99, stateStep, keyLane_3, rowIn_2_last, rowIn_2]

/-- The output's piece of head 0 in chunk 2. -/
theorem out_2_0 (la : Vec Ideal S1x256x512 .f32) (tri : Vec Ideal S256x256 .bf16) (g : Vec Ideal S1x256 .f32)
    (Q2 K2 : Vec Ideal S1x64x512 .f32) (V2 : Vec Ideal S1x64x256 .bf16) (R2 : Vec Ideal S1x64x256 .f32)
    (x : Vec Ideal S1x256x128 .f32) :
    k0_pay83 (k0_pay5 g) (k0_pay80 k0_pay4 (k0_pay71 (k0_pay3 la tri)) (k0_pay73 K2) Q2 V2 x) R2
      = outStep (k0_pay3 la tri) 2 0 Q2 K2 V2 R2 g x := by
  funext j
  idx_vars j
  pointwise [k0_pay4, k0_pay5, k0_pay71, k0_pay73, k0_pay74, k0_pay75, k0_pay78, k0_pay79, k0_pay80, k0_pay83, outStep, headOut, headAtt, keyLane_0, rowIn_2]

/-- The output's piece of head 1 in chunk 2. -/
theorem out_2_1 (la : Vec Ideal S1x256x512 .f32) (tri : Vec Ideal S256x256 .bf16) (g : Vec Ideal S1x256 .f32)
    (Q2 K2 : Vec Ideal S1x64x512 .f32) (V2 : Vec Ideal S1x64x256 .bf16) (R2 : Vec Ideal S1x64x256 .f32)
    (x : Vec Ideal S1x256x128 .f32) :
    k0_pay89 (k0_pay5 g) (k0_pay86 k0_pay4 (k0_pay74 (k0_pay71 (k0_pay3 la tri)) Q2) (k0_pay75 (k0_pay71 (k0_pay3 la tri)) (k0_pay73 K2)) V2 x) R2
      = outStep (k0_pay3 la tri) 2 1 Q2 K2 V2 R2 g x := by
  funext j
  idx_vars j
  pointwise [k0_pay4, k0_pay5, k0_pay71, k0_pay73, k0_pay74, k0_pay75, k0_pay84, k0_pay85, k0_pay86, k0_pay89, outStep, headOut, headAtt, keyLane_1, rowIn_2]

/-- The output's piece of head 2 in chunk 2. -/
theorem out_2_2 (la : Vec Ideal S1x256x512 .f32) (tri : Vec Ideal S256x256 .bf16) (g : Vec Ideal S1x256 .f32)
    (Q2 K2 : Vec Ideal S1x64x512 .f32) (V2 : Vec Ideal S1x64x256 .bf16) (R2 : Vec Ideal S1x64x256 .f32)
    (x : Vec Ideal S1x256x128 .f32) :
    k0_pay94 (k0_pay5 g) (k0_pay74 (k0_pay71 (k0_pay3 la tri)) Q2) (k0_pay90 V2) (k0_pay91 k0_pay4 (k0_pay74 (k0_pay71 (k0_pay3 la tri)) Q2) (k0_pay75 (k0_pay71 (k0_pay3 la tri)) (k0_pay73 K2))) (k0_pay92 x) R2
      = outStep (k0_pay3 la tri) 2 2 Q2 K2 V2 R2 g x := by
  funext j
  idx_vars j
  pointwise [k0_pay4, k0_pay5, k0_pay71, k0_pay73, k0_pay74, k0_pay75, k0_pay90, k0_pay91, k0_pay92, k0_pay94, outStep, headOut, headAtt, keyLane_2, rowIn_2]

/-- The output's piece of head 3 in chunk 2. -/
theorem out_2_3 (la : Vec Ideal S1x256x512 .f32) (tri : Vec Ideal S256x256 .bf16) (g : Vec Ideal S1x256 .f32)
    (Q2 K2 : Vec Ideal S1x64x512 .f32) (V2 : Vec Ideal S1x64x256 .bf16) (R2 : Vec Ideal S1x64x256 .f32)
    (x : Vec Ideal S1x256x128 .f32) :
    k0_pay101 (k0_pay100 k0_pay4 (k0_pay5 g) (k0_pay74 (k0_pay71 (k0_pay3 la tri)) Q2) (k0_pay95 V2) (k0_pay96 (k0_pay74 (k0_pay71 (k0_pay3 la tri)) Q2)) (k0_pay97 (k0_pay75 (k0_pay71 (k0_pay3 la tri)) (k0_pay73 K2))) x R2)
      = outStep (k0_pay3 la tri) 2 3 Q2 K2 V2 R2 g x := by
  funext j
  idx_vars j
  pointwise [k0_pay4, k0_pay5, k0_pay71, k0_pay73, k0_pay74, k0_pay75, k0_pay95, k0_pay96, k0_pay97, k0_pay98, k0_pay100, k0_pay101, outStep, headOut, headAtt, keyLane_3, rowIn_2]

end Cert.KernelIdeal.Gla

end

end
-- ==== Proof.Gla.Chunk3.lean ====
/-
  What the kernel stores for chunk 3 of a tile, head by head: each stored piece is `stateStep` or `outStep` there.
-/
module

public import proofs.«01_k».proof.Proof.Gla.Step

@[expose] public section

set_option maxRecDepth 16384

noncomputable section

namespace Cert.KernelIdeal.Gla

open Idealize.ShloMosaic Idealize.ShloMosaic.TcCoe Idealize.SL.Sem
open Cert.KernelIdeal Cert.KernelIdeal.Gen

/-- The state's piece of head 0 after chunk 3. -/
theorem state_3_0 (la : Vec Ideal S1x256x512 .f32) (tri : Vec Ideal S256x256 .bf16) (K3 : Vec Ideal S1x64x512 .f32)
    (V3 : Vec Ideal S1x64x256 .bf16) (x : Vec Ideal S1x256x128 .f32) :
    k0_pay113 (k0_pay107 (k0_pay3 la tri) K3) (k0_pay109 V3) (k0_pay110 x) (k0_pay112 (k0_pay3 la tri))
      = stateStep (k0_pay3 la tri) 3 0 K3 V3 x := by
  funext j
  idx_vars j
  pointwise [k0_pay102, k0_pay103, k0_pay104, k0_pay107, k0_pay108, k0_pay109, k0_pay110, k0_pay112, k0_pay113, stateStep, keyLane_0, rowIn_3_last, rowIn_3]

/-- The state's piece of head 1 after chunk 3. -/
theorem state_3_1 (la : Vec Ideal S1x256x512 .f32) (tri : Vec Ideal S256x256 .bf16) (K3 : Vec Ideal S1x64x512 .f32)
    (V3 : Vec Ideal S1x64x256 .bf16) (x : Vec Ideal S1x256x128 .f32) :
    k0_pay118 (k0_pay107 (k0_pay3 la tri) K3) (k0_pay108 (k0_pay3 la tri)) (k0_pay115 V3) (k0_pay117 x)
      = stateStep (k0_pay3 la tri) 3 1 K3 V3 x := by
  funext j
  idx_vars j
  pointwise [k0_pay102, k0_pay103, k0_pay104, k0_pay107, k0_pay108, k0_pay115, k0_pay117, k0_pay118, stateStep, keyLane_1, rowIn_3_last, rowIn_3]

/-- The state's piece of head 2 after chunk 3. -/
theorem state_3_2 (la : Vec Ideal S1x256x512 .f32) (tri : Vec Ideal S256x256 .bf16) (K3 : Vec Ideal S1x64x512 .f32)
    (V3 : Vec Ideal S1x64x256 .bf16) (x : Vec Ideal S1x256x128 .f32) :
    k0_pay124 (k0_pay107 (k0_pay3 la tri) K3) (k0_pay108 (k0_pay3 la tri)) (k0_pay120 V3) x
      = stateStep (k0_pay3 la tri) 3 2 K3 V3 x := by
  funext j
  idx_vars j
  pointwise [k0_pay102, k0_pay103, k0_pay104, k0_pay107, k0_pay108, k0_pay120, k0_pay123, k0_pay124, stateStep, keyLane_2, rowIn_3_last, rowIn_3]

/-- The state's piece of head 3 after chunk 3. -/
theorem state_3_3 (la : Vec Ideal S1x256x512 .f32) (tri : Vec Ideal S256x256 .bf16) (K3 : Vec Ideal S1x64x512 .f32)
    (V3 : Vec Ideal S1x64x256 .bf16) (x : Vec Ideal S1x256x128 .f32) :
    k0_pay129 (k0_pay107 (k0_pay3 la tri) K3) (k0_pay108 (k0_pay3 la tri)) V3 x
      = stateStep (k0_pay3 la tri) 3 3 K3 V3 x := by
  funext j
  idx_vars j
  pointwise [k0_pay102, k0_pay103, k0_pay104, k0_pay107, k0_pay108, k0_pay127, k0_pay128, k0_pay129, stateStep, keyLane_3, rowIn_3_last, rowIn_3]

/-- The output's piece of head 0 in chunk 3. -/
theorem out_3_0 (la : Vec Ideal S1x256x512 .f32) (tri : Vec Ideal S256x256 .bf16) (g : Vec Ideal S1x256 .f32)
    (Q3 K3 : Vec Ideal S1x64x512 .f32) (V3 : Vec Ideal S1x64x256 .bf16) (R3 : Vec Ideal S1x64x256 .f32)
    (x : Vec Ideal S1x256x128 .f32) :
    k0_pay114 (k0_pay5 g) (k0_pay111 (k0_pay3 la tri) k0_pay4 K3 Q3 V3 x) R3
      = outStep (k0_pay3 la tri) 3 0 Q3 K3 V3 R3 g x := by
  funext j
  idx_vars j
  pointwise [k0_pay4, k0_pay5, k0_pay102, k0_pay104, k0_pay105, k0_pay106, k0_pay109, k0_pay110, k0_pay111, k0_pay114, outStep, headOut, headAtt, keyLane_0, rowIn_3]

/-- The output's piece of head 1 in chunk 3. -/
theorem out_3_1 (la : Vec Ideal S1x256x512 .f32) (tri : Vec Ideal S256x256 .bf16) (g : Vec Ideal S1x256 .f32)
    (Q3 K3 : Vec Ideal S1x64x512 .f32) (V3 : Vec Ideal S1x64x256 .bf16) (R3 : Vec Ideal S1x64x256 .f32)
    (x : Vec Ideal S1x256x128 .f32) :
    k0_pay119 (k0_pay5 g) (k0_pay105 (k0_pay3 la tri) Q3) (k0_pay115 V3) (k0_pay116 k0_pay4 (k0_pay105 (k0_pay3 la tri) Q3) (k0_pay106 (k0_pay3 la tri) K3)) (k0_pay117 x) R3
      = outStep (k0_pay3 la tri) 3 1 Q3 K3 V3 R3 g x := by
  funext j
  idx_vars j
  pointwise [k0_pay4, k0_pay5, k0_pay102, k0_pay104, k0_pay105, k0_pay106, k0_pay115, k0_pay116, k0_pay117, k0_pay119, outStep, headOut, headAtt, keyLane_1, rowIn_3]

/-- The output's piece of head 2 in chunk 3. -/
theorem out_3_2 (la : Vec Ideal S1x256x512 .f32) (tri : Vec Ideal S256x256 .bf16) (g : Vec Ideal S1x256 .f32)
    (Q3 K3 : Vec Ideal S1x64x512 .f32) (V3 : Vec Ideal S1x64x256 .bf16) (R3 : Vec Ideal S1x64x256 .f32)
    (x : Vec Ideal S1x256x128 .f32) :
    k0_pay126 (k0_pay125 k0_pay4 (k0_pay5 g) (k0_pay105 (k0_pay3 la tri) Q3) (k0_pay120 V3) (k0_pay121 (k0_pay105 (k0_pay3 la tri) Q3)) (k0_pay122 (k0_pay106 (k0_pay3 la tri) K3)) x R3)
      = outStep (k0_pay3 la tri) 3 2 Q3 K3 V3 R3 g x := by
  funext j
  idx_vars j
  pointwise [k0_pay4, k0_pay5, k0_pay102, k0_pay104, k0_pay105, k0_pay106, k0_pay120, k0_pay121, k0_pay122, k0_pay123, k0_pay125, k0_pay126, outStep, headOut, headAtt, keyLane_2, rowIn_3]

/-- The output's piece of head 3 in chunk 3. -/
theorem out_3_3 (la : Vec Ideal S1x256x512 .f32) (tri : Vec Ideal S256x256 .bf16) (g : Vec Ideal S1x256 .f32)
    (Q3 K3 : Vec Ideal S1x64x512 .f32) (V3 : Vec Ideal S1x64x256 .bf16) (R3 : Vec Ideal S1x64x256 .f32)
    (x : Vec Ideal S1x256x128 .f32) :
    k0_pay1 (k0_pay5 g) (k0_pay130 R3) (k0_pay131 k0_pay4 (k0_pay105 (k0_pay3 la tri) Q3) (k0_pay106 (k0_pay3 la tri) K3) V3 x)
      = outStep (k0_pay3 la tri) 3 3 Q3 K3 V3 R3 g x := by
  funext j
  idx_vars j
  pointwise [k0_pay1, k0_pay4, k0_pay5, k0_pay102, k0_pay104, k0_pay105, k0_pay106, k0_pay127, k0_pay128, k0_pay130, k0_pay131, outStep, headOut, headAtt, keyLane_3, rowIn_3]

end Cert.KernelIdeal.Gla

end

end
-- ==== Proof.Gla.Tile.lean ====
/-
  One tile of the gated linear attention: four chunks in turn. What a grid point leaves in the carried state, and what it
  stores in its output block, as functions of the point's input blocks and of the state it starts from.
-/
module

public import proofs.«01_k».proof.Proof.Gla.Chunk0
public import proofs.«01_k».proof.Proof.Gla.Chunk1
public import proofs.«01_k».proof.Proof.Gla.Chunk2
public import proofs.«01_k».proof.Proof.Gla.Chunk3

@[expose] public section

set_option maxRecDepth 16384

noncomputable section

namespace Cert.KernelIdeal.Gla

open Idealize.ShloMosaic Idealize.ShloMosaic.TcCoe Idealize.SL.Sem
open Cert.KernelIdeal Cert.KernelIdeal.Gen

/-- Value lane `w` of head `h`. -/
def valLane (h : Fin 4) (w : Fin 256) : Fin 1024 := ⟨256 * ↑h + ↑w, by omega⟩

theorem valLane_0 (w : Fin 256) : valLane 0 w = ⟨↑w, by omega⟩ := Fin.ext (by simp [valLane])
theorem valLane_1 (w : Fin 256) : valLane 1 w = ⟨256 + ↑w, by omega⟩ := Fin.ext (by simp [valLane])
theorem valLane_2 (w : Fin 256) : valLane 2 w = ⟨512 + ↑w, by omega⟩ := Fin.ext (by simp [valLane])
theorem valLane_3 (w : Fin 256) : valLane 3 w = ⟨768 + ↑w, by omega⟩ := Fin.ext (by simp [valLane])

/-- The whole state after chunk `c` of a tile, from the state before it and the tile's blocks. -/
def tileStep (B : FVec Ideal S256x512 .f32) (kb : Vec Ideal S1x256x512 .f32) (vb : Vec Ideal S1x256x1024 .bf16)
    (c : Fin 4) (X : Vec Ideal S4x256x128 .f32) : Vec Ideal S4x256x128 .f32 := fun j =>
  (X (ix3 (j 0) (j 1) (j 2)) : EReal) * Ideal.exp (B (ix2 (rowIn c 63) (keyLane (j 0) (j 2))))
    + ∑ i : Fin 64, vb (ix3 0 (rowIn c i) (valLane (j 0) (j 1)))
        * (kb (ix3 0 (rowIn c i) (keyLane (j 0) (j 2)))
            * Ideal.exp (B (ix2 (rowIn c 63) (keyLane (j 0) (j 2))) - B (ix2 (rowIn c i) (keyLane (j 0) (j 2)))))

/-- The state before chunk `n` of a tile (after the tile, at 4). -/
def tileState (B : FVec Ideal S256x512 .f32) (kb : Vec Ideal S1x256x512 .f32) (vb : Vec Ideal S1x256x1024 .bf16)
    (X : Vec Ideal S4x256x128 .f32) : ℕ → Vec Ideal S4x256x128 .f32
  | 0 => X
  | n + 1 => if h : n < 4 then tileStep B kb vb ⟨n, h⟩ (tileState B kb vb X n) else X

/-- The attention output of head `h` at row `i` of chunk `c` of a tile, from the state `X` before the chunk. -/
def tileHead (B : FVec Ideal S256x512 .f32) (qb kb : Vec Ideal S1x256x512 .f32) (vb : Vec Ideal S1x256x1024 .bf16)
    (X : Vec Ideal S4x256x128 .f32) (c h : Fin 4) (i : Fin 64) (w : Fin 256) : EReal :=
  (∑ j : Fin 64, Scalar.select (IntOp.cmpi .sge (BitVec.ofNat 32 ↑i) (BitVec.ofNat 32 ↑j))
      ((∑ k : Fin 128, qb (ix3 0 (rowIn c i) (keyLane h k)) * Ideal.ofBits .f32 0x3DB504F3#32
            * Ideal.exp (B (ix2 (rowIn c i) (keyLane h k)))
          * (kb (ix3 0 (rowIn c j) (keyLane h k)) * Ideal.exp (0 - B (ix2 (rowIn c j) (keyLane h k)))))
        * vb (ix3 0 (rowIn c j) (valLane h w))) 0)
    + ∑ k : Fin 128, qb (ix3 0 (rowIn c i) (keyLane h k)) * Ideal.ofBits .f32 0x3DB504F3#32
          * Ideal.exp (B (ix2 (rowIn c i) (keyLane h k)))
        * X (ix3 h w k)

/-- The stored output there. -/
def tileOut (B : FVec Ideal S256x512 .f32) (qb kb : Vec Ideal S1x256x512 .f32) (vb : Vec Ideal S1x256x1024 .bf16)
    (rb : Vec Ideal S1x256x1024 .f32) (g : Vec Ideal S1x256 .f32)
    (X : Vec Ideal S4x256x128 .f32) (c h : Fin 4) (i : Fin 64) (w : Fin 256) : EReal :=
  tileHead B qb kb vb X c h i w
      * Ideal.rsqrt (Ideal.div (∑ w : Fin 256, tileHead B qb kb vb X c h i w * tileHead B qb kb vb X c h i w)
          (Ideal.ofBits .f32 0x43800000#32) + Ideal.ofBits .f32 0x358637BD#32)
      * g (ix2 0 w) * (rb (ix3 0 (rowIn c i) (valLane h w)) * Ideal.logistic (rb (ix3 0 (rowIn c i) (valLane h w))))

/-- One head's step on the loaded parts is the whole state's step, at that head. -/
theorem stateStep_eq (B : FVec Ideal S256x512 .f32) (c h : Fin 4) (K : Vec Ideal S1x64x512 .f32)
    (V : Vec Ideal S1x64x256 .bf16) (p : Vec Ideal S1x256x128 .f32) (kb : Vec Ideal S1x256x512 .f32)
    (vb : Vec Ideal S1x256x1024 .bf16) (X : Vec Ideal S4x256x128 .f32)
    (hK : ∀ i κ, K (ix3 0 i κ) = kb (ix3 0 (rowIn c i) κ))
    (hV : ∀ i w, V (ix3 0 i w) = vb (ix3 0 (rowIn c i) (valLane h w)))
    (hp : ∀ w k, p (ix3 0 w k) = X (ix3 h w k)) (w : Fin 256) (k : Fin 128) :
    stateStep B c h K V p (ix3 0 w k) = tileStep B kb vb c X (ix3 h w k) := by
  simp only [stateStep, tileStep, ix3_0, ix3_1, ix3_2, hK, hV, hp]

/-- One head's attention output on the loaded parts. -/
theorem headOut_eq (B : FVec Ideal S256x512 .f32) (c h : Fin 4) (Q K : Vec Ideal S1x64x512 .f32)
    (V : Vec Ideal S1x64x256 .bf16) (p : Vec Ideal S1x256x128 .f32) (qb kb : Vec Ideal S1x256x512 .f32)
    (vb : Vec Ideal S1x256x1024 .bf16) (X : Vec Ideal S4x256x128 .f32)
    (hQ : ∀ i κ, Q (ix3 0 i κ) = qb (ix3 0 (rowIn c i) κ))
    (hK : ∀ i κ, K (ix3 0 i κ) = kb (ix3 0 (rowIn c i) κ))
    (hV : ∀ i w, V (ix3 0 i w) = vb (ix3 0 (rowIn c i) (valLane h w)))
    (hp : ∀ w k, p (ix3 0 w k) = X (ix3 h w k)) (i : Fin 64) (w : Fin 256) :
    headOut B c h Q K V p i w = tileHead B qb kb vb X c h i w := by
  simp only [headOut, headAtt, tileHead, hQ, hK, hV, hp]

/-- One head's stored outputs on the loaded parts. -/
theorem outStep_eq (B : FVec Ideal S256x512 .f32) (c h : Fin 4) (Q K : Vec Ideal S1x64x512 .f32)
    (V : Vec Ideal S1x64x256 .bf16) (R : Vec Ideal S1x64x256 .f32) (g : Vec Ideal S1x256 .f32)
    (p : Vec Ideal S1x256x128 .f32) (qb kb : Vec Ideal S1x256x512 .f32)
    (vb : Vec Ideal S1x256x1024 .bf16) (rb : Vec Ideal S1x256x1024 .f32) (X : Vec Ideal S4x256x128 .f32)
    (hQ : ∀ i κ, Q (ix3 0 i κ) = qb (ix3 0 (rowIn c i) κ))
    (hK : ∀ i κ, K (ix3 0 i κ) = kb (ix3 0 (rowIn c i) κ))
    (hV : ∀ i w, V (ix3 0 i w) = vb (ix3 0 (rowIn c i) (valLane h w)))
    (hR : ∀ i w, R (ix3 0 i w) = rb (ix3 0 (rowIn c i) (valLane h w)))
    (hp : ∀ w k, p (ix3 0 w k) = X (ix3 h w k)) (i : Fin 64) (w : Fin 256) :
    outStep B c h Q K V R g p (ix3 0 i w) = tileOut B qb kb vb rb g X c h i w := by
  simp only [outStep, tileOut, ix3_1, ix3_2, headOut_eq B c h Q K V p qb kb vb X hQ hK hV hp, hR]

/-- The output block, index by index: the chunk and the row in it, the head and the lane in it. -/
def tileBlock (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    Vec Ideal S1x256x1024 .bf16 := fun y =>
  tileOut B qb kb vb rb g (tileState B kb vb X ((y 1).val / 64))
    ⟨(y 1).val / 64, Nat.div_lt_of_lt_mul (show (y 1).val < 64 * 4 from (y 1).isLt)⟩
    ⟨(y 2).val / 256, Nat.div_lt_of_lt_mul (show (y 2).val < 256 * 4 from (y 2).isLt)⟩
    ⟨(y 1).val % 64, Nat.mod_lt _ (by decide)⟩ ⟨(y 2).val % 256, Nat.mod_lt _ (by decide)⟩

theorem tileBlock_at (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32)
    (c h : Fin 4) (i : Fin 64) (w : Fin 256) :
    tileBlock B qb kb vb rb g X (ix3 0 (rowIn c i) (valLane h w))
      = tileOut B qb kb vb rb g (tileState B kb vb X c) c h i w := by
  have e1 : (64 * (c : ℕ) + i) / 64 = c := by omega
  have e2 : (64 * (c : ℕ) + i) % 64 = i := by omega
  have e3 : (256 * (h : ℕ) + w) / 256 = h := by omega
  have e4 : (256 * (h : ℕ) + w) % 256 = w := by omega
  simp only [tileBlock, ix3_1, ix3_2, rowIn, valLane, e1, e2, e3, e4, Fin.eta]

end Cert.KernelIdeal.Gla

end

end
-- ==== Proof.Gla.Math.lean ====
/-
  The gated linear attention over whole arrays, chunk after chunk: the cumulative log decays of a chunk, the state entering a
  chunk, a head's attention output and the stored output.
-/
module

public import proofs.«01_k».proof.Proof.Gla.Tile

@[expose] public section

set_option maxRecDepth 16384

noncomputable section

namespace Cert.KernelIdeal.Gla

open Idealize.ShloMosaic Idealize.ShloMosaic.TcCoe Idealize.SL.Sem
open Cert.KernelIdeal Cert.KernelIdeal.Gen

/-- Row `i` of chunk `n` of a sequence. -/
def row (n : ℕ) (i : Fin 64) : Fin 8192 := ⟨(64 * n + ↑i) % 8192, Nat.mod_lt _ (by decide)⟩

/-- The cumulative log decay at row `i` of chunk `n`. -/
def cum (LA : Vec Ideal S2x8192x512 .f32) (β : Fin 2) (n : ℕ) (i : Fin 64) (κ : Fin 512) : EReal :=
  ∑ j : Fin 64, if j ≤ i then LA (ix3 β (row n j) κ) else 0

/-- The state entering chunk `n`, by head, value lane and key lane. -/
def St (K LA : Vec Ideal S2x8192x512 .f32) (V : Vec Ideal S2x8192x1024 .bf16) (β : Fin 2) : ℕ → Vec Ideal S4x256x128 .f32
  | 0 => fun _ => (0 : EReal)
  | n + 1 => fun j =>
    (St K LA V β n (ix3 (j 0) (j 1) (j 2)) : EReal) * Ideal.exp (cum LA β n 63 (keyLane (j 0) (j 2)))
      + ∑ i : Fin 64, V (ix3 β (row n i) (valLane (j 0) (j 1)))
          * (K (ix3 β (row n i) (keyLane (j 0) (j 2)))
              * Ideal.exp (cum LA β n 63 (keyLane (j 0) (j 2)) - cum LA β n i (keyLane (j 0) (j 2))))

/-- The attention output of head `h` at row `i` of chunk `n`. -/
def head (Q K LA : Vec Ideal S2x8192x512 .f32) (V : Vec Ideal S2x8192x1024 .bf16) (β : Fin 2) (n : ℕ) (h : Fin 4)
    (i : Fin 64) (w : Fin 256) : EReal :=
  (∑ j : Fin 64, Scalar.select (IntOp.cmpi .sge (BitVec.ofNat 32 ↑i) (BitVec.ofNat 32 ↑j))
      ((∑ k : Fin 128, Q (ix3 β (row n i) (keyLane h k)) * Ideal.ofBits .f32 0x3DB504F3#32
            * Ideal.exp (cum LA β n i (keyLane h k))
          * (K (ix3 β (row n j) (keyLane h k)) * Ideal.exp (0 - cum LA β n j (keyLane h k))))
        * V (ix3 β (row n j) (valLane h w))) 0)
    + ∑ k : Fin 128, Q (ix3 β (row n i) (keyLane h k)) * Ideal.ofBits .f32 0x3DB504F3#32
          * Ideal.exp (cum LA β n i (keyLane h k))
        * St K LA V β n (ix3 h w k)

/-- The stored output there: normalised, times the gain, times the gate. -/
def out (Q K LA : Vec Ideal S2x8192x512 .f32) (V : Vec Ideal S2x8192x1024 .bf16) (R : Vec Ideal S2x8192x1024 .f32)
    (g : Vec Ideal S1x256 .f32) (β : Fin 2) (n : ℕ) (h : Fin 4) (i : Fin 64) (w : Fin 256) : EReal :=
  head Q K LA V β n h i w
      * Ideal.rsqrt (Ideal.div (∑ w : Fin 256, head Q K LA V β n h i w * head Q K LA V β n h i w)
          (Ideal.ofBits .f32 0x43800000#32) + Ideal.ofBits .f32 0x358637BD#32)
      * g (ix2 0 w) * (R (ix3 β (row n i) (valLane h w)) * Ideal.logistic (R (ix3 β (row n i) (valLane h w))))

/-! A tile whose blocks are rows of the whole arrays computes the same. -/

section
variable (B : FVec Ideal S256x512 .f32) (qb kb : Vec Ideal S1x256x512 .f32) (vb : Vec Ideal S1x256x1024 .bf16)
  (rb : Vec Ideal S1x256x1024 .f32) (g : Vec Ideal S1x256 .f32)
  (Q K LA : Vec Ideal S2x8192x512 .f32) (V : Vec Ideal S2x8192x1024 .bf16) (R : Vec Ideal S2x8192x1024 .f32)
  (β : Fin 2) (τ : ℕ)
  (hB : ∀ (c : Fin 4) i κ, B (ix2 (rowIn c i) κ) = cum LA β (4 * τ + c) i κ)
  (hq : ∀ (c : Fin 4) i κ, qb (ix3 0 (rowIn c i) κ) = Q (ix3 β (row (4 * τ + c) i) κ))
  (hk : ∀ (c : Fin 4) i κ, kb (ix3 0 (rowIn c i) κ) = K (ix3 β (row (4 * τ + c) i) κ))
  (hv : ∀ (c : Fin 4) i κ, vb (ix3 0 (rowIn c i) κ) = V (ix3 β (row (4 * τ + c) i) κ))
  (hr : ∀ (c : Fin 4) i κ, rb (ix3 0 (rowIn c i) κ) = R (ix3 β (row (4 * τ + c) i) κ))

include hB hk hv in
theorem tileStep_St (c : Fin 4) : tileStep B kb vb c (St K LA V β (4 * τ + c)) = St K LA V β (4 * τ + c + 1) := by
  funext j
  simp only [tileStep, St, hB, hk, hv]

include hB hk hv in
theorem tileState_St : ∀ n : ℕ, n ≤ 4 → tileState B kb vb (St K LA V β (4 * τ)) n = St K LA V β (4 * τ + n)
  | 0, _ => rfl
  | n + 1, hn => by
    have h : n < 4 := hn
    rw [tileState, dif_pos h, tileState_St n (Nat.le_of_lt h)]
    exact tileStep_St B kb vb K LA V β τ hB hk hv ⟨n, h⟩

include hB hq hk hv hr in
theorem tileOut_out (c h : Fin 4) (i : Fin 64) (w : Fin 256) :
    tileOut B qb kb vb rb g (tileState B kb vb (St K LA V β (4 * τ)) c) c h i w
      = out Q K LA V R g β (4 * τ + c) h i w := by
  have hh : ∀ w, tileHead B qb kb vb (St K LA V β (4 * τ + c)) c h i w = head Q K LA V β (4 * τ + c) h i w := fun w => by
    simp only [tileHead, head, hB, hq, hk, hv]
  rw [tileState_St B kb vb K LA V β τ hB hk hv c (Nat.le_of_lt c.isLt)]
  simp only [tileOut, out, hh, hr]

end

end Cert.KernelIdeal.Gla

end

end
-- ==== Proof.Gla.Blocks.lean ====
/-
  What the windows hold at a grid point: rows of the arguments, the gain, and the triangle whose product with the log
  decays is their cumulative sum within a chunk.
-/
module

public import proofs.«01_k».proof.Proof.Gla.Math
public import Idealize.ShloMosaic.Lib.Claim

@[expose] public section

set_option maxRecDepth 16384

noncomputable section

namespace Cert.KernelIdeal.Gla

open Idealize.ShloMosaic Idealize.ShloMosaic.TcCoe Idealize.SL.Sem
open Cert.KernelIdeal Cert.KernelIdeal.Gen

variable (m : (ℓ : Loc nD τ sig) → Buf (Elt Ideal) ℓ)

theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0]
    ∧ win0_4.index t = ![t.val / 32, t.val % 32, 0] ∧ win0_5.index t = ![0, 0] ∧ win0_6.index t = ![0, 0] ∧ t.val / 32 < 2 :=
  (by decide +kernel : ∀ t : Fin grid0.N, _)

/-- The sequence a grid point works on. -/
def seqOf (t : Fin cfg0.N) : Fin 2 := ⟨t.val / 32, (idx t).2.2.2.2.2.2.2⟩

theorem q_at (c : Dev nD) (t : Fin cfg0.N) (ch : Fin 4) (i : Fin 64) (κ : Fin 512) :
    (iblk m c 0 t : Vec Ideal S1x256x512 .f32) (ix3 0 (rowIn ch i) κ)
      = m ((c : Thread nD τ).loc main_arg0) (ix3 (seqOf t) (row (4 * (t.val % 32) + ch) i) κ) := by
  blk_ext [iblk, V, idx t, rowIn, row, seqOf]

theorem k_at (c : Dev nD) (t : Fin cfg0.N) (ch : Fin 4) (i : Fin 64) (κ : Fin 512) :
    (iblk m c 1 t : Vec Ideal S1x256x512 .f32) (ix3 0 (rowIn ch i) κ)
      = m ((c : Thread nD τ).loc main_arg1) (ix3 (seqOf t) (row (4 * (t.val % 32) + ch) i) κ) := by
  blk_ext [iblk, V, idx t, rowIn, row, seqOf]

theorem v_at (c : Dev nD) (t : Fin cfg0.N) (ch : Fin 4) (i : Fin 64) (κ : Fin 1024) :
    (iblk m c 2 t : Vec Ideal S1x256x1024 .bf16) (ix3 0 (rowIn ch i) κ)
      = m ((c : Thread nD τ).loc main_arg2) (ix3 (seqOf t) (row (4 * (t.val % 32) + ch) i) κ) := by
  blk_ext [iblk, V, idx t, rowIn, row, seqOf]

theorem r_at (c : Dev nD) (t : Fin cfg0.N) (ch : Fin 4) (i : Fin 64) (κ : Fin 1024) :
    (iblk m c 3 t : Vec Ideal S1x256x1024 .f32) (ix3 0 (rowIn ch i) κ)
      = m ((c : Thread nD τ).loc main_arg3) (ix3 (seqOf t) (row (4 * (t.val % 32) + ch) i) κ) := by
  blk_ext [iblk, V, idx t, rowIn, row, seqOf]

theorem la_at (c : Dev nD) (t : Fin cfg0.N) (ch : Fin 4) (i : Fin 64) (κ : Fin 512) :
    (iblk m c 4 t : Vec Ideal S1x256x512 .f32) (ix3 0 (rowIn ch i) κ)
      = m ((c : Thread nD τ).loc main_arg4) (ix3 (seqOf t) (row (4 * (t.val % 32) + ch) i) κ) := by
  blk_ext [iblk, V, idx t, rowIn, row, seqOf]

/-- The gain's block. -/
theorem gain_at (c : Dev nD) (t : Fin cfg0.N) (w : Fin 256) :
    (iblk m c 5 t : Vec Ideal S1x256 .f32) (ix2 0 w) = m ((c : Thread nD τ).loc main_arg5) (ix2 0 w) := by
  have e : iblk m c 5 t = V m c main_v1 := by blk_ext! [iblk, idx t]
  rw [e]
  simp only [V, List.flatten_cons, List.flatten_nil, List.append_nil, hostOps0, hostOps0_1, hostOps0_2, hostOps0_3, hostOps0_4, List.cons_append, List.nil_append]
  entry_read
  pointwise

/-- The quotient by 64 as the host computes it. -/
def quot (r : Fin 256) : BitVec 32 :=
  Scalar.select
    (IntOp.andi
      (IntOp.cmpi (w := 32) CmpIPredicate.ne
        (if BitVec.ofNat 32 ↑r = 0 then 0 else if (BitVec.ofNat 32 ↑r).msb = true then -1 else 1)
        (if 64#32 = 0 then 0 else if (64#32).msb = true then -1 else 1))
      (IntOp.cmpi CmpIPredicate.ne (IntOp.remsi ArithUnit.host (BitVec.ofNat 32 ↑r) 64#32) 0#32))
    (IntOp.subi (IntOp.divsi ArithUnit.host (BitVec.ofNat 32 ↑r) 64#32) 1#32)
    (IntOp.divsi ArithUnit.host (BitVec.ofNat 32 ↑r) 64#32)

theorem quot_eq : ∀ r : Fin 256, quot r = BitVec.ofNat 32 (↑r / 64) := by decide +kernel

theorem mask_eq (r s : Fin 256) : IntOp.andi (IntOp.cmpi .sge (BitVec.ofNat 32 ↑r) (BitVec.ofNat 32 ↑s))
    (IntOp.cmpi .eq (BitVec.ofNat 32 (↑r / 64)) (BitVec.ofNat 32 (↑s / 64)))
      = if s ≤ r ∧ r.val / 64 = s.val / 64 then 1#1 else 0#1 := by
  rw [WordCmp.cmpi_sge_ofNat (by omega) (by omega), WordCmp.cmpi_eq_ofNat (by omega) (by omega)]
  by_cases h1 : s.val ≤ r.val <;> by_cases h2 : r.val / 64 = s.val / 64 <;> simp [Fin.le_def, h1, h2, IntOp.andi]

/-- The triangle: one where the column is not after the row and in the row's chunk. -/
theorem tri_at (c : Dev nD) (t : Fin cfg0.N) (r s : Fin 256) :
    (iblk m c 6 t : Vec Ideal S256x256 .bf16) (ix2 r s)
      = if s ≤ r ∧ r.val / 64 = s.val / 64 then (1 : EReal) else 0 := by
  have e : iblk m c 6 t = V m c main_v16 := by blk_ext! [iblk, idx t]
  have e2 : (V m c main_v16 : Vec Ideal S256x256 .bf16) (ix2 r s)
      = (FloatOps.uitofp (F := Ideal) .bf16 (IntOp.andi (IntOp.cmpi .sge (BitVec.ofNat 32 ↑r) (BitVec.ofNat 32 ↑s)) (IntOp.cmpi .eq (quot r) (quot s))) : EReal) := by
    simp only [V, List.flatten_cons, List.flatten_nil, List.append_nil, hostOps0, hostOps0_1, hostOps0_2, hostOps0_3, hostOps0_4, List.cons_append, List.nil_append]
    entry_read
    simp only [StableHlo.TRef.ofBuf, StableHlo.TRef.toBuf, cast_eq]
    pointwise
    rfl
  rw [e, e2, quot_eq, quot_eq, mask_eq]
  split
  · show (((1#1 : BitVec 1).toNat : ℝ) : EReal) = 1
    simp
  · show (((0#1 : BitVec 1).toNat : ℝ) : EReal) = 0
    simp

/-- A value below infinity plus its difference from itself is the value: of minus infinity too, where the difference
    is minus infinity. -/
theorem add_sub_self_of_lt (x : EReal) (h : x < ⊤) : x + (x - x) = x := by
  induction x with
  | bot => simp
  | top => exact absurd h (lt_irrefl _)
  | coe a => rw [← EReal.coe_sub, sub_self, EReal.coe_zero, add_zero]

/-- The tile's product of the triangle with the log decays, over variables. -/
theorem pay3_at (la : Vec Ideal S1x256x512 .f32) (tri : Vec Ideal S256x256 .bf16) (r : Fin 256) (κ : Fin 512) :
    k0_pay3 la tri (ix2 r κ)
      = (∑ s : Fin 256, tri (ix2 r s) * la (ix3 0 s κ)) + ∑ s : Fin 256, tri (ix2 r s) * (la (ix3 0 s κ) - la (ix3 0 s κ)) := by
  pointwise [k0_pay3]

/-- With the triangle, it is the cumulative sum in each chunk. -/
theorem pay3_tri (la : Vec Ideal S1x256x512 .f32) (tri : Vec Ideal S256x256 .bf16)
    (hla : ∀ i, (la i : EReal) < ⊤)
    (ht : ∀ r s, tri (ix2 r s) = if s ≤ r ∧ r.val / 64 = s.val / 64 then (1 : EReal) else 0)
    (ch : Fin 4) (i : Fin 64) (κ : Fin 512) :
    k0_pay3 la tri (ix2 (rowIn ch i) κ) = ∑ j : Fin 64, if j ≤ i then la (ix3 0 (rowIn ch j) κ) else (0 : EReal) := by
  rw [pay3_at, ← Finset.sum_add_distrib]
  have e : ∀ s : Fin 256, tri (ix2 (rowIn ch i) s) * la (ix3 0 s κ) + tri (ix2 (rowIn ch i) s) * (la (ix3 0 s κ) - la (ix3 0 s κ))
      = if s ≤ rowIn ch i ∧ (rowIn ch i).val / 64 = s.val / 64 then la (ix3 0 s κ) else (0 : EReal) := fun s => by
    rw [ht]
    split
    · rw [one_mul, one_mul, add_sub_self_of_lt _ (hla _)]
    · rw [zero_mul, zero_mul, add_zero]
  rw [Finset.sum_congr rfl fun s _ => e s, Fin.sum_univ_tiles 4 64 rfl, Finset.sum_eq_single ch]
  · refine Finset.sum_congr rfl fun j _ => ?_
    have hj : (⟨↑ch * 64 + ↑j, by omega⟩ : Fin 256) = rowIn ch j := Fin.ext (by simp [rowIn]; omega)
    have hp : (rowIn ch j ≤ rowIn ch i ∧ (rowIn ch i).val / 64 = (rowIn ch j).val / 64) = (j ≤ i) := by
      simp only [rowIn, Fin.mk_le_mk, eq_iff_iff, Fin.le_def]
      omega
    rw [hj]
    simp only [hp]
  · intro b _ hb
    refine Finset.sum_eq_zero fun j _ => if_neg ?_
    simp only [rowIn, Fin.mk_le_mk]
    have : (b : ℕ) ≠ ch := fun h => hb (Fin.ext h)
    omega
  · intro h; exact absurd (Finset.mem_univ _) h

/-- No element is plus infinity. -/
def Below (X : Vec Ideal S2x8192x512 .f32) : Prop := ∀ i, (X i : EReal) < ⊤

/-- The tile's product of the triangle with the log decays is their cumulative sum in each chunk. -/
theorem decays_at (c : Dev nD) (hla : Below (m ((c : Thread nD τ).loc main_arg4)))
    (t : Fin cfg0.N) (ch : Fin 4) (i : Fin 64) (κ : Fin 512) :
    k0_pay3 (iblk m c 4 t) (iblk m c 6 t) (ix2 (rowIn ch i) κ)
      = cum (m ((c : Thread nD τ).loc main_arg4)) (seqOf t) (4 * (t.val % 32) + ch) i κ := by
  rw [pay3_tri _ _ _ (tri_at m c t)]
  · simp only [cum, la_at]
  · intro y
    idx_vars y
    blk_simp [iblk]
    exact hla _
end Cert.KernelIdeal.Gla

end

end
-- ==== Proof.Gla.Loads.lean ====
/-
  What a grid point loads, chunk by chunk and head by head, and each stored piece on what it loads.
-/
module

public import proofs.«01_k».proof.Proof.Gla.Tile

@[expose] public section

set_option maxRecDepth 16384

noncomputable section

namespace Cert.KernelIdeal.Gla

open Idealize.ShloMosaic Idealize.ShloMosaic.TcCoe Idealize.SL.Sem
open Cert.KernelIdeal Cert.KernelIdeal.Gen

/-- A head's part of the state. -/
def part (h : Fin 4) (X : Vec Ideal S4x256x128 .f32) : Vec Ideal S1x256x128 .f32 := fun j => X (ix3 h (j 1) (j 2))

/-- A chunk's stored outputs of one head. -/
def outPart (B : FVec Ideal S256x512 .f32) (qb kb : Vec Ideal S1x256x512 .f32) (vb : Vec Ideal S1x256x1024 .bf16)
    (rb : Vec Ideal S1x256x1024 .f32) (g : Vec Ideal S1x256 .f32) (c h : Fin 4) (X : Vec Ideal S4x256x128 .f32) :
    FVec Ideal S1x64x256 .bf16 := fun j => tileOut B qb kb vb rb g X c h (j 1) (j 2)

theorem stateStep_part (B : FVec Ideal S256x512 .f32) (c h : Fin 4) (K : Vec Ideal S1x64x512 .f32)
    (V : Vec Ideal S1x64x256 .bf16) (kb : Vec Ideal S1x256x512 .f32)
    (vb : Vec Ideal S1x256x1024 .bf16) (X : Vec Ideal S4x256x128 .f32)
    (hK : ∀ i κ, K (ix3 0 i κ) = kb (ix3 0 (rowIn c i) κ))
    (hV : ∀ i w, V (ix3 0 i w) = vb (ix3 0 (rowIn c i) (valLane h w))) :
    stateStep B c h K V (part h X) = part h (tileStep B kb vb c X) := by
  funext j
  idx_vars j
  simp only [part, ix3_1, ix3_2]
  exact stateStep_eq B c h K V (part h X) kb vb X hK hV (fun _ _ => rfl) _ _

theorem outStep_part (B : FVec Ideal S256x512 .f32) (c h : Fin 4) (Q K : Vec Ideal S1x64x512 .f32)
    (V : Vec Ideal S1x64x256 .bf16) (R : Vec Ideal S1x64x256 .f32) (g : Vec Ideal S1x256 .f32)
    (qb kb : Vec Ideal S1x256x512 .f32)
    (vb : Vec Ideal S1x256x1024 .bf16) (rb : Vec Ideal S1x256x1024 .f32) (X : Vec Ideal S4x256x128 .f32)
    (hQ : ∀ i κ, Q (ix3 0 i κ) = qb (ix3 0 (rowIn c i) κ))
    (hK : ∀ i κ, K (ix3 0 i κ) = kb (ix3 0 (rowIn c i) κ))
    (hV : ∀ i w, V (ix3 0 i w) = vb (ix3 0 (rowIn c i) (valLane h w)))
    (hR : ∀ i w, R (ix3 0 i w) = rb (ix3 0 (rowIn c i) (valLane h w))) :
    outStep B c h Q K V R g (part h X) = outPart B qb kb vb rb g c h X := by
  funext j
  idx_vars j
  simp only [outPart, ix3_1, ix3_2]
  exact outStep_eq B c h Q K V R g (part h X) qb kb vb rb X hQ hK hV hR (fun _ _ => rfl) _ _

/-- The rows of chunk 0, loaded. -/
theorem ldRows_0 (x : Vec Ideal S1x256x512 .f32) (i : Fin 64) (κ : Fin 512) :
    View.ld x (Rect.unit ![0, 0, 0] ![1, 64, 512] inb_S1x256x512_S1x64x512_0_0_0) (ix3 0 i κ) = x (ix3 0 (rowIn 0 i) κ) := by
  pointwise [rowIn_0]

/-- The rows of chunk 1, loaded. -/
theorem ldRows_1 (x : Vec Ideal S1x256x512 .f32) (i : Fin 64) (κ : Fin 512) :
    View.ld x (Rect.unit ![0, 64, 0] ![1, 64, 512] inb_S1x256x512_S1x64x512_0_64_0) (ix3 0 i κ) = x (ix3 0 (rowIn 1 i) κ) := by
  pointwise [rowIn_1]

/-- The rows of chunk 2, loaded. -/
theorem ldRows_2 (x : Vec Ideal S1x256x512 .f32) (i : Fin 64) (κ : Fin 512) :
    View.ld x (Rect.unit ![0, 128, 0] ![1, 64, 512] inb_S1x256x512_S1x64x512_0_128_0) (ix3 0 i κ) = x (ix3 0 (rowIn 2 i) κ) := by
  pointwise [rowIn_2]

/-- The rows of chunk 3, loaded. -/
theorem ldRows_3 (x : Vec Ideal S1x256x512 .f32) (i : Fin 64) (κ : Fin 512) :
    View.ld x (Rect.unit ![0, 192, 0] ![1, 64, 512] inb_S1x256x512_S1x64x512_0_192_0) (ix3 0 i κ) = x (ix3 0 (rowIn 3 i) κ) := by
  pointwise [rowIn_3]

theorem ldVals_0_0 {e : EltTy} (x : Vec Ideal S1x256x1024 e) (i : Fin 64) (w : Fin 256) :
    View.ld x (Rect.unit ![0, 0, 0] ![1, 64, 256] inb_S1x256x1024_S1x64x256_0_0_0) (ix3 0 i w)
      = x (ix3 0 (rowIn 0 i) (valLane 0 w)) := by
  pointwise [rowIn_0, valLane_0]

theorem ldVals_0_1 {e : EltTy} (x : Vec Ideal S1x256x1024 e) (i : Fin 64) (w : Fin 256) :
    View.ld x (Rect.unit ![0, 0, 256] ![1, 64, 256] inb_S1x256x1024_S1x64x256_0_0_256) (ix3 0 i w)
      = x (ix3 0 (rowIn 0 i) (valLane 1 w)) := by
  pointwise [rowIn_0, valLane_1]

theorem ldVals_0_2 {e : EltTy} (x : Vec Ideal S1x256x1024 e) (i : Fin 64) (w : Fin 256) :
    View.ld x (Rect.unit ![0, 0, 512] ![1, 64, 256] inb_S1x256x1024_S1x64x256_0_0_512) (ix3 0 i w)
      = x (ix3 0 (rowIn 0 i) (valLane 2 w)) := by
  pointwise [rowIn_0, valLane_2]

theorem ldVals_0_3 {e : EltTy} (x : Vec Ideal S1x256x1024 e) (i : Fin 64) (w : Fin 256) :
    View.ld x (Rect.unit ![0, 0, 768] ![1, 64, 256] inb_S1x256x1024_S1x64x256_0_0_768) (ix3 0 i w)
      = x (ix3 0 (rowIn 0 i) (valLane 3 w)) := by
  pointwise [rowIn_0, valLane_3]

theorem ldVals_1_0 {e : EltTy} (x : Vec Ideal S1x256x1024 e) (i : Fin 64) (w : Fin 256) :
    View.ld x (Rect.unit ![0, 64, 0] ![1, 64, 256] inb_S1x256x1024_S1x64x256_0_64_0) (ix3 0 i w)
      = x (ix3 0 (rowIn 1 i) (valLane 0 w)) := by
  pointwise [rowIn_1, valLane_0]

theorem ldVals_1_1 {e : EltTy} (x : Vec Ideal S1x256x1024 e) (i : Fin 64) (w : Fin 256) :
    View.ld x (Rect.unit ![0, 64, 256] ![1, 64, 256] inb_S1x256x1024_S1x64x256_0_64_256) (ix3 0 i w)
      = x (ix3 0 (rowIn 1 i) (valLane 1 w)) := by
  pointwise [rowIn_1, valLane_1]

theorem ldVals_1_2 {e : EltTy} (x : Vec Ideal S1x256x1024 e) (i : Fin 64) (w : Fin 256) :
    View.ld x (Rect.unit ![0, 64, 512] ![1, 64, 256] inb_S1x256x1024_S1x64x256_0_64_512) (ix3 0 i w)
      = x (ix3 0 (rowIn 1 i) (valLane 2 w)) := by
  pointwise [rowIn_1, valLane_2]

theorem ldVals_1_3 {e : EltTy} (x : Vec Ideal S1x256x1024 e) (i : Fin 64) (w : Fin 256) :
    View.ld x (Rect.unit ![0, 64, 768] ![1, 64, 256] inb_S1x256x1024_S1x64x256_0_64_768) (ix3 0 i w)
      = x (ix3 0 (rowIn 1 i) (valLane 3 w)) := by
  pointwise [rowIn_1, valLane_3]

theorem ldVals_2_0 {e : EltTy} (x : Vec Ideal S1x256x1024 e) (i : Fin 64) (w : Fin 256) :
    View.ld x (Rect.unit ![0, 128, 0] ![1, 64, 256] inb_S1x256x1024_S1x64x256_0_128_0) (ix3 0 i w)
      = x (ix3 0 (rowIn 2 i) (valLane 0 w)) := by
  pointwise [rowIn_2, valLane_0]

theorem ldVals_2_1 {e : EltTy} (x : Vec Ideal S1x256x1024 e) (i : Fin 64) (w : Fin 256) :
    View.ld x (Rect.unit ![0, 128, 256] ![1, 64, 256] inb_S1x256x1024_S1x64x256_0_128_256) (ix3 0 i w)
      = x (ix3 0 (rowIn 2 i) (valLane 1 w)) := by
  pointwise [rowIn_2, valLane_1]

theorem ldVals_2_2 {e : EltTy} (x : Vec Ideal S1x256x1024 e) (i : Fin 64) (w : Fin 256) :
    View.ld x (Rect.unit ![0, 128, 512] ![1, 64, 256] inb_S1x256x1024_S1x64x256_0_128_512) (ix3 0 i w)
      = x (ix3 0 (rowIn 2 i) (valLane 2 w)) := by
  pointwise [rowIn_2, valLane_2]

theorem ldVals_2_3 {e : EltTy} (x : Vec Ideal S1x256x1024 e) (i : Fin 64) (w : Fin 256) :
    View.ld x (Rect.unit ![0, 128, 768] ![1, 64, 256] inb_S1x256x1024_S1x64x256_0_128_768) (ix3 0 i w)
      = x (ix3 0 (rowIn 2 i) (valLane 3 w)) := by
  pointwise [rowIn_2, valLane_3]

theorem ldVals_3_0 {e : EltTy} (x : Vec Ideal S1x256x1024 e) (i : Fin 64) (w : Fin 256) :
    View.ld x (Rect.unit ![0, 192, 0] ![1, 64, 256] inb_S1x256x1024_S1x64x256_0_192_0) (ix3 0 i w)
      = x (ix3 0 (rowIn 3 i) (valLane 0 w)) := by
  pointwise [rowIn_3, valLane_0]

theorem ldVals_3_1 {e : EltTy} (x : Vec Ideal S1x256x1024 e) (i : Fin 64) (w : Fin 256) :
    View.ld x (Rect.unit ![0, 192, 256] ![1, 64, 256] inb_S1x256x1024_S1x64x256_0_192_256) (ix3 0 i w)
      = x (ix3 0 (rowIn 3 i) (valLane 1 w)) := by
  pointwise [rowIn_3, valLane_1]

theorem ldVals_3_2 {e : EltTy} (x : Vec Ideal S1x256x1024 e) (i : Fin 64) (w : Fin 256) :
    View.ld x (Rect.unit ![0, 192, 512] ![1, 64, 256] inb_S1x256x1024_S1x64x256_0_192_512) (ix3 0 i w)
      = x (ix3 0 (rowIn 3 i) (valLane 2 w)) := by
  pointwise [rowIn_3, valLane_2]

theorem ldVals_3_3 {e : EltTy} (x : Vec Ideal S1x256x1024 e) (i : Fin 64) (w : Fin 256) :
    View.ld x (Rect.unit ![0, 192, 768] ![1, 64, 256] inb_S1x256x1024_S1x64x256_0_192_768) (ix3 0 i w)
      = x (ix3 0 (rowIn 3 i) (valLane 3 w)) := by
  pointwise [rowIn_3, valLane_3]

theorem ldState_0 (X : Vec Ideal S4x256x128 .f32) :
    View.ld X (Rect.unit ![0, 0, 0] ![1, 256, 128] inb_S4x256x128_S1x256x128_0_0_0) = part 0 X := by
  funext j
  idx_vars j
  pointwise [part]

theorem statePiece_0 (X : Vec Ideal S4x256x128 .f32) (x : S1x256x128.Idx) :
    part 0 X x = X ((Rect.unit ![0, 0, 0] ![1, 256, 128] inb_S4x256x128_S1x256x128_0_0_0 : Rect S4x256x128).emb x) :=
  (congrFun (ldState_0 X) x).symm

theorem ldState_1 (X : Vec Ideal S4x256x128 .f32) :
    View.ld X (Rect.unit ![1, 0, 0] ![1, 256, 128] inb_S4x256x128_S1x256x128_1_0_0) = part 1 X := by
  funext j
  idx_vars j
  pointwise [part]

theorem statePiece_1 (X : Vec Ideal S4x256x128 .f32) (x : S1x256x128.Idx) :
    part 1 X x = X ((Rect.unit ![1, 0, 0] ![1, 256, 128] inb_S4x256x128_S1x256x128_1_0_0 : Rect S4x256x128).emb x) :=
  (congrFun (ldState_1 X) x).symm

theorem ldState_2 (X : Vec Ideal S4x256x128 .f32) :
    View.ld X (Rect.unit ![2, 0, 0] ![1, 256, 128] inb_S4x256x128_S1x256x128_2_0_0) = part 2 X := by
  funext j
  idx_vars j
  pointwise [part]

theorem statePiece_2 (X : Vec Ideal S4x256x128 .f32) (x : S1x256x128.Idx) :
    part 2 X x = X ((Rect.unit ![2, 0, 0] ![1, 256, 128] inb_S4x256x128_S1x256x128_2_0_0 : Rect S4x256x128).emb x) :=
  (congrFun (ldState_2 X) x).symm

theorem ldState_3 (X : Vec Ideal S4x256x128 .f32) :
    View.ld X (Rect.unit ![3, 0, 0] ![1, 256, 128] inb_S4x256x128_S1x256x128_3_0_0) = part 3 X := by
  funext j
  idx_vars j
  pointwise [part]

theorem statePiece_3 (X : Vec Ideal S4x256x128 .f32) (x : S1x256x128.Idx) :
    part 3 X x = X ((Rect.unit ![3, 0, 0] ![1, 256, 128] inb_S4x256x128_S1x256x128_3_0_0 : Rect S4x256x128).emb x) :=
  (congrFun (ldState_3 X) x).symm

theorem stepLd_0_0 (B : FVec Ideal S256x512 .f32) (kb : Vec Ideal S1x256x512 .f32) (vb : Vec Ideal S1x256x1024 .bf16)
    (X : Vec Ideal S4x256x128 .f32) :
    stateStep B 0 0 (View.ld kb (Rect.unit ![0, 0, 0] ![1, 64, 512] inb_S1x256x512_S1x64x512_0_0_0))
        (View.ld vb (Rect.unit ![0, 0, 0] ![1, 64, 256] inb_S1x256x1024_S1x64x256_0_0_0)) (part 0 X)
      = part 0 (tileStep B kb vb 0 X) :=
  stateStep_part B 0 0 _ _ kb vb X (ldRows_0 kb) (ldVals_0_0 vb)

theorem outLd_0_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 0 0 (View.ld qb (Rect.unit ![0, 0, 0] ![1, 64, 512] inb_S1x256x512_S1x64x512_0_0_0))
        (View.ld kb (Rect.unit ![0, 0, 0] ![1, 64, 512] inb_S1x256x512_S1x64x512_0_0_0))
        (View.ld vb (Rect.unit ![0, 0, 0] ![1, 64, 256] inb_S1x256x1024_S1x64x256_0_0_0))
        (View.ld rb (Rect.unit ![0, 0, 0] ![1, 64, 256] inb_S1x256x1024_S1x64x256_0_0_0)) g (part 0 X)
      = outPart B qb kb vb rb g 0 0 X :=
  outStep_part B 0 0 _ _ _ _ g qb kb vb rb X (ldRows_0 qb) (ldRows_0 kb) (ldVals_0_0 vb) (ldVals_0_0 rb)

theorem stepLd_0_1 (B : FVec Ideal S256x512 .f32) (kb : Vec Ideal S1x256x512 .f32) (vb : Vec Ideal S1x256x1024 .bf16)
    (X : Vec Ideal S4x256x128 .f32) :
    stateStep B 0 1 (View.ld kb (Rect.unit ![0, 0, 0] ![1, 64, 512] inb_S1x256x512_S1x64x512_0_0_0))
        (View.ld vb (Rect.unit ![0, 0, 256] ![1, 64, 256] inb_S1x256x1024_S1x64x256_0_0_256)) (part 1 X)
      = part 1 (tileStep B kb vb 0 X) :=
  stateStep_part B 0 1 _ _ kb vb X (ldRows_0 kb) (ldVals_0_1 vb)

theorem outLd_0_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 0 1 (View.ld qb (Rect.unit ![0, 0, 0] ![1, 64, 512] inb_S1x256x512_S1x64x512_0_0_0))
        (View.ld kb (Rect.unit ![0, 0, 0] ![1, 64, 512] inb_S1x256x512_S1x64x512_0_0_0))
        (View.ld vb (Rect.unit ![0, 0, 256] ![1, 64, 256] inb_S1x256x1024_S1x64x256_0_0_256))
        (View.ld rb (Rect.unit ![0, 0, 256] ![1, 64, 256] inb_S1x256x1024_S1x64x256_0_0_256)) g (part 1 X)
      = outPart B qb kb vb rb g 0 1 X :=
  outStep_part B 0 1 _ _ _ _ g qb kb vb rb X (ldRows_0 qb) (ldRows_0 kb) (ldVals_0_1 vb) (ldVals_0_1 rb)

theorem stepLd_0_2 (B : FVec Ideal S256x512 .f32) (kb : Vec Ideal S1x256x512 .f32) (vb : Vec Ideal S1x256x1024 .bf16)
    (X : Vec Ideal S4x256x128 .f32) :
    stateStep B 0 2 (View.ld kb (Rect.unit ![0, 0, 0] ![1, 64, 512] inb_S1x256x512_S1x64x512_0_0_0))
        (View.ld vb (Rect.unit ![0, 0, 512] ![1, 64, 256] inb_S1x256x1024_S1x64x256_0_0_512)) (part 2 X)
      = part 2 (tileStep B kb vb 0 X) :=
  stateStep_part B 0 2 _ _ kb vb X (ldRows_0 kb) (ldVals_0_2 vb)

theorem outLd_0_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 0 2 (View.ld qb (Rect.unit ![0, 0, 0] ![1, 64, 512] inb_S1x256x512_S1x64x512_0_0_0))
        (View.ld kb (Rect.unit ![0, 0, 0] ![1, 64, 512] inb_S1x256x512_S1x64x512_0_0_0))
        (View.ld vb (Rect.unit ![0, 0, 512] ![1, 64, 256] inb_S1x256x1024_S1x64x256_0_0_512))
        (View.ld rb (Rect.unit ![0, 0, 512] ![1, 64, 256] inb_S1x256x1024_S1x64x256_0_0_512)) g (part 2 X)
      = outPart B qb kb vb rb g 0 2 X :=
  outStep_part B 0 2 _ _ _ _ g qb kb vb rb X (ldRows_0 qb) (ldRows_0 kb) (ldVals_0_2 vb) (ldVals_0_2 rb)

theorem stepLd_0_3 (B : FVec Ideal S256x512 .f32) (kb : Vec Ideal S1x256x512 .f32) (vb : Vec Ideal S1x256x1024 .bf16)
    (X : Vec Ideal S4x256x128 .f32) :
    stateStep B 0 3 (View.ld kb (Rect.unit ![0, 0, 0] ![1, 64, 512] inb_S1x256x512_S1x64x512_0_0_0))
        (View.ld vb (Rect.unit ![0, 0, 768] ![1, 64, 256] inb_S1x256x1024_S1x64x256_0_0_768)) (part 3 X)
      = part 3 (tileStep B kb vb 0 X) :=
  stateStep_part B 0 3 _ _ kb vb X (ldRows_0 kb) (ldVals_0_3 vb)

theorem outLd_0_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 0 3 (View.ld qb (Rect.unit ![0, 0, 0] ![1, 64, 512] inb_S1x256x512_S1x64x512_0_0_0))
        (View.ld kb (Rect.unit ![0, 0, 0] ![1, 64, 512] inb_S1x256x512_S1x64x512_0_0_0))
        (View.ld vb (Rect.unit ![0, 0, 768] ![1, 64, 256] inb_S1x256x1024_S1x64x256_0_0_768))
        (View.ld rb (Rect.unit ![0, 0, 768] ![1, 64, 256] inb_S1x256x1024_S1x64x256_0_0_768)) g (part 3 X)
      = outPart B qb kb vb rb g 0 3 X :=
  outStep_part B 0 3 _ _ _ _ g qb kb vb rb X (ldRows_0 qb) (ldRows_0 kb) (ldVals_0_3 vb) (ldVals_0_3 rb)

theorem stepLd_1_0 (B : FVec Ideal S256x512 .f32) (kb : Vec Ideal S1x256x512 .f32) (vb : Vec Ideal S1x256x1024 .bf16)
    (X : Vec Ideal S4x256x128 .f32) :
    stateStep B 1 0 (View.ld kb (Rect.unit ![0, 64, 0] ![1, 64, 512] inb_S1x256x512_S1x64x512_0_64_0))
        (View.ld vb (Rect.unit ![0, 64, 0] ![1, 64, 256] inb_S1x256x1024_S1x64x256_0_64_0)) (part 0 X)
      = part 0 (tileStep B kb vb 1 X) :=
  stateStep_part B 1 0 _ _ kb vb X (ldRows_1 kb) (ldVals_1_0 vb)

theorem outLd_1_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 1 0 (View.ld qb (Rect.unit ![0, 64, 0] ![1, 64, 512] inb_S1x256x512_S1x64x512_0_64_0))
        (View.ld kb (Rect.unit ![0, 64, 0] ![1, 64, 512] inb_S1x256x512_S1x64x512_0_64_0))
        (View.ld vb (Rect.unit ![0, 64, 0] ![1, 64, 256] inb_S1x256x1024_S1x64x256_0_64_0))
        (View.ld rb (Rect.unit ![0, 64, 0] ![1, 64, 256] inb_S1x256x1024_S1x64x256_0_64_0)) g (part 0 X)
      = outPart B qb kb vb rb g 1 0 X :=
  outStep_part B 1 0 _ _ _ _ g qb kb vb rb X (ldRows_1 qb) (ldRows_1 kb) (ldVals_1_0 vb) (ldVals_1_0 rb)

theorem stepLd_1_1 (B : FVec Ideal S256x512 .f32) (kb : Vec Ideal S1x256x512 .f32) (vb : Vec Ideal S1x256x1024 .bf16)
    (X : Vec Ideal S4x256x128 .f32) :
    stateStep B 1 1 (View.ld kb (Rect.unit ![0, 64, 0] ![1, 64, 512] inb_S1x256x512_S1x64x512_0_64_0))
        (View.ld vb (Rect.unit ![0, 64, 256] ![1, 64, 256] inb_S1x256x1024_S1x64x256_0_64_256)) (part 1 X)
      = part 1 (tileStep B kb vb 1 X) :=
  stateStep_part B 1 1 _ _ kb vb X (ldRows_1 kb) (ldVals_1_1 vb)

theorem outLd_1_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 1 1 (View.ld qb (Rect.unit ![0, 64, 0] ![1, 64, 512] inb_S1x256x512_S1x64x512_0_64_0))
        (View.ld kb (Rect.unit ![0, 64, 0] ![1, 64, 512] inb_S1x256x512_S1x64x512_0_64_0))
        (View.ld vb (Rect.unit ![0, 64, 256] ![1, 64, 256] inb_S1x256x1024_S1x64x256_0_64_256))
        (View.ld rb (Rect.unit ![0, 64, 256] ![1, 64, 256] inb_S1x256x1024_S1x64x256_0_64_256)) g (part 1 X)
      = outPart B qb kb vb rb g 1 1 X :=
  outStep_part B 1 1 _ _ _ _ g qb kb vb rb X (ldRows_1 qb) (ldRows_1 kb) (ldVals_1_1 vb) (ldVals_1_1 rb)

theorem stepLd_1_2 (B : FVec Ideal S256x512 .f32) (kb : Vec Ideal S1x256x512 .f32) (vb : Vec Ideal S1x256x1024 .bf16)
    (X : Vec Ideal S4x256x128 .f32) :
    stateStep B 1 2 (View.ld kb (Rect.unit ![0, 64, 0] ![1, 64, 512] inb_S1x256x512_S1x64x512_0_64_0))
        (View.ld vb (Rect.unit ![0, 64, 512] ![1, 64, 256] inb_S1x256x1024_S1x64x256_0_64_512)) (part 2 X)
      = part 2 (tileStep B kb vb 1 X) :=
  stateStep_part B 1 2 _ _ kb vb X (ldRows_1 kb) (ldVals_1_2 vb)

theorem outLd_1_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 1 2 (View.ld qb (Rect.unit ![0, 64, 0] ![1, 64, 512] inb_S1x256x512_S1x64x512_0_64_0))
        (View.ld kb (Rect.unit ![0, 64, 0] ![1, 64, 512] inb_S1x256x512_S1x64x512_0_64_0))
        (View.ld vb (Rect.unit ![0, 64, 512] ![1, 64, 256] inb_S1x256x1024_S1x64x256_0_64_512))
        (View.ld rb (Rect.unit ![0, 64, 512] ![1, 64, 256] inb_S1x256x1024_S1x64x256_0_64_512)) g (part 2 X)
      = outPart B qb kb vb rb g 1 2 X :=
  outStep_part B 1 2 _ _ _ _ g qb kb vb rb X (ldRows_1 qb) (ldRows_1 kb) (ldVals_1_2 vb) (ldVals_1_2 rb)

theorem stepLd_1_3 (B : FVec Ideal S256x512 .f32) (kb : Vec Ideal S1x256x512 .f32) (vb : Vec Ideal S1x256x1024 .bf16)
    (X : Vec Ideal S4x256x128 .f32) :
    stateStep B 1 3 (View.ld kb (Rect.unit ![0, 64, 0] ![1, 64, 512] inb_S1x256x512_S1x64x512_0_64_0))
        (View.ld vb (Rect.unit ![0, 64, 768] ![1, 64, 256] inb_S1x256x1024_S1x64x256_0_64_768)) (part 3 X)
      = part 3 (tileStep B kb vb 1 X) :=
  stateStep_part B 1 3 _ _ kb vb X (ldRows_1 kb) (ldVals_1_3 vb)

theorem outLd_1_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 1 3 (View.ld qb (Rect.unit ![0, 64, 0] ![1, 64, 512] inb_S1x256x512_S1x64x512_0_64_0))
        (View.ld kb (Rect.unit ![0, 64, 0] ![1, 64, 512] inb_S1x256x512_S1x64x512_0_64_0))
        (View.ld vb (Rect.unit ![0, 64, 768] ![1, 64, 256] inb_S1x256x1024_S1x64x256_0_64_768))
        (View.ld rb (Rect.unit ![0, 64, 768] ![1, 64, 256] inb_S1x256x1024_S1x64x256_0_64_768)) g (part 3 X)
      = outPart B qb kb vb rb g 1 3 X :=
  outStep_part B 1 3 _ _ _ _ g qb kb vb rb X (ldRows_1 qb) (ldRows_1 kb) (ldVals_1_3 vb) (ldVals_1_3 rb)

theorem stepLd_2_0 (B : FVec Ideal S256x512 .f32) (kb : Vec Ideal S1x256x512 .f32) (vb : Vec Ideal S1x256x1024 .bf16)
    (X : Vec Ideal S4x256x128 .f32) :
    stateStep B 2 0 (View.ld kb (Rect.unit ![0, 128, 0] ![1, 64, 512] inb_S1x256x512_S1x64x512_0_128_0))
        (View.ld vb (Rect.unit ![0, 128, 0] ![1, 64, 256] inb_S1x256x1024_S1x64x256_0_128_0)) (part 0 X)
      = part 0 (tileStep B kb vb 2 X) :=
  stateStep_part B 2 0 _ _ kb vb X (ldRows_2 kb) (ldVals_2_0 vb)

theorem outLd_2_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 2 0 (View.ld qb (Rect.unit ![0, 128, 0] ![1, 64, 512] inb_S1x256x512_S1x64x512_0_128_0))
        (View.ld kb (Rect.unit ![0, 128, 0] ![1, 64, 512] inb_S1x256x512_S1x64x512_0_128_0))
        (View.ld vb (Rect.unit ![0, 128, 0] ![1, 64, 256] inb_S1x256x1024_S1x64x256_0_128_0))
        (View.ld rb (Rect.unit ![0, 128, 0] ![1, 64, 256] inb_S1x256x1024_S1x64x256_0_128_0)) g (part 0 X)
      = outPart B qb kb vb rb g 2 0 X :=
  outStep_part B 2 0 _ _ _ _ g qb kb vb rb X (ldRows_2 qb) (ldRows_2 kb) (ldVals_2_0 vb) (ldVals_2_0 rb)

theorem stepLd_2_1 (B : FVec Ideal S256x512 .f32) (kb : Vec Ideal S1x256x512 .f32) (vb : Vec Ideal S1x256x1024 .bf16)
    (X : Vec Ideal S4x256x128 .f32) :
    stateStep B 2 1 (View.ld kb (Rect.unit ![0, 128, 0] ![1, 64, 512] inb_S1x256x512_S1x64x512_0_128_0))
        (View.ld vb (Rect.unit ![0, 128, 256] ![1, 64, 256] inb_S1x256x1024_S1x64x256_0_128_256)) (part 1 X)
      = part 1 (tileStep B kb vb 2 X) :=
  stateStep_part B 2 1 _ _ kb vb X (ldRows_2 kb) (ldVals_2_1 vb)

theorem outLd_2_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 2 1 (View.ld qb (Rect.unit ![0, 128, 0] ![1, 64, 512] inb_S1x256x512_S1x64x512_0_128_0))
        (View.ld kb (Rect.unit ![0, 128, 0] ![1, 64, 512] inb_S1x256x512_S1x64x512_0_128_0))
        (View.ld vb (Rect.unit ![0, 128, 256] ![1, 64, 256] inb_S1x256x1024_S1x64x256_0_128_256))
        (View.ld rb (Rect.unit ![0, 128, 256] ![1, 64, 256] inb_S1x256x1024_S1x64x256_0_128_256)) g (part 1 X)
      = outPart B qb kb vb rb g 2 1 X :=
  outStep_part B 2 1 _ _ _ _ g qb kb vb rb X (ldRows_2 qb) (ldRows_2 kb) (ldVals_2_1 vb) (ldVals_2_1 rb)

theorem stepLd_2_2 (B : FVec Ideal S256x512 .f32) (kb : Vec Ideal S1x256x512 .f32) (vb : Vec Ideal S1x256x1024 .bf16)
    (X : Vec Ideal S4x256x128 .f32) :
    stateStep B 2 2 (View.ld kb (Rect.unit ![0, 128, 0] ![1, 64, 512] inb_S1x256x512_S1x64x512_0_128_0))
        (View.ld vb (Rect.unit ![0, 128, 512] ![1, 64, 256] inb_S1x256x1024_S1x64x256_0_128_512)) (part 2 X)
      = part 2 (tileStep B kb vb 2 X) :=
  stateStep_part B 2 2 _ _ kb vb X (ldRows_2 kb) (ldVals_2_2 vb)

theorem outLd_2_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 2 2 (View.ld qb (Rect.unit ![0, 128, 0] ![1, 64, 512] inb_S1x256x512_S1x64x512_0_128_0))
        (View.ld kb (Rect.unit ![0, 128, 0] ![1, 64, 512] inb_S1x256x512_S1x64x512_0_128_0))
        (View.ld vb (Rect.unit ![0, 128, 512] ![1, 64, 256] inb_S1x256x1024_S1x64x256_0_128_512))
        (View.ld rb (Rect.unit ![0, 128, 512] ![1, 64, 256] inb_S1x256x1024_S1x64x256_0_128_512)) g (part 2 X)
      = outPart B qb kb vb rb g 2 2 X :=
  outStep_part B 2 2 _ _ _ _ g qb kb vb rb X (ldRows_2 qb) (ldRows_2 kb) (ldVals_2_2 vb) (ldVals_2_2 rb)

theorem stepLd_2_3 (B : FVec Ideal S256x512 .f32) (kb : Vec Ideal S1x256x512 .f32) (vb : Vec Ideal S1x256x1024 .bf16)
    (X : Vec Ideal S4x256x128 .f32) :
    stateStep B 2 3 (View.ld kb (Rect.unit ![0, 128, 0] ![1, 64, 512] inb_S1x256x512_S1x64x512_0_128_0))
        (View.ld vb (Rect.unit ![0, 128, 768] ![1, 64, 256] inb_S1x256x1024_S1x64x256_0_128_768)) (part 3 X)
      = part 3 (tileStep B kb vb 2 X) :=
  stateStep_part B 2 3 _ _ kb vb X (ldRows_2 kb) (ldVals_2_3 vb)

theorem outLd_2_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 2 3 (View.ld qb (Rect.unit ![0, 128, 0] ![1, 64, 512] inb_S1x256x512_S1x64x512_0_128_0))
        (View.ld kb (Rect.unit ![0, 128, 0] ![1, 64, 512] inb_S1x256x512_S1x64x512_0_128_0))
        (View.ld vb (Rect.unit ![0, 128, 768] ![1, 64, 256] inb_S1x256x1024_S1x64x256_0_128_768))
        (View.ld rb (Rect.unit ![0, 128, 768] ![1, 64, 256] inb_S1x256x1024_S1x64x256_0_128_768)) g (part 3 X)
      = outPart B qb kb vb rb g 2 3 X :=
  outStep_part B 2 3 _ _ _ _ g qb kb vb rb X (ldRows_2 qb) (ldRows_2 kb) (ldVals_2_3 vb) (ldVals_2_3 rb)

theorem stepLd_3_0 (B : FVec Ideal S256x512 .f32) (kb : Vec Ideal S1x256x512 .f32) (vb : Vec Ideal S1x256x1024 .bf16)
    (X : Vec Ideal S4x256x128 .f32) :
    stateStep B 3 0 (View.ld kb (Rect.unit ![0, 192, 0] ![1, 64, 512] inb_S1x256x512_S1x64x512_0_192_0))
        (View.ld vb (Rect.unit ![0, 192, 0] ![1, 64, 256] inb_S1x256x1024_S1x64x256_0_192_0)) (part 0 X)
      = part 0 (tileStep B kb vb 3 X) :=
  stateStep_part B 3 0 _ _ kb vb X (ldRows_3 kb) (ldVals_3_0 vb)

theorem outLd_3_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 3 0 (View.ld qb (Rect.unit ![0, 192, 0] ![1, 64, 512] inb_S1x256x512_S1x64x512_0_192_0))
        (View.ld kb (Rect.unit ![0, 192, 0] ![1, 64, 512] inb_S1x256x512_S1x64x512_0_192_0))
        (View.ld vb (Rect.unit ![0, 192, 0] ![1, 64, 256] inb_S1x256x1024_S1x64x256_0_192_0))
        (View.ld rb (Rect.unit ![0, 192, 0] ![1, 64, 256] inb_S1x256x1024_S1x64x256_0_192_0)) g (part 0 X)
      = outPart B qb kb vb rb g 3 0 X :=
  outStep_part B 3 0 _ _ _ _ g qb kb vb rb X (ldRows_3 qb) (ldRows_3 kb) (ldVals_3_0 vb) (ldVals_3_0 rb)

theorem stepLd_3_1 (B : FVec Ideal S256x512 .f32) (kb : Vec Ideal S1x256x512 .f32) (vb : Vec Ideal S1x256x1024 .bf16)
    (X : Vec Ideal S4x256x128 .f32) :
    stateStep B 3 1 (View.ld kb (Rect.unit ![0, 192, 0] ![1, 64, 512] inb_S1x256x512_S1x64x512_0_192_0))
        (View.ld vb (Rect.unit ![0, 192, 256] ![1, 64, 256] inb_S1x256x1024_S1x64x256_0_192_256)) (part 1 X)
      = part 1 (tileStep B kb vb 3 X) :=
  stateStep_part B 3 1 _ _ kb vb X (ldRows_3 kb) (ldVals_3_1 vb)

theorem outLd_3_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 3 1 (View.ld qb (Rect.unit ![0, 192, 0] ![1, 64, 512] inb_S1x256x512_S1x64x512_0_192_0))
        (View.ld kb (Rect.unit ![0, 192, 0] ![1, 64, 512] inb_S1x256x512_S1x64x512_0_192_0))
        (View.ld vb (Rect.unit ![0, 192, 256] ![1, 64, 256] inb_S1x256x1024_S1x64x256_0_192_256))
        (View.ld rb (Rect.unit ![0, 192, 256] ![1, 64, 256] inb_S1x256x1024_S1x64x256_0_192_256)) g (part 1 X)
      = outPart B qb kb vb rb g 3 1 X :=
  outStep_part B 3 1 _ _ _ _ g qb kb vb rb X (ldRows_3 qb) (ldRows_3 kb) (ldVals_3_1 vb) (ldVals_3_1 rb)

theorem stepLd_3_2 (B : FVec Ideal S256x512 .f32) (kb : Vec Ideal S1x256x512 .f32) (vb : Vec Ideal S1x256x1024 .bf16)
    (X : Vec Ideal S4x256x128 .f32) :
    stateStep B 3 2 (View.ld kb (Rect.unit ![0, 192, 0] ![1, 64, 512] inb_S1x256x512_S1x64x512_0_192_0))
        (View.ld vb (Rect.unit ![0, 192, 512] ![1, 64, 256] inb_S1x256x1024_S1x64x256_0_192_512)) (part 2 X)
      = part 2 (tileStep B kb vb 3 X) :=
  stateStep_part B 3 2 _ _ kb vb X (ldRows_3 kb) (ldVals_3_2 vb)

theorem outLd_3_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 3 2 (View.ld qb (Rect.unit ![0, 192, 0] ![1, 64, 512] inb_S1x256x512_S1x64x512_0_192_0))
        (View.ld kb (Rect.unit ![0, 192, 0] ![1, 64, 512] inb_S1x256x512_S1x64x512_0_192_0))
        (View.ld vb (Rect.unit ![0, 192, 512] ![1, 64, 256] inb_S1x256x1024_S1x64x256_0_192_512))
        (View.ld rb (Rect.unit ![0, 192, 512] ![1, 64, 256] inb_S1x256x1024_S1x64x256_0_192_512)) g (part 2 X)
      = outPart B qb kb vb rb g 3 2 X :=
  outStep_part B 3 2 _ _ _ _ g qb kb vb rb X (ldRows_3 qb) (ldRows_3 kb) (ldVals_3_2 vb) (ldVals_3_2 rb)

theorem stepLd_3_3 (B : FVec Ideal S256x512 .f32) (kb : Vec Ideal S1x256x512 .f32) (vb : Vec Ideal S1x256x1024 .bf16)
    (X : Vec Ideal S4x256x128 .f32) :
    stateStep B 3 3 (View.ld kb (Rect.unit ![0, 192, 0] ![1, 64, 512] inb_S1x256x512_S1x64x512_0_192_0))
        (View.ld vb (Rect.unit ![0, 192, 768] ![1, 64, 256] inb_S1x256x1024_S1x64x256_0_192_768)) (part 3 X)
      = part 3 (tileStep B kb vb 3 X) :=
  stateStep_part B 3 3 _ _ kb vb X (ldRows_3 kb) (ldVals_3_3 vb)

theorem outLd_3_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) :
    outStep B 3 3 (View.ld qb (Rect.unit ![0, 192, 0] ![1, 64, 512] inb_S1x256x512_S1x64x512_0_192_0))
        (View.ld kb (Rect.unit ![0, 192, 0] ![1, 64, 512] inb_S1x256x512_S1x64x512_0_192_0))
        (View.ld vb (Rect.unit ![0, 192, 768] ![1, 64, 256] inb_S1x256x1024_S1x64x256_0_192_768))
        (View.ld rb (Rect.unit ![0, 192, 768] ![1, 64, 256] inb_S1x256x1024_S1x64x256_0_192_768)) g (part 3 X)
      = outPart B qb kb vb rb g 3 3 X :=
  outStep_part B 3 3 _ _ _ _ g qb kb vb rb X (ldRows_3 qb) (ldRows_3 kb) (ldVals_3_3 vb) (ldVals_3_3 rb)

theorem outPiece_0_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 0 0 (tileState B kb vb X 0) x
      = tileBlock B qb kb vb rb g X (((Rect.unit ![0, 0, 0] ![1, 64, 256] inb_S1x256x1024_S1x64x256_0_0_0) : Rect S1x256x1024).emb x) := by
  idx_vars x
  obtain rfl : x0 = 0 := Subsingleton.elim _ _
  exact (tileBlock_at B qb kb vb rb g X 0 0 x1 x2).symm.trans
    (ldVals_0_0 (e := .bf16) (tileBlock B qb kb vb rb g X) x1 x2).symm

theorem outPiece_0_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 0 1 (tileState B kb vb X 0) x
      = tileBlock B qb kb vb rb g X (((Rect.unit ![0, 0, 256] ![1, 64, 256] inb_S1x256x1024_S1x64x256_0_0_256) : Rect S1x256x1024).emb x) := by
  idx_vars x
  obtain rfl : x0 = 0 := Subsingleton.elim _ _
  exact (tileBlock_at B qb kb vb rb g X 0 1 x1 x2).symm.trans
    (ldVals_0_1 (e := .bf16) (tileBlock B qb kb vb rb g X) x1 x2).symm

theorem outPiece_0_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 0 2 (tileState B kb vb X 0) x
      = tileBlock B qb kb vb rb g X (((Rect.unit ![0, 0, 512] ![1, 64, 256] inb_S1x256x1024_S1x64x256_0_0_512) : Rect S1x256x1024).emb x) := by
  idx_vars x
  obtain rfl : x0 = 0 := Subsingleton.elim _ _
  exact (tileBlock_at B qb kb vb rb g X 0 2 x1 x2).symm.trans
    (ldVals_0_2 (e := .bf16) (tileBlock B qb kb vb rb g X) x1 x2).symm

theorem outPiece_0_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 0 3 (tileState B kb vb X 0) x
      = tileBlock B qb kb vb rb g X (((Rect.unit ![0, 0, 768] ![1, 64, 256] inb_S1x256x1024_S1x64x256_0_0_768) : Rect S1x256x1024).emb x) := by
  idx_vars x
  obtain rfl : x0 = 0 := Subsingleton.elim _ _
  exact (tileBlock_at B qb kb vb rb g X 0 3 x1 x2).symm.trans
    (ldVals_0_3 (e := .bf16) (tileBlock B qb kb vb rb g X) x1 x2).symm

theorem outPiece_1_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 1 0 (tileState B kb vb X 1) x
      = tileBlock B qb kb vb rb g X (((Rect.unit ![0, 64, 0] ![1, 64, 256] inb_S1x256x1024_S1x64x256_0_64_0) : Rect S1x256x1024).emb x) := by
  idx_vars x
  obtain rfl : x0 = 0 := Subsingleton.elim _ _
  exact (tileBlock_at B qb kb vb rb g X 1 0 x1 x2).symm.trans
    (ldVals_1_0 (e := .bf16) (tileBlock B qb kb vb rb g X) x1 x2).symm

theorem outPiece_1_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 1 1 (tileState B kb vb X 1) x
      = tileBlock B qb kb vb rb g X (((Rect.unit ![0, 64, 256] ![1, 64, 256] inb_S1x256x1024_S1x64x256_0_64_256) : Rect S1x256x1024).emb x) := by
  idx_vars x
  obtain rfl : x0 = 0 := Subsingleton.elim _ _
  exact (tileBlock_at B qb kb vb rb g X 1 1 x1 x2).symm.trans
    (ldVals_1_1 (e := .bf16) (tileBlock B qb kb vb rb g X) x1 x2).symm

theorem outPiece_1_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 1 2 (tileState B kb vb X 1) x
      = tileBlock B qb kb vb rb g X (((Rect.unit ![0, 64, 512] ![1, 64, 256] inb_S1x256x1024_S1x64x256_0_64_512) : Rect S1x256x1024).emb x) := by
  idx_vars x
  obtain rfl : x0 = 0 := Subsingleton.elim _ _
  exact (tileBlock_at B qb kb vb rb g X 1 2 x1 x2).symm.trans
    (ldVals_1_2 (e := .bf16) (tileBlock B qb kb vb rb g X) x1 x2).symm

theorem outPiece_1_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 1 3 (tileState B kb vb X 1) x
      = tileBlock B qb kb vb rb g X (((Rect.unit ![0, 64, 768] ![1, 64, 256] inb_S1x256x1024_S1x64x256_0_64_768) : Rect S1x256x1024).emb x) := by
  idx_vars x
  obtain rfl : x0 = 0 := Subsingleton.elim _ _
  exact (tileBlock_at B qb kb vb rb g X 1 3 x1 x2).symm.trans
    (ldVals_1_3 (e := .bf16) (tileBlock B qb kb vb rb g X) x1 x2).symm

theorem outPiece_2_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 2 0 (tileState B kb vb X 2) x
      = tileBlock B qb kb vb rb g X (((Rect.unit ![0, 128, 0] ![1, 64, 256] inb_S1x256x1024_S1x64x256_0_128_0) : Rect S1x256x1024).emb x) := by
  idx_vars x
  obtain rfl : x0 = 0 := Subsingleton.elim _ _
  exact (tileBlock_at B qb kb vb rb g X 2 0 x1 x2).symm.trans
    (ldVals_2_0 (e := .bf16) (tileBlock B qb kb vb rb g X) x1 x2).symm

theorem outPiece_2_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 2 1 (tileState B kb vb X 2) x
      = tileBlock B qb kb vb rb g X (((Rect.unit ![0, 128, 256] ![1, 64, 256] inb_S1x256x1024_S1x64x256_0_128_256) : Rect S1x256x1024).emb x) := by
  idx_vars x
  obtain rfl : x0 = 0 := Subsingleton.elim _ _
  exact (tileBlock_at B qb kb vb rb g X 2 1 x1 x2).symm.trans
    (ldVals_2_1 (e := .bf16) (tileBlock B qb kb vb rb g X) x1 x2).symm

theorem outPiece_2_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 2 2 (tileState B kb vb X 2) x
      = tileBlock B qb kb vb rb g X (((Rect.unit ![0, 128, 512] ![1, 64, 256] inb_S1x256x1024_S1x64x256_0_128_512) : Rect S1x256x1024).emb x) := by
  idx_vars x
  obtain rfl : x0 = 0 := Subsingleton.elim _ _
  exact (tileBlock_at B qb kb vb rb g X 2 2 x1 x2).symm.trans
    (ldVals_2_2 (e := .bf16) (tileBlock B qb kb vb rb g X) x1 x2).symm

theorem outPiece_2_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 2 3 (tileState B kb vb X 2) x
      = tileBlock B qb kb vb rb g X (((Rect.unit ![0, 128, 768] ![1, 64, 256] inb_S1x256x1024_S1x64x256_0_128_768) : Rect S1x256x1024).emb x) := by
  idx_vars x
  obtain rfl : x0 = 0 := Subsingleton.elim _ _
  exact (tileBlock_at B qb kb vb rb g X 2 3 x1 x2).symm.trans
    (ldVals_2_3 (e := .bf16) (tileBlock B qb kb vb rb g X) x1 x2).symm

theorem outPiece_3_0 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 3 0 (tileState B kb vb X 3) x
      = tileBlock B qb kb vb rb g X (((Rect.unit ![0, 192, 0] ![1, 64, 256] inb_S1x256x1024_S1x64x256_0_192_0) : Rect S1x256x1024).emb x) := by
  idx_vars x
  obtain rfl : x0 = 0 := Subsingleton.elim _ _
  exact (tileBlock_at B qb kb vb rb g X 3 0 x1 x2).symm.trans
    (ldVals_3_0 (e := .bf16) (tileBlock B qb kb vb rb g X) x1 x2).symm

theorem outPiece_3_1 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 3 1 (tileState B kb vb X 3) x
      = tileBlock B qb kb vb rb g X (((Rect.unit ![0, 192, 256] ![1, 64, 256] inb_S1x256x1024_S1x64x256_0_192_256) : Rect S1x256x1024).emb x) := by
  idx_vars x
  obtain rfl : x0 = 0 := Subsingleton.elim _ _
  exact (tileBlock_at B qb kb vb rb g X 3 1 x1 x2).symm.trans
    (ldVals_3_1 (e := .bf16) (tileBlock B qb kb vb rb g X) x1 x2).symm

theorem outPiece_3_2 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 3 2 (tileState B kb vb X 3) x
      = tileBlock B qb kb vb rb g X (((Rect.unit ![0, 192, 512] ![1, 64, 256] inb_S1x256x1024_S1x64x256_0_192_512) : Rect S1x256x1024).emb x) := by
  idx_vars x
  obtain rfl : x0 = 0 := Subsingleton.elim _ _
  exact (tileBlock_at B qb kb vb rb g X 3 2 x1 x2).symm.trans
    (ldVals_3_2 (e := .bf16) (tileBlock B qb kb vb rb g X) x1 x2).symm

theorem outPiece_3_3 (B : FVec Ideal S256x512 .f32) (qb kb : Vec Ideal S1x256x512 .f32) (vb : Vec Ideal S1x256x1024 .bf16)
    (rb : Vec Ideal S1x256x1024 .f32) (g : Vec Ideal S1x256 .f32) (X : Vec Ideal S4x256x128 .f32) (x : S1x64x256.Idx) :
    outPart B qb kb vb rb g 3 3 (tileState B kb vb X 3) x
      = tileBlock B qb kb vb rb g X (((Rect.unit ![0, 192, 768] ![1, 64, 256] inb_S1x256x1024_S1x64x256_0_192_768) : Rect S1x256x1024).emb x) := by
  idx_vars x
  obtain rfl : x0 = 0 := Subsingleton.elim _ _
  exact (tileBlock_at B qb kb vb rb g X 3 3 x1 x2).symm.trans
    (ldVals_3_3 (e := .bf16) (tileBlock B qb kb vb rb g X) x1 x2).symm

end Cert.KernelIdeal.Gla

end

end
-- ==== Proof.Gla.Point.lean ====
/-
  A grid point's scratch and output block: the tile's state after its four chunks, and the tile's outputs.
-/
module

public import proofs.«01_k».proof.Proof.Gla.Loads

@[expose] public section

set_option maxRecDepth 16384

noncomputable section

namespace Cert.KernelIdeal.Gla

open Idealize.ShloMosaic Idealize.ShloMosaic.TcCoe Idealize.SL.Sem
open Cert.KernelIdeal Cert.KernelIdeal.Gen

theorem tileState_4 (B : FVec Ideal S256x512 .f32) (kb : Vec Ideal S1x256x512 .f32) (vb : Vec Ideal S1x256x1024 .bf16)
    (X : Vec Ideal S4x256x128 .f32) :
    tileState B kb vb X 4 = tileStep B kb vb 3 (tileStep B kb vb 2 (tileStep B kb vb 1 (tileStep B kb vb 0 X))) := rfl

variable (m : (ℓ : Loc nD τ sig) → Buf (Elt Ideal) ℓ)

set_option maxHeartbeats 4000000 in
/-- The state a point leaves. -/
theorem state_B (c : Dev nD) (t : Fin cfg0.N) (h : ¬ t.val % 32 = 0) :
    (outsAt0 m c t.val t.isLt).2
      = tileState (k0_pay3 (iblk m c 4 t) (iblk m c 6 t)) (iblk m c 1 t) (iblk m c 2 t) ((outsAt0 m c (t.val - 1) (Nat.lt_of_le_of_lt (Nat.sub_le _ _) t.isLt)).2) 4 := by
  rw [outsAt0_B m c t h]
  dsimp only
  generalize (outsAt0 m c (t.val - 1) (Nat.lt_of_le_of_lt (Nat.sub_le _ _) t.isLt)).2 = X
  frame_open
  simp (disch := decide) only [↓ View.readCov_skip, ↓ View.readCov_cons_toLoadRect, ↓ View.readCov_fill]
  frame_out
  simp only [read_unread_whole, state_0_0, state_0_1, state_0_2, state_0_3, state_1_0, state_1_1, state_1_2, state_1_3, state_2_0, state_2_1, state_2_2, state_2_3, state_3_0, state_3_1, state_3_2, state_3_3, ldState_0, ldState_1, ldState_2, ldState_3,
    stepLd_0_0, stepLd_0_1, stepLd_0_2, stepLd_0_3, stepLd_1_0, stepLd_1_1, stepLd_1_2, stepLd_1_3, stepLd_2_0, stepLd_2_1, stepLd_2_2, stepLd_2_3, stepLd_3_0, stepLd_3_1, stepLd_3_2, stepLd_3_3, ← tileState_4]
  generalize tileState (k0_pay3 (iblk m c 4 t) (iblk m c 6 t)) (iblk m c 1 t) (iblk m c 2 t) X 4 = Z
  funext y
  refine View.canon_append_of_piecesOf _ _ [_, _, _, _] ⟨statePiece_3 Z, statePiece_2 Z, statePiece_1 Z, statePiece_0 Z, trivial⟩ y ?_
  exact View.cover_of_tiledL (s := S4x256x128) _ ![1, 256, 128] (by sl_kernel_rfl) y

set_option maxHeartbeats 8000000 in
/-- The output block of a point. -/
theorem out_B (c : Dev nD) (t : Fin cfg0.N) (h : ¬ t.val % 32 = 0) :
    (outsAt0 m c t.val t.isLt).1
      = tileBlock (k0_pay3 (iblk m c 4 t) (iblk m c 6 t)) (iblk m c 0 t) (iblk m c 1 t) (iblk m c 2 t) (iblk m c 3 t)
          (iblk m c 5 t) ((outsAt0 m c (t.val - 1) (Nat.lt_of_le_of_lt (Nat.sub_le _ _) t.isLt)).2) := by
  rw [outsAt0_B m c t h]
  dsimp only
  generalize (outsAt0 m c (t.val - 1) (Nat.lt_of_le_of_lt (Nat.sub_le _ _) t.isLt)).2 = X
  frame_open
  simp (disch := decide) only [↓ View.readCov_skip, ↓ View.readCov_cons_toLoadRect, ↓ View.readCov_fill]
  frame_out
  simp only [read_unread_whole, state_0_0, state_0_1, state_0_2, state_0_3, state_1_0, state_1_1, state_1_2, state_1_3, state_2_0, state_2_1, state_2_2, state_2_3, state_3_0, state_3_1, state_3_2, state_3_3, out_0_0, out_0_1, out_0_2, out_0_3, out_1_0, out_1_1, out_1_2, out_1_3, out_2_0, out_2_1, out_2_2, out_2_3, out_3_0, out_3_1, out_3_2, out_3_3, ldState_0, ldState_1, ldState_2, ldState_3,
    stepLd_0_0, stepLd_0_1, stepLd_0_2, stepLd_0_3, stepLd_1_0, stepLd_1_1, stepLd_1_2, stepLd_1_3, stepLd_2_0, stepLd_2_1, stepLd_2_2, stepLd_2_3, stepLd_3_0, stepLd_3_1, stepLd_3_2, stepLd_3_3, outLd_0_0, outLd_0_1, outLd_0_2, outLd_0_3, outLd_1_0, outLd_1_1, outLd_1_2, outLd_1_3, outLd_2_0, outLd_2_1, outLd_2_2, outLd_2_3, outLd_3_0, outLd_3_1, outLd_3_2, outLd_3_3]
  funext y
  refine View.canon_append_of_piecesOf _ [] [_, _, _, _, _, _, _, _, _, _, _, _, _, _, _, _] ⟨outPiece_3_3 _ _ _ _ _ _ _, outPiece_3_2 _ _ _ _ _ _ _, outPiece_3_1 _ _ _ _ _ _ _, outPiece_3_0 _ _ _ _ _ _ _, outPiece_2_3 _ _ _ _ _ _ _, outPiece_2_2 _ _ _ _ _ _ _, outPiece_2_1 _ _ _ _ _ _ _, outPiece_2_0 _ _ _ _ _ _ _, outPiece_1_3 _ _ _ _ _ _ _, outPiece_1_2 _ _ _ _ _ _ _, outPiece_1_1 _ _ _ _ _ _ _, outPiece_1_0 _ _ _ _ _ _ _, outPiece_0_3 _ _ _ _ _ _ _, outPiece_0_2 _ _ _ _ _ _ _, outPiece_0_1 _ _ _ _ _ _ _, outPiece_0_0 _ _ _ _ _ _ _, trivial⟩ y ?_
  exact View.cover_of_tiledL (s := S1x256x1024) _ ![1, 64, 256] (by sl_kernel_rfl) y

set_option maxHeartbeats 4000000 in
/-- The state a point leaves, at the first tile (from zero). -/
theorem state_A (c : Dev nD) (t : Fin cfg0.N) (h : t.val % 32 = 0) :
    (outsAt0 m c t.val t.isLt).2
      = tileState (k0_pay3 (iblk m c 4 t) (iblk m c 6 t)) (iblk m c 1 t) (iblk m c 2 t) (k0_pay2 (F := Ideal)) 4 := by
  rw [outsAt0_A m c t h]
  dsimp only
  frame_open
  simp (disch := decide) only [↓ View.readCov_skip, ↓ View.readCov_cons_toLoadRect, ↓ View.readCov_fill]
  frame_out
  simp only [read_unread_whole, state_0_0, state_0_1, state_0_2, state_0_3, state_1_0, state_1_1, state_1_2, state_1_3, state_2_0, state_2_1, state_2_2, state_2_3, state_3_0, state_3_1, state_3_2, state_3_3, ldState_0, ldState_1, ldState_2, ldState_3,
    stepLd_0_0, stepLd_0_1, stepLd_0_2, stepLd_0_3, stepLd_1_0, stepLd_1_1, stepLd_1_2, stepLd_1_3, stepLd_2_0, stepLd_2_1, stepLd_2_2, stepLd_2_3, stepLd_3_0, stepLd_3_1, stepLd_3_2, stepLd_3_3, ← tileState_4]
  generalize tileState (k0_pay3 (iblk m c 4 t) (iblk m c 6 t)) (iblk m c 1 t) (iblk m c 2 t) (k0_pay2 (F := Ideal)) 4 = Z
  funext y
  refine View.canon_append_of_piecesOf _ _ [_, _, _, _] ⟨statePiece_3 Z, statePiece_2 Z, statePiece_1 Z, statePiece_0 Z, trivial⟩ y ?_
  exact View.cover_of_tiledL (s := S4x256x128) _ ![1, 256, 128] (by sl_kernel_rfl) y

set_option maxHeartbeats 8000000 in
/-- The output block of a point, at the first tile. -/
theorem out_A (c : Dev nD) (t : Fin cfg0.N) (h : t.val % 32 = 0) :
    (outsAt0 m c t.val t.isLt).1
      = tileBlock (k0_pay3 (iblk m c 4 t) (iblk m c 6 t)) (iblk m c 0 t) (iblk m c 1 t) (iblk m c 2 t) (iblk m c 3 t)
          (iblk m c 5 t) (k0_pay2 (F := Ideal)) := by
  rw [outsAt0_A m c t h]
  dsimp only
  frame_open
  simp (disch := decide) only [↓ View.readCov_skip, ↓ View.readCov_cons_toLoadRect, ↓ View.readCov_fill]
  frame_out
  simp only [read_unread_whole, state_0_0, state_0_1, state_0_2, state_0_3, state_1_0, state_1_1, state_1_2, state_1_3, state_2_0, state_2_1, state_2_2, state_2_3, state_3_0, state_3_1, state_3_2, state_3_3, out_0_0, out_0_1, out_0_2, out_0_3, out_1_0, out_1_1, out_1_2, out_1_3, out_2_0, out_2_1, out_2_2, out_2_3, out_3_0, out_3_1, out_3_2, out_3_3, ldState_0, ldState_1, ldState_2, ldState_3,
    stepLd_0_0, stepLd_0_1, stepLd_0_2, stepLd_0_3, stepLd_1_0, stepLd_1_1, stepLd_1_2, stepLd_1_3, stepLd_2_0, stepLd_2_1, stepLd_2_2, stepLd_2_3, stepLd_3_0, stepLd_3_1, stepLd_3_2, stepLd_3_3, outLd_0_0, outLd_0_1, outLd_0_2, outLd_0_3, outLd_1_0, outLd_1_1, outLd_1_2, outLd_1_3, outLd_2_0, outLd_2_1, outLd_2_2, outLd_2_3, outLd_3_0, outLd_3_1, outLd_3_2, outLd_3_3]
  funext y
  refine View.canon_append_of_piecesOf _ [] [_, _, _, _, _, _, _, _, _, _, _, _, _, _, _, _] ⟨outPiece_3_3 _ _ _ _ _ _ _, outPiece_3_2 _ _ _ _ _ _ _, outPiece_3_1 _ _ _ _ _ _ _, outPiece_3_0 _ _ _ _ _ _ _, outPiece_2_3 _ _ _ _ _ _ _, outPiece_2_2 _ _ _ _ _ _ _, outPiece_2_1 _ _ _ _ _ _ _, outPiece_2_0 _ _ _ _ _ _ _, outPiece_1_3 _ _ _ _ _ _ _, outPiece_1_2 _ _ _ _ _ _ _, outPiece_1_1 _ _ _ _ _ _ _, outPiece_1_0 _ _ _ _ _ _ _, outPiece_0_3 _ _ _ _ _ _ _, outPiece_0_2 _ _ _ _ _ _ _, outPiece_0_1 _ _ _ _ _ _ _, outPiece_0_0 _ _ _ _ _ _ _, trivial⟩ y ?_
  exact View.cover_of_tiledL (s := S1x256x1024) _ ![1, 64, 256] (by sl_kernel_rfl) y

end Cert.KernelIdeal.Gla

end

end
-- ==== Proof.Gla.Sweep.lean ====
/-
  The grid's sweep: the state a point leaves is the state entering the next chunk, and the output array is `out`
  everywhere.
-/
module

public import proofs.«01_k».proof.Proof.Gla.Blocks
public import proofs.«01_k».proof.Proof.Gla.Point

@[expose] public section

set_option maxRecDepth 16384

noncomputable section

namespace Cert.KernelIdeal.Gla

open Idealize.ShloMosaic Idealize.ShloMosaic.TcCoe Idealize.SL.Sem
open Cert.KernelIdeal Cert.KernelIdeal.Gen Cert.KernelIdeal.Value

/-- The zero fill is the state entering the first chunk. -/
theorem fill_eq (K LA : Vec Ideal S2x8192x512 .f32) (V : Vec Ideal S2x8192x1024 .bf16) (β : Fin 2) :
    k0_pay2 (F := Ideal) = St K LA V β 0 := by
  funext j
  idx_vars j
  pointwise [k0_pay2, St]

variable (m : (ℓ : Loc nD τ sig) → Buf (Elt Ideal) ℓ)

/-- One point's state, from the state it starts from. -/
theorem tile_state (c : Dev nD) (hla : Below (m ((c : Thread nD τ).loc main_arg4))) (t : Fin cfg0.N) :
    tileState (k0_pay3 (iblk m c 4 t) (iblk m c 6 t)) (iblk m c 1 t) (iblk m c 2 t)
        (St (m ((c : Thread nD τ).loc main_arg1)) (m ((c : Thread nD τ).loc main_arg4)) (m ((c : Thread nD τ).loc main_arg2))
          (seqOf t) (4 * (t.val % 32))) 4
      = St (m ((c : Thread nD τ).loc main_arg1)) (m ((c : Thread nD τ).loc main_arg4)) (m ((c : Thread nD τ).loc main_arg2))
          (seqOf t) (4 * (t.val % 32) + 4) :=
  tileState_St _ _ _ _ _ _ _ _ (decays_at m c hla t) (k_at m c t) (v_at m c t) 4 (le_refl 4)

/-- The state every point leaves. -/
theorem sweep (c : Dev nD) (hla : Below (m ((c : Thread nD τ).loc main_arg4))) : ∀ (n : ℕ) (hn : n < cfg0.N),
    (outsAt0 m c n hn).2
      = St (m ((c : Thread nD τ).loc main_arg1)) (m ((c : Thread nD τ).loc main_arg4)) (m ((c : Thread nD τ).loc main_arg2))
          (seqOf ⟨n, hn⟩) (4 * (n % 32) + 4) := by
  intro n
  induction n with
  | zero =>
    intro hn
    rw [state_A m c ⟨0, hn⟩ rfl, fill_eq _ (m ((c : Thread nD τ).loc main_arg4)) _ (seqOf ⟨0, hn⟩)]
    exact tile_state m c hla ⟨0, hn⟩
  | succ n ih =>
    intro hn
    by_cases h : (n + 1) % 32 = 0
    · rw [state_A m c ⟨n + 1, hn⟩ h, ← tile_state m c hla ⟨n + 1, hn⟩]
      congr 1
      rw [show 4 * ((n + 1) % 32) = 0 by omega]
      exact fill_eq _ _ _ _
    · rw [state_B m c ⟨n + 1, hn⟩ h, ← tile_state m c hla ⟨n + 1, hn⟩]
      congr 1
      have e := ih (Nat.lt_of_succ_lt hn)
      rw [show 4 * ((n + 1) % 32) = 4 * (n % 32) + 4 by omega,
        show seqOf ⟨n + 1, hn⟩ = seqOf ⟨n, Nat.lt_of_succ_lt hn⟩ from Fin.ext (by simp only [seqOf]; omega)]
      exact e

/-- The state a point starts from: what the point before it left, or zero at a sequence's first tile. -/
theorem block (c : Dev nD) (hla : Below (m ((c : Thread nD τ).loc main_arg4))) (t : Fin cfg0.N) :
    (outsAt0 m c t.val t.isLt).1
      = tileBlock (k0_pay3 (iblk m c 4 t) (iblk m c 6 t)) (iblk m c 0 t) (iblk m c 1 t) (iblk m c 2 t) (iblk m c 3 t)
          (iblk m c 5 t)
          (St (m ((c : Thread nD τ).loc main_arg1)) (m ((c : Thread nD τ).loc main_arg4)) (m ((c : Thread nD τ).loc main_arg2))
            (seqOf t) (4 * (t.val % 32))) := by
  by_cases h : t.val % 32 = 0
  · rw [out_A m c t h, h]
    congr 1
    exact fill_eq _ _ _ _
  · rw [out_B m c t h, sweep m c hla]
    congr 1
    have e : seqOf ⟨t.val - 1, Nat.lt_of_le_of_lt (Nat.sub_le _ _) t.isLt⟩ = seqOf t := Fin.ext (by simp only [seqOf]; omega)
    rw [e, show 4 * ((t.val - 1) % 32) + 4 = 4 * (t.val % 32) by omega]

/-- The kernel's result, index by index. -/
theorem result_at (c : Dev nD) (hla : Below (m ((c : Thread nD τ).loc main_arg4))) (β : Fin 2) (s : Fin 8192) (w : Fin 1024) :
    (G7 m c : Vec Ideal S2x8192x1024 .bf16) (ix3 β s w)
      = out (m ((c : Thread nD τ).loc main_arg0)) (m ((c : Thread nD τ).loc main_arg1)) (m ((c : Thread nD τ).loc main_arg4))
          (m ((c : Thread nD τ).loc main_arg2)) (m ((c : Thread nD τ).loc main_arg3)) (m ((c : Thread nD τ).loc main_arg5))
          β (s.val / 64) ⟨w.val / 256, by omega⟩ ⟨s.val % 64, Nat.mod_lt _ (by decide)⟩ ⟨w.val % 256, Nat.mod_lt _ (by decide)⟩ := by
  have hp : pt7Of (ix3 β s w) = 32 * β.val + s.val / 256 := by
    have hw : w.val / 1024 = 0 := Nat.div_eq_of_lt w.isLt
    simp only [pt7Of, run7Of, ix3_0, ix3_1, ix3_2, hw]; omega
  have hN : 32 * β.val + s.val / 256 < cfg0.N := by
    rw [show cfg0.N = 64 from N_0]; omega
  let t : Fin cfg0.N := ⟨32 * β.val + s.val / 256, hN⟩
  have e1 : (G7 m c : Vec Ideal S2x8192x1024 .bf16) (ix3 β s w) = (outsAt0 m c t.val t.isLt).1 (loc7Of (ix3 β s w)) := by
    rw [outsAt0_sweep]
    unfold G7
    rw [dif_pos (by rw [hp]; exact hN), fold0_congr m c _ _ _ _ hp]
  have e2 : loc7Of (ix3 β s w) = ix3 0 (rowIn ⟨s.val / 64 % 4, Nat.mod_lt _ (by decide)⟩ ⟨s.val % 64, Nat.mod_lt _ (by decide)⟩)
      (valLane ⟨w.val / 256, by omega⟩ ⟨w.val % 256, Nat.mod_lt _ (by decide)⟩) := by
    funext a
    apply Fin.ext
    match a with
    | ⟨0, _⟩ => show β.val % 1 = 0; omega
    | ⟨1, _⟩ => show s.val % 256 = 64 * (s.val / 64 % 4) + s.val % 64; omega
    | ⟨2, _⟩ => show w.val % 1024 = 256 * (w.val / 256) + w.val % 256; omega
  have e3 : seqOf t = β := Fin.ext (by simp only [seqOf, t]; omega)
  have e4 : 4 * (t.val % 32) + s.val / 64 % 4 = s.val / 64 := by simp only [t]; omega
  rw [e1, e2, block m c hla t, tileBlock_at, tileOut_out _ _ _ _ _ _ _ _ _ _ _ _ _ (decays_at m c hla t) (q_at m c t)
    (k_at m c t) (v_at m c t) (r_at m c t), e3]
  simp only [e4]
  simp only [out, gain_at]

end Cert.KernelIdeal.Gla

end

end
-- ==== Proof.Gla.Window.lean ====
/-
  The reference's running sum of log decays: a window of 64 rows, padded in front with 63 zeros, is the sum of the rows up
  to and including one.
-/
module

public import proofs.«01_k».proof.Proof.Gla.Math
public import proofs.«01_k».proof.Proof.Gen.ReferenceIdeal.Run

@[expose] public section

set_option maxRecDepth 16384

noncomputable section

namespace Cert.ReferenceIdeal.Gla

open Idealize.ShloMosaic Idealize.ShloMosaic.TcCoe Idealize.SL.Sem
open Cert.ReferenceIdeal Cert.ReferenceIdeal.Gen
open Cert.KernelIdeal.Gla (row cum keyLane valLane)

/-- A left fold of additions is the sum of its terms. -/
theorem foldl_add {ι : Type} (f : ι → EReal) (l : List ι) (a : EReal) :
    l.foldl (fun r n => r + f n) a = a + (l.map f).sum := by
  induction l generalizing a with
  | nil => rw [List.foldl_nil, List.map_nil, List.sum_nil, add_zero]
  | cons x l ih => rw [List.foldl_cons, ih, List.map_cons, List.sum_cons, add_assoc]

/-- The window's positions: one row each. -/
def windowRow : Shape.Idx ⟨5, ![1, 1, 64, 1, 1]⟩ ≃ Fin 64 where
  toFun w := w 2
  invFun n := ix5 0 0 n 0 0
  left_inv w := by
    idx_vars w
    obtain rfl : w0 = 0 := Subsingleton.elim _ _
    obtain rfl : w1 = 0 := Subsingleton.elim _ _
    obtain rfl : w3 = 0 := Subsingleton.elim _ _
    obtain rfl : w4 = 0 := Subsingleton.elim _ _
    rfl
  right_inv _ := rfl

/-- Position `n` of the window at row `i` is row `i + n - 63`, where that is a row. -/
theorem window_shift (g : Fin 64 → EReal) (i : Fin 64) :
    (∑ n : Fin 64, if h : 63 ≤ i.val + n.val ∧ i.val + n.val - 63 < 64 then g ⟨i.val + n.val - 63, h.2⟩ else 0)
      = ∑ j : Fin 64, if j ≤ i then g j else 0 := by
  refine (Fintype.sum_equiv (Equiv.subRight (i + 1)) _ _ fun j => ?_).symm
  have e : (Equiv.subRight (i + 1) j).val = (64 - (i.val + 1) % 64 + j.val) % 64 := by
    simp [Equiv.subRight_apply, Fin.sub_def, Fin.add_def]
  have hi := i.isLt
  have hj := j.isLt
  by_cases h : j ≤ i
  · have h' : j.val ≤ i.val := h
    rw [if_pos h, dif_pos (by rw [e]; omega)]
    congr 1
    refine Fin.ext ?_
    show j.val = i.val + (Equiv.subRight (i + 1) j).val - 63
    rw [e]; omega
  · have h' : i.val < j.val := Nat.lt_of_not_le h
    rw [if_neg h, dif_neg (by rw [e]; omega)]

/-- The running sum along the rows of a chunk. -/
theorem running_sum (x : FVec Ideal S2x128x64x4x128 .f32) (init : FVec Ideal S_ .f32) (hinit : ∀ j, (init j : EReal) = 0)
    (hw : S2x128x64x4x128.ReduceWindows ![1, 1, 64, 1, 1] ![1, 1, 1, 1, 1] ![0, 0, 63, 0, 0] ![0, 0, 0, 0, 0] S2x128x64x4x128)
    (hu : 0 < S_.numel) (β : Fin 2) (n : Fin 128) (i : Fin 64) (h : Fin 4) (k : Fin 128) :
    (Host.reduceWindowAdd ![1, 1, 64, 1, 1] ![1, 1, 1, 1, 1] ![0, 0, 63, 0, 0] ![0, 0, 0, 0, 0] x init hw hu (ix5 β n i h k) : EReal)
      = ∑ j : Fin 64, if j ≤ i then (x (ix5 β n j h k) : EReal) else 0 := by
  show Host.reduceWindow (· + ·) ![1, 1, 64, 1, 1] ![1, 1, 1, 1, 1] ![0, 0, 63, 0, 0] ![0, 0, 0, 0, 0] (x : _ → EReal)
    (fun _ : (⟨0, ![]⟩ : Shape).Idx => (init (Shape.Idx.first hu) : EReal)) hw hu (ix5 β n i h k) = _
  unfold Host.reduceWindow
  dsimp only
  rw [hinit]
  refine (foldl_add _ _ _).trans ?_
  rw [zero_add, ← Fin.sum_univ_def]
  rw [← window_shift (fun j => x (ix5 β n j h k)) i]
  refine Fintype.sum_equiv ((Shape.rowMajor ⟨5, ![1, 1, 64, 1, 1]⟩).symm.trans windowRow) _ _ fun w => ?_
  have e0 : ((Shape.rowMajor ⟨5, ![1, 1, 64, 1, 1]⟩).symm w 0).val = 0 := Nat.lt_one_iff.mp ((Shape.rowMajor ⟨5, ![1, 1, 64, 1, 1]⟩).symm w 0).isLt
  have e1 : ((Shape.rowMajor ⟨5, ![1, 1, 64, 1, 1]⟩).symm w 1).val = 0 := Nat.lt_one_iff.mp ((Shape.rowMajor ⟨5, ![1, 1, 64, 1, 1]⟩).symm w 1).isLt
  have e3 : ((Shape.rowMajor ⟨5, ![1, 1, 64, 1, 1]⟩).symm w 3).val = 0 := Nat.lt_one_iff.mp ((Shape.rowMajor ⟨5, ![1, 1, 64, 1, 1]⟩).symm w 3).isLt
  have e4 : ((Shape.rowMajor ⟨5, ![1, 1, 64, 1, 1]⟩).symm w 4).val = 0 := Nat.lt_one_iff.mp ((Shape.rowMajor ⟨5, ![1, 1, 64, 1, 1]⟩).symm w 4).isLt
  have ep : (windowRow ((Shape.rowMajor ⟨5, ![1, 1, 64, 1, 1]⟩).symm w)).val = ((Shape.rowMajor ⟨5, ![1, 1, 64, 1, 1]⟩).symm w 2).val := rfl
  have hw2 : ((Shape.rowMajor ⟨5, ![1, 1, 64, 1, 1]⟩).symm w 2).val < 64 := ((Shape.rowMajor ⟨5, ![1, 1, 64, 1, 1]⟩).symm w 2).isLt
  rw [Equiv.trans_apply]
  have hi := i.isLt
  split
  · next hin =>
    have h2 : 63 ≤ i.val * 1 + ((Shape.rowMajor ⟨5, ![1, 1, 64, 1, 1]⟩).symm w 2).val ∧ i.val * 1 + ((Shape.rowMajor ⟨5, ![1, 1, 64, 1, 1]⟩).symm w 2).val - 63 < 64 := hin 2
    rw [dif_pos (by omega)]
    congr 1
    funext a
    refine Fin.ext ?_
    fin_cases a
    · show β.val * 1 + ((Shape.rowMajor ⟨5, ![1, 1, 64, 1, 1]⟩).symm w 0).val - 0 = β.val
      omega
    · show n.val * 1 + ((Shape.rowMajor ⟨5, ![1, 1, 64, 1, 1]⟩).symm w 1).val - 0 = n.val
      omega
    · show i.val * 1 + ((Shape.rowMajor ⟨5, ![1, 1, 64, 1, 1]⟩).symm w 2).val - 63 = i.val + (windowRow ((Shape.rowMajor ⟨5, ![1, 1, 64, 1, 1]⟩).symm w)).val - 63
      omega
    · show h.val * 1 + ((Shape.rowMajor ⟨5, ![1, 1, 64, 1, 1]⟩).symm w 3).val - 0 = h.val
      omega
    · show k.val * 1 + ((Shape.rowMajor ⟨5, ![1, 1, 64, 1, 1]⟩).symm w 4).val - 0 = k.val
      omega
  · next hin =>
    have hb := β.isLt
    have hn := n.isLt
    have hh := h.isLt
    have hk := k.isLt
    rw [dif_neg fun h2 => hin fun a => ?_]
    fin_cases a
    · show 0 ≤ β.val * 1 + ((Shape.rowMajor ⟨5, ![1, 1, 64, 1, 1]⟩).symm w 0).val ∧ β.val * 1 + ((Shape.rowMajor ⟨5, ![1, 1, 64, 1, 1]⟩).symm w 0).val - 0 < 2
      omega
    · show 0 ≤ n.val * 1 + ((Shape.rowMajor ⟨5, ![1, 1, 64, 1, 1]⟩).symm w 1).val ∧ n.val * 1 + ((Shape.rowMajor ⟨5, ![1, 1, 64, 1, 1]⟩).symm w 1).val - 0 < 128
      omega
    · show 63 ≤ i.val * 1 + ((Shape.rowMajor ⟨5, ![1, 1, 64, 1, 1]⟩).symm w 2).val ∧ i.val * 1 + ((Shape.rowMajor ⟨5, ![1, 1, 64, 1, 1]⟩).symm w 2).val - 63 < 64
      omega
    · show 0 ≤ h.val * 1 + ((Shape.rowMajor ⟨5, ![1, 1, 64, 1, 1]⟩).symm w 3).val ∧ h.val * 1 + ((Shape.rowMajor ⟨5, ![1, 1, 64, 1, 1]⟩).symm w 3).val - 0 < 4
      omega
    · show 0 ≤ k.val * 1 + ((Shape.rowMajor ⟨5, ![1, 1, 64, 1, 1]⟩).symm w 4).val ∧ k.val * 1 + ((Shape.rowMajor ⟨5, ![1, 1, 64, 1, 1]⟩).symm w 4).val - 0 < 128
      omega

end Cert.ReferenceIdeal.Gla

end

end
-- ==== Proof.Gla.RefEntry.lean ====
/-
  What the reference's loop over the chunks starts from.
-/
module

public import proofs.«01_k».proof.Proof.Gla.Window

@[expose] public section

set_option maxRecDepth 16384

noncomputable section

namespace Cert.ReferenceIdeal.Gla

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value
open Cert.KernelIdeal.Gla (row cum keyLane valLane)

variable (m : (ℓ : Loc nD τ sig) → Buf (Elt Ideal) ℓ) (c : Dev nD)

/-- The rows of a chunk, by head and key lane. -/
theorem chunks_key (X : Vec Ideal S2x8192x512 .f32) (hc : S2x8192x512.ShapeCasts S2x128x64x4x128) (β : Fin 2) (n : Fin 128)
    (i : Fin 64) (h : Fin 4) (k : Fin 128) :
    shapeCast S2x128x64x4x128 X hc (ix5 β n i h k) = X (ix3 β (row n i) (keyLane h k)) := by
  pointwise
  refine congrArg X (congrArg₂ (ix3 β) (Fin.ext ?_) (Fin.ext ?_))
  · show n.val * 64 + i.val = (64 * n.val + i.val) % 8192
    omega
  · show h.val * 128 + k.val = 128 * h.val + k.val
    omega

/-- The rows of a chunk, by head and value lane. -/
theorem chunks_val (X : S2x8192x1024.Idx → EReal) (hc : S2x8192x1024.ShapeCasts S2x128x64x4x256) (β : Fin 2)
    (n : Fin 128) (i : Fin 64) (h : Fin 4) (w : Fin 256) :
    shapeCast S2x128x64x4x256 X hc (ix5 β n i h w) = X (ix3 β (row n i) (valLane h w)) := by
  pointwise
  refine congrArg X (congrArg₂ (ix3 β) (Fin.ext ?_) (Fin.ext ?_))
  · show n.val * 64 + i.val = (64 * n.val + i.val) % 8192
    omega
  · show h.val * 256 + w.val = 256 * h.val + w.val
    omega

/-- The reference's cumulative log decays. -/
def runSum (LA : Vec Ideal S2x8192x512 .f32) : FVec Ideal S2x128x64x4x128 .f32 :=
  Host.reduceWindowAdd ![1, 1, 64, 1, 1] ![1, 1, 1, 1, 1] ![0, 0, 63, 0, 0] ![0, 0, 0, 0, 0]
    (shapeCast S2x128x64x4x128 LA shapeCasts_S2x8192x512_S2x128x64x4x128)
    (broadcastInDim S_ ![] bcast_S_S_ (constant S_ .f32 0x00000000#32))
    reduceWindows_S2x128x64x4x128_S2x128x64x4x128_w1s1p0_0_w1s1p0_0_w64s1p63_0_w1s1p0_0_w1s1p0_0 h_S_

theorem runSum_at (LA : Vec Ideal S2x8192x512 .f32) (β : Fin 2) (n : Fin 128) (i : Fin 64) (h : Fin 4) (k : Fin 128) :
    (runSum LA (ix5 β n i h k) : EReal) = cum LA β n i (keyLane h k) := by
  refine (running_sum _ _ (fun j => ?_) _ _ β n i h k).trans ?_
  · pointwise
  · unfold cum
    refine Finset.sum_congr rfl fun j _ => ?_
    rw [chunks_key]

theorem entry_state : (entryContents preI m c (Proc.devRef .tc main_v17_3) : Vec Ideal S2x4x128x256 .f32) = fun _ => (0 : EReal) := by
  simp only [entryContents, afterL_cons, afterL_nil]
  after_reads_simp
  refine congrArg id (funext fun j => ?_)
  show (broadcastInDim S2x4x128x256 ![] bcast_S_S2x4x128x256 (constant (F := Ideal) S_ .f32 0x00000000#32)) j = (0 : EReal)
  pointwise

theorem entry_decay (n : Fin 128) (β : Fin 2) (h : Fin 4) (k : Fin 128) :
    ((entryContents preI m c (Proc.devRef .tc main_v17_0) : Vec Ideal S128x2x4x128 .f32) (ix4 n β h k) : EReal)
      = Ideal.exp (cum (m ((c.tc : Thread nD τ).loc main_arg4)) β n 63 (keyLane h k)) := by
  simp only [entryContents, afterL_cons, afterL_nil]
  after_reads_simp
  simp only [StableHlo.TRef.ofBuf, StableHlo.TRef.toBuf, cast_eq]
  show (transpose S128x2x4x128 [1, 0, 2, 3] (Host.exp (shapeCast S2x128x4x128
    (extractStridedSlice S2x128x1x4x128 ![0, 0, 63, 0, 0] (runSum (m ((c.tc : Thread nD τ).loc main_arg4)))
      slices_S2x128x64x4x128_S2x128x1x4x128_0_0_63_0_0) shapeCasts_S2x128x1x4x128_S2x128x4x128))
    transposes_S2x128x4x128_S128x2x4x128_1_0_2_3 (ix4 n β h k) : EReal) = _
  rw [← runSum_at]
  pointwise

/-- What a chunk adds to the state. -/
def delta (K LA : Vec Ideal S2x8192x512 .f32) (V : Vec Ideal S2x8192x1024 .bf16) (β : Fin 2) (n : ℕ) (h : Fin 4) (k : Fin 128)
    (w : Fin 256) : EReal :=
  ∑ i : Fin 64, K (ix3 β (row n i) (keyLane h k)) * Ideal.exp (cum LA β n 63 (keyLane h k) - cum LA β n i (keyLane h k))
    * V (ix3 β (row n i) (valLane h w))

/-- The same as the reference writes it. -/
theorem delta_at (K LA : Vec Ideal S2x8192x512 .f32) (V : Vec Ideal S2x8192x1024 .bf16) (n : Fin 128) (β : Fin 2) (h : Fin 4)
    (k : Fin 128) (w : Fin 256) :
    (transpose S128x2x4x128x256 [1, 0, 2, 3, 4] (Host.dotGeneral (F := Ideal)
      dot_S2x128x64x4x128_S2x128x64x4x256_S2x128x4x128x256_2_2_4_4_013_013 none
      (mulf (shapeCast S2x128x64x4x128 K shapeCasts_S2x8192x512_S2x128x64x4x128)
        (Host.exp (subf (broadcastInDim S2x128x64x4x128 ![0, 1, 2, 3, 4] bcast_S2x128x1x4x128_S2x128x64x4x128_0_1_2_3_4
          (extractStridedSlice S2x128x1x4x128 ![0, 0, 63, 0, 0] (runSum LA)
            slices_S2x128x64x4x128_S2x128x1x4x128_0_0_63_0_0)) (runSum LA))))
      (shapeCast S2x128x64x4x256 (extf .f32 (V : FVec Ideal S2x8192x1024 .bf16) bitsLt_bf16_f32)
        shapeCasts_S2x8192x1024_S2x128x64x4x256))
    transposes_S2x128x4x128x256_S128x2x4x128x256_1_0_2_3_4 (ix5 n β h k w) : EReal) = delta K LA V β n h k w := by
  simp only [delta, ← runSum_at, ← chunks_key _ shapeCasts_S2x8192x512_S2x128x64x4x128,
    ← chunks_val _ shapeCasts_S2x8192x1024_S2x128x64x4x256]
  generalize runSum LA = B
  pointwise

theorem entry_delta (n : Fin 128) (β : Fin 2) (h : Fin 4) (k : Fin 128) (w : Fin 256) :
    (entryContents preI m c (Proc.devRef .tc main_v17_1) : Vec Ideal S128x2x4x128x256 .f32) (ix5 n β h k w)
      = delta (m ((c.tc : Thread nD τ).loc main_arg1)) (m ((c.tc : Thread nD τ).loc main_arg4))
          (m ((c.tc : Thread nD τ).loc main_arg2)) β n h k w := by
  rw [← delta_at]
  simp only [entryContents, afterL_cons, afterL_nil]
  after_reads_simp
  simp only [StableHlo.TRef.ofBuf, StableHlo.TRef.toBuf, cast_eq]
  rfl

end Cert.ReferenceIdeal.Gla

end

end
-- ==== Proof.Gla.RefLoop.lean ====
/-
  The reference's loop over the chunks: after `k` trips the carried state is the state entering chunk `k`, and the first `k`
  rows of the collected starts are the states entering the chunks before it.
-/
module

public import proofs.«01_k».proof.Proof.Gla.RefEntry
public import Idealize.ShloMosaic.Lib.DynamicIndex
public import Idealize.ShloMosaic.Lib.StableHlo.Predicate

@[expose] public section

set_option maxRecDepth 16384

noncomputable section

namespace Cert.ReferenceIdeal.Gla

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value
open Cert.KernelIdeal.Gla (row cum keyLane valLane St)

/-- Row `n` of the chunks' decays, which a trip takes. -/
theorem decay_row (x : Vec Ideal S128x2x4x128 .f32) (ctr : (⟨S_, .i32⟩ : BufTy).Contents (Elt Ideal)) (n : Fin 128)
    (hctr : (ctr (Shape.Idx.first h_S_)).toInt = n.val) (β : Fin 2) (h : Fin 4) (k : Fin 128) :
    shapeCast S2x4x128 (Host.dynamicSlice S1x2x4x128 x (fun a => (((![ctr, constantI S_ 32 0#32, constantI S_ 32 0#32,
      constantI S_ 32 0#32] : Fin 4 → (⟨S_, .i32⟩ : BufTy).Contents (Elt Ideal))) a (Shape.Idx.first h_S_)).toInt)
      sliceFits_S128x2x4x128_S1x2x4x128) shapeCasts_S1x2x4x128_S2x4x128 (ix3 β h k) = x (ix4 n β h k) := by
  have hs : S128x2x4x128.Slices ![n.val, 0, 0, 0] S1x2x4x128 := ⟨rfl, fun a => by
    have := n.isLt
    fin_cases a
    · show n.val + 1 ≤ 128
      omega
    all_goals exact Nat.le_of_eq rfl⟩
  rw [Host.dynamicSlice_eq_extractStridedSlice S1x2x4x128 x _ ![n.val, 0, 0, 0] _ hs (fun a => by
    fin_cases a
    · exact hctr
    all_goals rfl)]
  pointwise

/-- Row `n` of what the chunks add. -/
theorem delta_row (x : Vec Ideal S128x2x4x128x256 .f32) (ctr : (⟨S_, .i32⟩ : BufTy).Contents (Elt Ideal)) (n : Fin 128)
    (hctr : (ctr (Shape.Idx.first h_S_)).toInt = n.val) (β : Fin 2) (h : Fin 4) (k : Fin 128) (w : Fin 256) :
    shapeCast S2x4x128x256 (Host.dynamicSlice S1x2x4x128x256 x (fun a => (((![ctr, constantI S_ 32 0#32, constantI S_ 32 0#32,
      constantI S_ 32 0#32, constantI S_ 32 0#32] : Fin 5 → (⟨S_, .i32⟩ : BufTy).Contents (Elt Ideal))) a
      (Shape.Idx.first h_S_)).toInt) sliceFits_S128x2x4x128x256_S1x2x4x128x256) shapeCasts_S1x2x4x128x256_S2x4x128x256
      (ix4 β h k w) = x (ix5 n β h k w) := by
  have hs : S128x2x4x128x256.Slices ![n.val, 0, 0, 0, 0] S1x2x4x128x256 := ⟨rfl, fun a => by
    have := n.isLt
    fin_cases a
    · show n.val + 1 ≤ 128
      omega
    all_goals exact Nat.le_of_eq rfl⟩
  rw [Host.dynamicSlice_eq_extractStridedSlice S1x2x4x128x256 x _ ![n.val, 0, 0, 0, 0] _ hs (fun a => by
    fin_cases a
    · exact hctr
    all_goals rfl)]
  pointwise

/-- A trip writes row `n` of the collected starts. -/
theorem start_row (x : Vec Ideal S128x2x4x128x256 .f32) (y : Vec Ideal S2x4x128x256 .f32)
    (ctr : (⟨S_, .i32⟩ : BufTy).Contents (Elt Ideal)) (n : Fin 128) (hctr : (ctr (Shape.Idx.first h_S_)).toInt = n.val)
    (r : Fin 128) (β : Fin 2) (h : Fin 4) (k : Fin 128) (w : Fin 256) :
    Host.dynamicUpdateSlice x (broadcastInDim S1x2x4x128x256 ![1, 2, 3, 4] bcast_S2x4x128x256_S1x2x4x128x256_1_2_3_4 y)
      (fun a => (((![ctr, constantI S_ 32 0#32, constantI S_ 32 0#32,
      constantI S_ 32 0#32, constantI S_ 32 0#32] : Fin 5 → (⟨S_, .i32⟩ : BufTy).Contents (Elt Ideal))) a
      (Shape.Idx.first h_S_)).toInt) updateFits_S128x2x4x128x256_S1x2x4x128x256 (ix5 r β h k w)
      = if r = n then y (ix4 β h k w) else x (ix5 r β h k w) := by
  have hs : S128x2x4x128x256.Slices ![n.val, 0, 0, 0, 0] S1x2x4x128x256 := ⟨rfl, fun a => by
    have := n.isLt
    fin_cases a
    · show n.val + 1 ≤ 128
      omega
    all_goals exact Nat.le_of_eq rfl⟩
  rw [WordCmp.dynamicUpdateSlice_eq_update x _ _ _ ![n.val, 0, 0, 0, 0] hs (fun a => by
    fin_cases a
    · exact hctr
    all_goals rfl)]
  by_cases hr : r = n
  · subst hr
    rw [if_pos rfl]
    pointwise
    exact dif_pos ⟨Nat.le_refl _, Nat.lt_succ_self _⟩
  · rw [if_neg hr]
    pointwise
    exact dif_neg fun q => hr (Fin.ext (by omega))

/-- A trip's new state at an index. -/
theorem trip_at (d : FVec Ideal S2x4x128 .f32) (x e : FVec Ideal S2x4x128x256 .f32) (β : Fin 2) (h : Fin 4) (k : Fin 128)
    (w : Fin 256) :
    (addf (mulf (broadcastInDim S2x4x128x256 ![0, 1, 2, 3] bcast_S2x4x128x1_S2x4x128x256_0_1_2_3
      (broadcastInDim S2x4x128x1 ![0, 1, 2] bcast_S2x4x128_S2x4x128x1_0_1_2 d)) x) e (ix4 β h k w) : EReal)
      = d (ix3 β h k) * x (ix4 β h k w) + e (ix4 β h k w) := by
  pointwise

variable (m : (ℓ : Loc nD τ sig) → Buf (Elt Ideal) ℓ) (c : Dev nD)

/-- The counter after `k` trips. -/
theorem counter (k : ℕ) (hk : k < 128) :
    (((STEP^[k] (entryContents preI m c)) (Proc.devRef .tc main_v17_2) : (⟨S_, .i32⟩ : BufTy).Contents (Elt Ideal))
      (Shape.Idx.first h_S_)).toInt = k := by
  rw [← atK_agree m c k main_v17_2 (by decide), atK_ctr]
  show (Scf.iv 0#32 1#32 k).toInt = k
  rw [Scf.iv, BitVec.zero_add, BitVec.mul_one]
  exact Predicate.toInt_ofNat_small _ (by omega)

theorem decay_kept (k : ℕ) : (STEP^[k] (entryContents preI m c)) (Proc.devRef .tc main_v17_0)
    = entryContents preI m c (Proc.devRef .tc main_v17_0) := by
  induction k with
  | zero => rfl
  | succ k ih => rw [Function.iterate_succ_apply', STEP_main_v17_0, ih]

theorem delta_kept (k : ℕ) : (STEP^[k] (entryContents preI m c)) (Proc.devRef .tc main_v17_1)
    = entryContents preI m c (Proc.devRef .tc main_v17_1) := by
  induction k with
  | zero => rfl
  | succ k ih => rw [Function.iterate_succ_apply', STEP_main_v17_1, ih]

/-- The state after `k` trips. -/
theorem state_after (k : ℕ) (hk : k ≤ 128) (β : Fin 2) (h : Fin 4) (κ : Fin 128) (w : Fin 256) :
    ((STEP^[k] (entryContents preI m c)) (Proc.devRef .tc main_v17_3) : Vec Ideal S2x4x128x256 .f32) (ix4 β h κ w)
      = St (m ((c.tc : Thread nD τ).loc main_arg1)) (m ((c.tc : Thread nD τ).loc main_arg4))
          (m ((c.tc : Thread nD τ).loc main_arg2)) β k (ix3 h w κ) := by
  induction k with
  | zero => exact congrFun (entry_state m c) _
  | succ k ih =>
    have hk' : k < 128 := hk
    rw [Function.iterate_succ_apply', STEP_main_v17_3]
    unfold step_main_v17_3
    rw [decay_kept, delta_kept]
    refine (trip_at _ _ _ β h κ w).trans ?_
    refine (congrArg₂ (· + ·) (congrArg₂ (· * ·) (decay_row _ _ ⟨k, hk'⟩ (counter m c k hk') β h κ) (ih (Nat.le_of_lt hk')))
      (delta_row _ _ ⟨k, hk'⟩ (counter m c k hk') β h κ w)).trans ?_
    rw [entry_decay, entry_delta]
    unfold delta
    show _ = (St _ _ _ β k (ix3 h w κ) : EReal) * Ideal.exp (cum _ β k 63 (keyLane h κ)) + _
    rw [mul_comm]
    exact congrArg _ (Finset.sum_congr rfl fun i _ => mul_comm _ _)

/-- The starts collected by `k` trips. -/
theorem starts_after (k : ℕ) (hk : k ≤ 128) (r : Fin 128) (hr : r.val < k) (β : Fin 2) (h : Fin 4) (κ : Fin 128) (w : Fin 256) :
    ((STEP^[k] (entryContents preI m c)) (Proc.devRef .tc main_v17_4) : Vec Ideal S128x2x4x128x256 .f32) (ix5 r β h κ w)
      = St (m ((c.tc : Thread nD τ).loc main_arg1)) (m ((c.tc : Thread nD τ).loc main_arg4))
          (m ((c.tc : Thread nD τ).loc main_arg2)) β r (ix3 h w κ) := by
  induction k with
  | zero => exact absurd hr (Nat.not_lt_zero _)
  | succ k ih =>
    have hk' : k < 128 := hk
    rw [Function.iterate_succ_apply', STEP_main_v17_4]
    unfold step_main_v17_4
    refine (start_row _ _ _ ⟨k, hk'⟩ (counter m c k hk') r β h κ w).trans ?_
    by_cases e : r = ⟨k, hk'⟩
    · subst e
      rw [if_pos rfl]
      exact state_after m c k (Nat.le_of_lt hk') β h κ w
    · rw [if_neg e]
      have e' : r.val ≠ k := fun q => e (Fin.ext q)
      exact ih (Nat.le_of_lt hk') (by omega)

end Cert.ReferenceIdeal.Gla

end

end
-- ==== Proof.Gla.RefOut.lean ====
/-
  The reference's output from the collected starts: at every index it is the kernel's.
-/
module

public import proofs.«01_k».proof.Proof.Gla.RefLoop

@[expose] public section

set_option maxRecDepth 16384

noncomputable section

namespace Cert.ReferenceIdeal.Gla

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value
open Cert.KernelIdeal.Gla (row cum keyLane valLane St head out)

/-- The queries, scaled and decayed. -/
def qdec (Q LA : Vec Ideal S2x8192x512 .f32) : FVec Ideal S2x128x64x4x128 .f32 :=
  mulf (mulf (shapeCast S2x128x64x4x128 Q shapeCasts_S2x8192x512_S2x128x64x4x128)
    (broadcastInDim S2x128x64x4x128 ![] bcast_S_S2x128x64x4x128 (constant (F := Ideal) S_ .f32 0x3DB504F3#32))) (Host.exp (runSum LA))

/-- The keys, their decay undone. -/
def kdec (K LA : Vec Ideal S2x8192x512 .f32) : FVec Ideal S2x128x64x4x128 .f32 :=
  mulf (shapeCast S2x128x64x4x128 K shapeCasts_S2x8192x512_S2x128x64x4x128) (Host.exp (Host.negf (runSum LA)))

/-- The scores of a chunk, masked. -/
def att (q k : FVec Ideal S2x128x64x4x128 .f32) : FVec Ideal S2x128x4x64x64 .f32 :=
  select (broadcastInDim S2x128x4x64x64 ![3, 4] bcast_S64x64_S2x128x4x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))
    (Host.dotGeneral dot_S2x128x64x4x128_S2x128x64x4x128_S2x128x4x64x64_4_4_2_2_013_013 none q k)
    (broadcastInDim S2x128x4x64x64 ![] bcast_S_S2x128x4x64x64 (id (constant S_ .f32 0x00000000#32)))

/-- What a chunk's own rows give. -/
def intra (V : Vec Ideal S2x8192x1024 .bf16) (a : FVec Ideal S2x128x4x64x64 .f32) : FVec Ideal S2x128x64x4x256 .f32 :=
  transpose S2x128x64x4x256 [0, 1, 4, 2, 3]
    (Host.dotGeneral dot_S2x128x64x4x256_S2x128x4x64x64_S2x128x4x256x64_2_4_4_3_013_012 none
      (shapeCast S2x128x64x4x256 (extf .f32 (V : FVec Ideal S2x8192x1024 .bf16) bitsLt_bf16_f32) shapeCasts_S2x8192x1024_S2x128x64x4x256) a)
    transposes_S2x128x4x256x64_S2x128x64x4x256_0_1_4_2_3

/-- What the state entering it gives. -/
def inter (q : FVec Ideal S2x128x64x4x128 .f32) (S : Vec Ideal S128x2x4x128x256 .f32) : FVec Ideal S2x128x64x4x256 .f32 :=
  transpose S2x128x64x4x256 [0, 1, 4, 2, 3]
    (Host.dotGeneral (F := Ideal) (φ₁ := .f32) dot_S2x128x4x128x256_S2x128x64x4x128_S2x128x4x256x64_3_4_4_2_012_013 none
      (transpose S2x128x4x128x256 [1, 0, 2, 3, 4] (S : FVec Ideal S128x2x4x128x256 .f32) transposes_S128x2x4x128x256_S2x128x4x128x256_1_0_2_3_4) q)
    transposes_S2x128x4x256x64_S2x128x64x4x256_0_1_4_2_3

set_option maxHeartbeats 2000000 in
/-- The normalisation, the gain and the gate. -/
def finish (H : FVec Ideal S2x8192x4x256 .f32) (g : Vec Ideal S1x256 .f32) (R : Vec Ideal S2x8192x1024 .f32) :
    FVec Ideal S2x8192x1024 .bf16 :=
  truncf .bf16 (shapeCast S2x8192x1024 (mulf (mulf (mulf H (broadcastInDim S2x8192x4x256 ![0, 1, 2, 3] bcast_S2x8192x4x1_S2x8192x4x256_0_1_2_3 (Host.rsqrt (addf (Host.divf (broadcastInDim S2x8192x4x1 ![0, 1, 2] bcast_S2x8192x4_S2x8192x4x1_0_1_2 (Host.reduceAdd (mulf H H) (constant S_ .f32 0x00000000#32) reducesTo_S2x8192x4x256_S2x8192x4_d3 h_S_)) (broadcastInDim S2x8192x4x1 ![] bcast_S_S2x8192x4x1 (constant S_ .f32 0x43800000#32))) (broadcastInDim S2x8192x4x1 ![] bcast_S_S2x8192x4x1 (constant S_ .f32 0x358637BD#32)))))) (broadcastInDim S2x8192x4x256 ![0, 1, 2, 3] bcast_S1x1x1x256_S2x8192x4x256_0_1_2_3 (broadcastInDim S1x1x1x256 ![3] bcast_S256_S1x1x1x256_3 (shapeCast S256 (g : FVec Ideal S1x256 .f32) shapeCasts_S1x256_S256)))) (mulf (shapeCast S2x8192x4x256 (R : FVec Ideal S2x8192x1024 .f32) shapeCasts_S2x8192x1024_S2x8192x4x256) (Host.divf (broadcastInDim S2x8192x4x256 ![] bcast_S_S2x8192x4x256 (constant S_ .f32 0x3F800000#32)) (addf (broadcastInDim S2x8192x4x256 ![] bcast_S_S2x8192x4x256 (constant S_ .f32 0x3F800000#32)) (Host.exp (Host.negf (shapeCast S2x8192x4x256 (R : FVec Ideal S2x8192x1024 .f32) shapeCasts_S2x8192x1024_S2x8192x4x256))))))) shapeCasts_S2x8192x4x256_S2x8192x1024) bitsLt_bf16_f32

set_option maxHeartbeats 2000000 in
theorem out_eq (V0 : Valuation τ sig (Elt Ideal)) :
    out_main_v60 V0 = finish (shapeCast S2x8192x4x256
        (addf (intra (V0 (Proc.devRef .tc main_arg2))
            (att (qdec (V0 (Proc.devRef .tc main_arg0)) (V0 (Proc.devRef .tc main_arg4)))
              (kdec (V0 (Proc.devRef .tc main_arg1)) (V0 (Proc.devRef .tc main_arg4)))))
          (inter (qdec (V0 (Proc.devRef .tc main_arg0)) (V0 (Proc.devRef .tc main_arg4))) (V0 (Proc.devRef .tc main_v17_4))))
        shapeCasts_S2x128x64x4x256_S2x8192x4x256) (V0 (Proc.devRef .tc main_arg5)) (V0 (Proc.devRef .tc main_arg3)) := rfl

theorem qdec_at (Q LA : Vec Ideal S2x8192x512 .f32) (β : Fin 2) (n : Fin 128) (i : Fin 64) (h : Fin 4) (k : Fin 128) :
    (qdec Q LA (ix5 β n i h k) : EReal)
      = Q (ix3 β (row n i) (keyLane h k)) * Ideal.ofBits .f32 0x3DB504F3#32 * Ideal.exp (cum LA β n i (keyLane h k)) := by
  rw [← runSum_at, ← chunks_key Q shapeCasts_S2x8192x512_S2x128x64x4x128]
  unfold qdec
  generalize runSum LA = B
  pointwise

theorem kdec_at (K LA : Vec Ideal S2x8192x512 .f32) (β : Fin 2) (n : Fin 128) (i : Fin 64) (h : Fin 4) (k : Fin 128) :
    (kdec K LA (ix5 β n i h k) : EReal)
      = K (ix3 β (row n i) (keyLane h k)) * Ideal.exp (0 - cum LA β n i (keyLane h k)) := by
  rw [← runSum_at, ← chunks_key K shapeCasts_S2x8192x512_S2x128x64x4x128]
  unfold kdec
  generalize runSum LA = B
  pointwise
  rw [zero_sub]

theorem att_at (q k : FVec Ideal S2x128x64x4x128 .f32) (β : Fin 2) (n : Fin 128) (i j : Fin 64) (h : Fin 4) :
    (att q k (ix5 β n h i j) : EReal)
      = Scalar.select (IntOp.cmpi .sge (BitVec.ofNat 32 ↑i) (BitVec.ofNat 32 ↑j))
          (∑ κ : Fin 128, q (ix5 β n i h κ) * k (ix5 β n j h κ) : EReal) (0 : EReal) := by
  unfold att
  pointwise
  show Scalar.select (Scalar.select (IntOp.cmpi .sge (BitVec.ofNat 32 ↑i + 0#32) (BitVec.ofNat 32 ↑j)) 1#1 0#1) _
    (Ideal.ofBits .f32 0#32) = _
  rw [BitVec.add_zero, Ideal.ofBits_zero_f32]
  by_cases e : IntOp.cmpi .sge (BitVec.ofNat 32 ↑i) (BitVec.ofNat 32 ↑j) = 1#1
  · simp [Scalar.select, e]
  · simp [Scalar.select, e]

theorem intra_at (V : Vec Ideal S2x8192x1024 .bf16) (a : FVec Ideal S2x128x4x64x64 .f32) (β : Fin 2) (n : Fin 128) (i : Fin 64)
    (h : Fin 4) (w : Fin 256) :
    (intra V a (ix5 β n i h w) : EReal) = ∑ j : Fin 64, a (ix5 β n h i j) * V (ix3 β (row n j) (valLane h w)) := by
  simp only [← chunks_val V shapeCasts_S2x8192x1024_S2x128x64x4x256]
  unfold intra
  pointwise
  exact Finset.sum_congr rfl fun j _ => mul_comm _ _

theorem inter_at (q : FVec Ideal S2x128x64x4x128 .f32) (S : Vec Ideal S128x2x4x128x256 .f32) (β : Fin 2) (n : Fin 128) (i : Fin 64)
    (h : Fin 4) (w : Fin 256) :
    (inter q S (ix5 β n i h w) : EReal) = ∑ k : Fin 128, q (ix5 β n i h k) * S (ix5 n β h k w) := by
  unfold inter
  pointwise
  exact Finset.sum_congr rfl fun j _ => mul_comm _ _

theorem finish_at (H : FVec Ideal S2x8192x4x256 .f32) (g : Vec Ideal S1x256 .f32) (R : Vec Ideal S2x8192x1024 .f32)
    (β : Fin 2) (s : Fin 8192) (w : Fin 1024) (h : Fin 4) (v : Fin 256) (hh : h.val = w.val / 256) (hv : v.val = w.val % 256) :
    (finish H g R (ix3 β s w) : EReal)
      = H (ix4 β s h v) * Ideal.rsqrt (Ideal.div (∑ w : Fin 256, H (ix4 β s h w) * H (ix4 β s h w))
          (Ideal.ofBits .f32 0x43800000#32) + Ideal.ofBits .f32 0x358637BD#32)
      * g (ix2 0 v) * (R (ix3 β s w) * Ideal.logistic (R (ix3 β s w))) := by
  obtain rfl : h = ⟨w.val / 256, Nat.div_lt_of_lt_mul (show w.val < 256 * 4 from w.isLt)⟩ := Fin.ext hh
  obtain rfl : v = ⟨w.val % 256, Nat.mod_lt _ (by decide)⟩ := Fin.ext hv
  unfold finish
  pointwise
  rfl

variable (m : (ℓ : Loc nD τ sig) → Buf (Elt Ideal) ℓ) (c : Dev nD)

/-- The attention output of a head, as the reference computes it. -/
theorem head_at (Q K LA : Vec Ideal S2x8192x512 .f32) (V : Vec Ideal S2x8192x1024 .bf16) (S : Vec Ideal S128x2x4x128x256 .f32)
    (hS : ∀ (n : Fin 128) β h k w, S (ix5 n β h k w) = St K LA V β n (ix3 h w k)) (β : Fin 2) (s : Fin 8192) (h : Fin 4)
    (w : Fin 256) :
    (shapeCast S2x8192x4x256 (addf (intra V (att (qdec Q LA) (kdec K LA))) (inter (qdec Q LA) S))
        shapeCasts_S2x128x64x4x256_S2x8192x4x256 (ix4 β s h w) : EReal)
      = head Q K LA V β (s.val / 64) h ⟨s.val % 64, Nat.mod_lt _ (by decide)⟩ w := by
  have e : (shapeCast S2x8192x4x256 (addf (intra V (att (qdec Q LA) (kdec K LA))) (inter (qdec Q LA) S))
        shapeCasts_S2x128x64x4x256_S2x8192x4x256 (ix4 β s h w) : EReal)
      = intra V (att (qdec Q LA) (kdec K LA)) (ix5 β ⟨s.val / 64, by omega⟩ ⟨s.val % 64, by omega⟩ h w)
        + inter (qdec Q LA) S (ix5 β ⟨s.val / 64, by omega⟩ ⟨s.val % 64, by omega⟩ h w) := by
    generalize intra V (att (qdec Q LA) (kdec K LA)) = A
    generalize inter (qdec Q LA) S = B
    pointwise
  rw [e, intra_at, inter_at]
  unfold head
  refine congrArg₂ (· + ·) (Finset.sum_congr rfl fun j _ => ?_) (Finset.sum_congr rfl fun k _ => ?_)
  · rw [att_at]
    simp only [qdec_at, kdec_at]
    by_cases e : IntOp.cmpi .sge (BitVec.ofNat 32 (s.val % 64)) (BitVec.ofNat 32 ↑j) = 1#1
    · simp [Scalar.select, e]
    · simp [Scalar.select, e]
  · rw [qdec_at, hS]

/-- The reference's result at an index. -/
theorem result_at (β : Fin 2) (s : Fin 8192) (w : Fin 1024) :
    (out_main_v60 (STEP^[128] (entryContents preI m c)) : Vec Ideal S2x8192x1024 .bf16) (ix3 β s w)
      = out (m ((c.tc : Thread nD τ).loc main_arg0)) (m ((c.tc : Thread nD τ).loc main_arg1))
          (m ((c.tc : Thread nD τ).loc main_arg4)) (m ((c.tc : Thread nD τ).loc main_arg2))
          (m ((c.tc : Thread nD τ).loc main_arg3)) (m ((c.tc : Thread nD τ).loc main_arg5)) β (s.val / 64)
          ⟨w.val / 256, by omega⟩ ⟨s.val % 64, by omega⟩ ⟨w.val % 256, by omega⟩ := by
  rw [out_eq, iter_main_arg0, iter_main_arg1, iter_main_arg2, iter_main_arg3, iter_main_arg4, iter_main_arg5]
  have hS := starts_after m c 128 (le_refl _)
  generalize STEP^[128] (entryContents preI m c) (Proc.devRef .tc main_v17_4) = S at hS
  refine (finish_at _ _ _ β s w ⟨w.val / 256, by omega⟩ ⟨w.val % 256, by omega⟩ rfl rfl).trans ?_
  unfold out
  have hr : row (s.val / 64) ⟨s.val % 64, by omega⟩ = s := Fin.ext (by
    show (64 * (s.val / 64) + s.val % 64) % 8192 = s.val
    omega)
  have hw : valLane ⟨w.val / 256, by omega⟩ ⟨w.val % 256, by omega⟩ = w := Fin.ext (Nat.div_add_mod w.val 256)
  rw [hr, hw]
  simp only [head_at _ _ _ _ S (fun n β h k w => hS n n.isLt β h k w)]

end Cert.ReferenceIdeal.Gla

end

end
-- ==== Proof.Gla.Equal.lean ====
/-
  The gated linear attention: the two runs joined. Both programs end with `out` of the arguments.
-/
module

public import proofs.«01_k».proof.Defs
public import proofs.«01_k».proof.Proof.Gla.Sweep
public import proofs.«01_k».proof.Proof.Gla.RefOut
public import proofs.«01_k».proof.Proof.Gen.Pre_decays_below_infinity
public import Idealize.ShloMosaic.Lib.Quiescent

@[expose] public section

set_option maxRecDepth 16384

noncomputable section

namespace Cert.Proof.Gla

open Idealize.ShloMosaic Idealize.ShloMosaic.TcCoe Idealize.SL.Sem
open Cert.KernelIdeal.Gla (Below)

/-- What the precondition says of the log decays. -/
theorem below (q k : FVec Ideal Cert.KernelIdeal.S2x8192x512 .f32) (v : FVec Ideal Cert.KernelIdeal.S2x8192x1024 .bf16)
    (r : FVec Ideal Cert.KernelIdeal.S2x8192x1024 .f32) (la : FVec Ideal Cert.KernelIdeal.S2x8192x512 .f32)
    (g : FVec Ideal Cert.KernelIdeal.S1x256 .f32)
    (h : Cert.Pre_decays_below_infinity.fn (F := Ideal) q k v r la g = fun _ => 1#1) : Below la := by
  intro i
  have hi := congrFun h i
  have htop : Ideal.ofBits .f32 0x7F800000#32 = ⊤ := by simp [Ideal.ofBits, Ideal.ieee]
  change Ideal.cmp .olt (la i) (Ideal.ofBits .f32 0x7F800000#32) = 1#1 at hi
  rw [htop] at hi
  by_contra hn
  simp [Ideal.cmp, hn] at hi

/-- The reference ends with its arguments unchanged; it declares no semaphore. -/
theorem reference_frame :
    Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The results are equal, entry by entry. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hb : Below (m ((c : Thread Cert.KernelIdeal.nD Cert.KernelIdeal.τ).loc Cert.KernelIdeal.main_arg4)))
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5)) :
    (Cert.ReferenceIdeal.Value.out_main_v60 (Cert.ReferenceIdeal.Value.STEP^[128]
        (StableHlo.entryContents Cert.ReferenceIdeal.Value.preI m' c)) : Vec Ideal Cert.KernelIdeal.S2x8192x1024 .bf16)
      = Cert.KernelIdeal.Value.G7 m c := by
  funext j
  idx_vars j
  refine (Cert.ReferenceIdeal.Gla.result_at m' c j0 j1 j2).trans ?_
  rw [h0, h1, h2, h3, h4, h5]
  exact (Cert.KernelIdeal.Gla.result_at m c hb j0 j1 j2).symm

/-- The value claim of the gated linear attention. -/
theorem algebraic : Cert.algebraic_KernelIdeal_ReferenceIdeal_pre_decays_below_infinity
    (hKernelIdeal := Cert.KernelIdeal.Gen.facts) (hReferenceIdeal := Cert.ReferenceIdeal.Gen.facts)
    (hPre_decays_below_infinity := Cert.Pre_decays_below_infinity.Gen.facts) := by
  intro m g m' g' hpre hargs
  refine ⟨fun c => Cert.KernelIdeal.Value.G7 m c, Cert.KernelIdeal.Value.run m g, ?_⟩
  refine (θ_run _ _ _).mono (fun r h c => ⟨(h c).1.trans ?_, (h c).2⟩) (Cert.ReferenceIdeal.Value.run m' g')
  obtain ⟨h0, h1, h2, h3, h4, h5⟩ := hargs c
  exact value m m' c (below _ _ _ _ _ _ (hpre c)) h0 h1 h2 h3 h4 h5

end Cert.Proof.Gla

end
-- ==== Proof.Ffn.Math.lean ====
/-
  The feed-forward block as mathematics: the out-projection's residual, the modulated norm, the projection, the causal
  convolution of the gate over three rows, the gated product, the down-projection's residual and the final norm.
-/
module

public import Idealize.ShloMosaic.Lib.Pointwise
public import Idealize.ShloMosaic.Lib.Pipeline.ValueKit

@[expose] public section

noncomputable section

namespace Cert.FeedForward

open Idealize.ShloMosaic

/-- The column of the gate's half that hidden column `f` is. -/
def lo (f : Fin 2816) : Fin 5632 := ⟨f.val, lt_trans f.isLt (by decide)⟩

/-- The column of the other half. -/
def hi (f : Fin 2816) : Fin 5632 := ⟨2816 + f.val, Nat.add_lt_add_left f.isLt 2816⟩

/-- The gated product at one entry, from the three rows of the gate, the other half's entry and the taps. -/
def gated (a a1 a2 u w2 w1 w0 b : EReal) : EReal :=
  ((w2 * a + w1 * a1 + w0 * a2 + b) * Ideal.logistic (w2 * a + w1 * a1 + w0 * a2 + b)) * u

/-- The factor that brings a row to root mean square one. -/
def scale (v : Fin 1024 → EReal) : EReal :=
  Ideal.rsqrt (Ideal.div (∑ k, v k * v k) (Ideal.ofBits .f32 0x44800000#32) + Ideal.ofBits .f32 0x358637BD#32)

/-- What the block reads. -/
structure Args where
  /-- attention output -/
  o : Fin 2 → Fin 8192 → Fin 1024 → EReal
  /-- out-projection -/
  wo : Fin 1024 → Fin 1024 → EReal
  /-- residual stream -/
  x : Fin 2 → Fin 8192 → Fin 1024 → EReal
  /-- modulation rows -/
  md : Fin 2 → Fin 6 → Fin 1024 → EReal
  /-- norm's gain -/
  gn : Fin 1024 → EReal
  /-- up-projection -/
  wu : Fin 1024 → Fin 5632 → EReal
  /-- convolution taps -/
  cw : Fin 3 → Fin 2816 → EReal
  /-- convolution bias -/
  cb : Fin 2816 → EReal
  /-- down-projection -/
  wd : Fin 2816 → Fin 1024 → EReal
  /-- final norm's gain -/
  fg : Fin 1024 → EReal

variable (a : Args)

/-- The stream after the out-projection. -/
def mid (b : Fin 2) (s : Fin 8192) (j : Fin 1024) : EReal := a.x b s j + a.md b 2 j * ∑ k, a.o b s k * a.wo k j

/-- The stream normalized and modulated. -/
def normed (b : Fin 2) (s : Fin 8192) (j : Fin 1024) : EReal :=
  mid a b s j * scale (mid a b s) * a.gn j * (1 + a.md b 4 j) + a.md b 3 j

/-- The projected hidden entries. -/
def up (b : Fin 2) (s : Fin 8192) (g : Fin 5632) : EReal := ∑ k, normed a b s k * a.wu k g

/-- The gate `n` rows back: zero before the sequence's first row. -/
def back (n : ℕ) (b : Fin 2) (s : Fin 8192) (f : Fin 2816) : EReal :=
  if n ≤ s.val then up a b ⟨s.val - n, lt_of_le_of_lt (Nat.sub_le _ _) s.isLt⟩ (lo f) else 0

/-- The gated products. -/
def act (b : Fin 2) (s : Fin 8192) (f : Fin 2816) : EReal :=
  gated (up a b s (lo f)) (back a 1 b s f) (back a 2 b s f) (up a b s (hi f)) (a.cw 2 f) (a.cw 1 f) (a.cw 0 f) (a.cb f)

/-- The stream after the down-projection. -/
def last (b : Fin 2) (s : Fin 8192) (j : Fin 1024) : EReal := mid a b s j + a.md b 5 j * ∑ f, act a b s f * a.wd f j

/-- The block's result. -/
def result (b : Fin 2) (s : Fin 8192) (j : Fin 1024) : EReal := last a b s j * scale (last a b s) * a.fg j

end Cert.FeedForward

end
-- ==== Proof.Ffn.Chunk.lean ====
/-
  A column chunk of the hidden layer at one tile of rows: the projections of the tile, the convolution with the two rows
  before it, and the gated product, for a chunk that begins at any column.
-/
module

public import proofs.«01_k».proof.Proof.Ffn.Math
public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Cert.FeedForward (lo hi gated)

/-- Column `j` of the chunk that begins at column `o`. -/
def col (o : ℕ) (ho : o + 256 ≤ 2816) (j : Fin 256) : Fin 2816 := ⟨o + j.val, lt_of_lt_of_le (Nat.add_lt_add_left j.isLt o) ho⟩

/-- A projected entry. -/
def hid (h : FVec Ideal S512x1024 .bf16) (w : Vec Ideal S1024x5632 .bf16) (r : Fin 512) (g : Fin 5632) : EReal :=
  ∑ k : Fin 1024, h (ix2 r k) * w (ix2 k g)

/-- The gate's projection one row back: the carried last row at the tile's first row. -/
def back1 (h : FVec Ideal S512x1024 .bf16) (w : Vec Ideal S1024x5632 .bf16) (X : Vec Ideal S8x2816 .f32) (r : Fin 512)
    (f : Fin 2816) : EReal :=
  if r.val = 0 then X (ix2 7 f) else hid h w ⟨r.val - 1, lt_of_le_of_lt (Nat.sub_le _ _) r.isLt⟩ (lo f)

/-- Two rows back: the carried last two rows at the tile's first two rows. -/
def back2 (h : FVec Ideal S512x1024 .bf16) (w : Vec Ideal S1024x5632 .bf16) (X : Vec Ideal S8x2816 .f32) (r : Fin 512)
    (f : Fin 2816) : EReal :=
  if r.val = 0 then X (ix2 6 f) else
    if r.val = 1 then X (ix2 7 f) else hid h w ⟨r.val - 2, lt_of_le_of_lt (Nat.sub_le _ _) r.isLt⟩ (lo f)

/-- The tile's gated products. -/
def tileAct (h : FVec Ideal S512x1024 .bf16) (w : Vec Ideal S1024x5632 .bf16) (cw : Vec Ideal S3x2816 .f32)
    (cb : Vec Ideal S1x2816 .f32) (X : Vec Ideal S8x2816 .f32) : FVec Ideal S512x2816 .bf16 := fun j =>
  gated (hid h w (j 0) (lo (j 1))) (back1 h w X (j 0) (j 1)) (back2 h w X (j 0) (j 1)) (hid h w (j 0) (hi (j 1)))
    (cw (ix2 2 (j 1))) (cw (ix2 1 (j 1))) (cw (ix2 0 (j 1))) (cb (ix2 0 (j 1)))

/-- The rows the tile leaves for the next one: its last eight. -/
def tileCarry (h : FVec Ideal S512x1024 .bf16) (w : Vec Ideal S1024x5632 .bf16) : Vec Ideal S8x2816 .f32 := fun j =>
  hid h w ⟨504 + (j 0).val, Nat.add_lt_add_left (show (j 0).val < 8 from (j 0).isLt) 504⟩ (lo (j 1))

/-- A chunk's gated products from what it loads. -/
def chunkAct (h : FVec Ideal S512x1024 .bf16) (wa wu : Vec Ideal S1024x256 .bf16) (P : Vec Ideal S8x256 .f32)
    (w2 w1 w0 b : Vec Ideal S1x256 .f32) : FVec Ideal S512x256 .bf16 :=
  k0_pay20 (iota Kind.tc S512x256 32 [0] iota_S512x256_d0_w32) (k0_pay15 h wa) (k0_pay16 h wu) P
    (k0_pay17 h (iota Kind.tc S512x256 32 [0] iota_S512x256_d0_w32) wa P)
    (k0_pay18 (iota Kind.tc S512x256 32 [0] iota_S512x256_d0_w32)) w2 w1 w0 b

/-- A chunk's last eight rows. -/
def chunkCarry (h : FVec Ideal S512x1024 .bf16) (wa : Vec Ideal S1024x256 .bf16) : FVec Ideal S8x256 .f32 :=
  k0_pay19 (k0_pay15 h wa)

section
variable (h : FVec Ideal S512x1024 .bf16) (wa wu : Vec Ideal S1024x256 .bf16) (P : Vec Ideal S8x256 .f32)
  (w2 w1 w0 b : Vec Ideal S1x256 .f32)

theorem proj_at (r : Fin 512) (j : Fin 256) :
    k0_pay15 h wa (ix2 r j) = ∑ k : Fin 1024, h (ix2 r k) * wa (ix2 k j) := by
  pointwise [k0_pay15]

theorem proj'_at (r : Fin 512) (j : Fin 256) :
    k0_pay16 h wu (ix2 r j) = ∑ k : Fin 1024, h (ix2 r k) * wu (ix2 k j) := by
  pointwise [k0_pay16]

theorem chunkCarry_at (r : Fin 8) (j : Fin 256) :
    chunkCarry h wa (ix2 r j) = k0_pay15 h wa (ix2 ⟨504 + r.val, Nat.add_lt_add_left r.isLt 504⟩ j) := by
  unfold chunkCarry
  generalize k0_pay15 h wa = A
  pointwise [k0_pay19]

/-- A select on a row number being a small constant. -/
theorem select_row {α : Type} (r : Fin 512) (n : ℕ) (hn : n < 512) (a b : α) :
    Scalar.select (IntOp.cmpi .eq (BitVec.ofNat 32 r.val) (BitVec.ofNat 32 n)) a b = if r.val = n then a else b := by
  have e : IntOp.cmpi .eq (BitVec.ofNat 32 r.val) (BitVec.ofNat 32 n) = BitVec.ofBool (decide (r.val = n)) :=
    WordCmp.cmpi_eq_ofNat (w := 32) (lt_trans r.isLt (by decide)) (lt_trans hn (by decide))
  rw [e]
  by_cases hr : r.val = n
  · rw [if_pos hr, decide_eq_true hr]
    rfl
  · rw [if_neg hr, decide_eq_false hr]
    rfl

theorem back_at (r : Fin 512) (j : Fin 256) :
    k0_pay17 h (iota Kind.tc S512x256 32 [0] iota_S512x256_d0_w32) wa P (ix2 r j)
      = if r.val = 0 then P (ix2 7 j) else k0_pay15 h wa (ix2 ⟨r.val - 1, lt_of_le_of_lt (Nat.sub_le _ _) r.isLt⟩ j) := by
  unfold k0_pay17
  generalize k0_pay15 h wa = A
  pointwise
  refine (select_row r 0 (by decide) _ _).trans ?_
  by_cases hr : r.val = 0
  · rw [if_pos hr, if_pos hr]
  · rw [if_neg hr, if_neg hr]
    refine congrArg (fun i => A (ix2 i j)) (Fin.ext ?_)
    show (r.val + 512 - 1) % 512 = r.val - 1
    have := r.isLt
    omega

theorem chunkAct_at (r : Fin 512) (j : Fin 256) :
    chunkAct h wa wu P w2 w1 w0 b (ix2 r j)
      = gated (k0_pay15 h wa (ix2 r j))
          (if r.val = 0 then P (ix2 7 j) else k0_pay15 h wa (ix2 ⟨r.val - 1, lt_of_le_of_lt (Nat.sub_le _ _) r.isLt⟩ j))
          (if r.val = 0 then P (ix2 6 j) else
            if r.val = 1 then P (ix2 7 j) else
              k0_pay15 h wa (ix2 ⟨r.val - 2, lt_of_le_of_lt (Nat.sub_le _ _) r.isLt⟩ j))
          (k0_pay16 h wu (ix2 r j)) (w2 (ix2 0 j)) (w1 (ix2 0 j)) (w0 (ix2 0 j)) (b (ix2 0 j)) := by
  rw [← back_at]
  unfold chunkAct
  generalize k0_pay17 h (iota Kind.tc S512x256 32 [0] iota_S512x256_d0_w32) wa P = A1
  generalize k0_pay15 h wa = A
  generalize k0_pay16 h wu = U
  have e : (if r.val = 0 then P (ix2 6 j) else
            if r.val = 1 then P (ix2 7 j) else
              A (ix2 ⟨r.val - 2, lt_of_le_of_lt (Nat.sub_le _ _) r.isLt⟩ j))
      = Scalar.select (IntOp.cmpi .eq (BitVec.ofNat 32 r.val) (BitVec.ofNat 32 0)) (P (ix2 6 j))
          (Scalar.select (IntOp.cmpi .eq (BitVec.ofNat 32 r.val) (BitVec.ofNat 32 1)) (P (ix2 7 j))
            (A (ix2 ⟨(r.val + 512 - 2) % 512, Nat.mod_lt _ (by decide)⟩ j))) := by
    rw [select_row r 0 (by decide), select_row r 1 (by decide)]
    by_cases h0 : r.val = 0
    · rw [if_pos h0, if_pos h0]
    · rw [if_neg h0, if_neg h0]
      by_cases h1 : r.val = 1
      · rw [if_pos h1, if_pos h1]
      · rw [if_neg h1, if_neg h1]
        refine congrArg (fun i => A (ix2 i j)) (Fin.ext ?_)
        show r.val - 2 = (r.val + 512 - 2) % 512
        have := r.isLt
        omega
  rw [e]
  pointwise [k0_pay20, k0_pay18, gated]

end

/-! A chunk's loads, at any column. -/

section
variable (o : ℕ) (ho : o + 256 ≤ 2816)

theorem ldGate (w : Vec Ideal S1024x5632 .bf16) (inb : ∀ a, (![0, o] : Fin 2 → ℕ) a + S1024x256.size a ≤ S1024x5632.size a)
    (k : Fin 1024) (j : Fin 256) :
    View.ld w (Rect.unit (s := S1024x5632) ![0, o] ![1024, 256] inb) (ix2 k j) = w (ix2 k (lo (col o ho j))) := by
  pointwise [lo, col]

theorem ldUp (w : Vec Ideal S1024x5632 .bf16)
    (inb : ∀ a, (![0, o + 2816] : Fin 2 → ℕ) a + S1024x256.size a ≤ S1024x5632.size a) (k : Fin 1024) (j : Fin 256) :
    View.ld w (Rect.unit (s := S1024x5632) ![0, o + 2816] ![1024, 256] inb) (ix2 k j) = w (ix2 k (hi (col o ho j))) := by
  refine congrArg w (funext fun a => ?_)
  refine Fin.ext ?_
  fin_cases a
  · show 0 + 1 * k.val = k.val
    omega
  · show o + 2816 + 1 * j.val = 2816 + (o + j.val)
    omega

theorem ldPrev (X : Vec Ideal S8x2816 .f32) (inb : ∀ a, (![0, o] : Fin 2 → ℕ) a + S8x256.size a ≤ S8x2816.size a)
    (r : Fin 8) (j : Fin 256) :
    View.ld X (Rect.unit (s := S8x2816) ![0, o] ![8, 256] inb) (ix2 r j) = X (ix2 r (col o ho j)) := by
  pointwise [col]

theorem ldTap (cw : Vec Ideal S3x2816 .f32) (i : Fin 3)
    (inb : ∀ a, (![i.val, o] : Fin 2 → ℕ) a + S1x256.size a ≤ S3x2816.size a) (j : Fin 256) :
    View.ld cw (Rect.unit (s := S3x2816) ![i.val, o] ![1, 256] inb) (ix2 0 j) = cw (ix2 i (col o ho j)) := by
  refine congrArg cw (funext fun a => ?_)
  refine Fin.ext ?_
  fin_cases a
  · show i.val + 1 * 0 = i.val
    omega
  · show o + 1 * j.val = o + j.val
    omega

theorem ldBias (cb : Vec Ideal S1x2816 .f32) (inb : ∀ a, (![0, o] : Fin 2 → ℕ) a + S1x256.size a ≤ S1x2816.size a)
    (j : Fin 256) :
    View.ld cb (Rect.unit (s := S1x2816) ![0, o] ![1, 256] inb) (ix2 0 j) = cb (ix2 0 (col o ho j)) := by
  pointwise [col]

end

theorem chunkAct_eq (o : ℕ) (ho : o + 256 ≤ 2816) (h : FVec Ideal S512x1024 .bf16) (wa wu : Vec Ideal S1024x256 .bf16)
    (P : Vec Ideal S8x256 .f32) (w2 w1 w0 b : Vec Ideal S1x256 .f32) (w : Vec Ideal S1024x5632 .bf16)
    (cw : Vec Ideal S3x2816 .f32) (cb : Vec Ideal S1x2816 .f32) (X : Vec Ideal S8x2816 .f32)
    (hwa : ∀ k j, wa (ix2 k j) = w (ix2 k (lo (col o ho j)))) (hwu : ∀ k j, wu (ix2 k j) = w (ix2 k (hi (col o ho j))))
    (hP : ∀ r j, P (ix2 r j) = X (ix2 r (col o ho j))) (h2 : ∀ j, w2 (ix2 0 j) = cw (ix2 2 (col o ho j)))
    (h1 : ∀ j, w1 (ix2 0 j) = cw (ix2 1 (col o ho j))) (h0 : ∀ j, w0 (ix2 0 j) = cw (ix2 0 (col o ho j)))
    (hb : ∀ j, b (ix2 0 j) = cb (ix2 0 (col o ho j))) (r : Fin 512) (j : Fin 256) :
    chunkAct h wa wu P w2 w1 w0 b (ix2 r j) = tileAct h w cw cb X (ix2 r (col o ho j)) := by
  rw [chunkAct_at]
  simp only [proj_at, proj'_at, hwa, hwu, hP, h2, h1, h0, hb]
  rfl

theorem chunkCarry_eq (o : ℕ) (ho : o + 256 ≤ 2816) (h : FVec Ideal S512x1024 .bf16) (wa : Vec Ideal S1024x256 .bf16)
    (w : Vec Ideal S1024x5632 .bf16) (hwa : ∀ k j, wa (ix2 k j) = w (ix2 k (lo (col o ho j)))) (r : Fin 8) (j : Fin 256) :
    chunkCarry h wa (ix2 r j) = tileCarry h w (ix2 r (col o ho j)) := by
  rw [chunkCarry_at, proj_at]
  simp only [hwa]
  rfl

/-- A chunk's stored gated products are the tile's, at the chunk's columns. -/
theorem act_piece (o : ℕ) (ho : o + 256 ≤ 2816) (h : FVec Ideal S512x1024 .bf16) (w : Vec Ideal S1024x5632 .bf16)
    (cw : Vec Ideal S3x2816 .f32) (cb : Vec Ideal S1x2816 .f32) (X : Vec Ideal S8x2816 .f32)
    (i0 : ∀ a, (![0, o] : Fin 2 → ℕ) a + S1024x256.size a ≤ S1024x5632.size a)
    (i1 : ∀ a, (![0, o + 2816] : Fin 2 → ℕ) a + S1024x256.size a ≤ S1024x5632.size a)
    (i2 : ∀ a, (![0, o] : Fin 2 → ℕ) a + S8x256.size a ≤ S8x2816.size a)
    (i3 : ∀ a, (![2, o] : Fin 2 → ℕ) a + S1x256.size a ≤ S3x2816.size a)
    (i4 : ∀ a, (![1, o] : Fin 2 → ℕ) a + S1x256.size a ≤ S3x2816.size a)
    (i5 : ∀ a, (![0, o] : Fin 2 → ℕ) a + S1x256.size a ≤ S3x2816.size a)
    (i6 : ∀ a, (![0, o] : Fin 2 → ℕ) a + S1x256.size a ≤ S1x2816.size a)
    (i7 : ∀ a, (![0, o] : Fin 2 → ℕ) a + S512x256.size a ≤ S512x2816.size a) (x : S512x256.Idx) :
    chunkAct h (View.ld w (Rect.unit (s := S1024x5632) ![0, o] ![1024, 256] i0))
        (View.ld w (Rect.unit (s := S1024x5632) ![0, o + 2816] ![1024, 256] i1))
        (View.ld X (Rect.unit (s := S8x2816) ![0, o] ![8, 256] i2))
        (View.ld cw (Rect.unit (s := S3x2816) ![2, o] ![1, 256] i3))
        (View.ld cw (Rect.unit (s := S3x2816) ![1, o] ![1, 256] i4))
        (View.ld cw (Rect.unit (s := S3x2816) ![0, o] ![1, 256] i5))
        (View.ld cb (Rect.unit (s := S1x2816) ![0, o] ![1, 256] i6)) x
      = tileAct h w cw cb X ((Rect.unit (s := S512x2816) ![0, o] ![512, 256] i7).emb x) := by
  obtain ⟨r, j, rfl⟩ : ∃ (r : Fin 512) (j : Fin 256), x = ix2 r j :=
    ⟨x 0, x 1, funext fun a => by fin_cases a <;> rfl⟩
  have e : (Rect.unit (s := S512x2816) ![0, o] ![512, 256] i7).emb (ix2 r j) = ix2 r (col o ho j) := by
    funext a
    refine Fin.ext ?_
    fin_cases a
    · show 0 + 1 * r.val = r.val
      omega
    · show o + 1 * j.val = o + j.val
      omega
  rw [e]
  exact chunkAct_eq o ho h _ _ _ _ _ _ _ w cw cb X (ldGate o ho w i0) (ldUp o ho w i1) (ldPrev o ho X i2)
    (ldTap o ho cw 2 i3) (ldTap o ho cw 1 i4) (ldTap o ho cw 0 i5) (ldBias o ho cb i6) r j

/-- A chunk's stored last rows are the tile's, at the chunk's columns. -/
theorem carry_piece (o : ℕ) (ho : o + 256 ≤ 2816) (h : FVec Ideal S512x1024 .bf16) (w : Vec Ideal S1024x5632 .bf16)
    (i0 : ∀ a, (![0, o] : Fin 2 → ℕ) a + S1024x256.size a ≤ S1024x5632.size a)
    (i1 : ∀ a, (![0, o] : Fin 2 → ℕ) a + S8x256.size a ≤ S8x2816.size a) (x : S8x256.Idx) :
    chunkCarry h (View.ld w (Rect.unit (s := S1024x5632) ![0, o] ![1024, 256] i0)) x
      = tileCarry h w ((Rect.unit (s := S8x2816) ![0, o] ![8, 256] i1).emb x) := by
  obtain ⟨r, j, rfl⟩ : ∃ (r : Fin 8) (j : Fin 256), x = ix2 r j :=
    ⟨x 0, x 1, funext fun a => by fin_cases a <;> rfl⟩
  have e : (Rect.unit (s := S8x2816) ![0, o] ![8, 256] i1).emb (ix2 r j) = ix2 r (col o ho j) := by
    funext a
    refine Fin.ext ?_
    fin_cases a
    · show 0 + 1 * r.val = r.val
      omega
    · show o + 1 * j.val = o + j.val
      omega
  rw [e]
  exact chunkCarry_eq o ho h _ w (ldGate o ho w i0) r j

end Cert.Kernel2Ideal.Ffn
-- ==== Proof.Ffn.Payloads.lean ====
/-
  What each of the eleven column chunks stores is the one chunk's computation of `Chunk`, on what that chunk loads.
-/
module

public import proofs.«01_k».proof.Proof.Ffn.Chunk

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

variable (h : FVec Ideal S512x1024 .bf16) (wa wu : Vec Ideal S1024x256 .bf16) (P : Vec Ideal S8x256 .f32)
  (w2 w1 w0 b : Vec Ideal S1x256 .f32) (s c : FVec Ideal S1x1024 .f32) (n g : FVec Ideal S512x1024 .f32)

theorem act_0 : k0_pay14 (k0_pay9 s c n g wa) (k0_pay10 s c n g wu) (k0_pay11 s c n g wa P) (k0_pay12 s c n g wa P) w2 w1 w0 b
    = chunkAct (k0_pay8 s c n g) wa wu P w2 w1 w0 b := rfl

theorem act_1 : k0_pay20 (iota Kind.tc S512x256 32 [0] iota_S512x256_d0_w32) (k0_pay15 h wa) (k0_pay16 h wu) P (k0_pay17 h (iota Kind.tc S512x256 32 [0] iota_S512x256_d0_w32) wa P) (k0_pay18 (iota Kind.tc S512x256 32 [0] iota_S512x256_d0_w32)) w2 w1 w0 b
    = chunkAct h wa wu P w2 w1 w0 b := rfl

theorem act_2 : k0_pay28 (k0_pay23 h wu) (k0_pay24 h (iota Kind.tc S512x256 32 [0] iota_S512x256_d0_w32) (k0_pay21 wa) P) (k0_pay26 h (iota Kind.tc S512x256 32 [0] iota_S512x256_d0_w32) (k0_pay21 wa) P w2 w1) (k0_pay27 w0) b
    = chunkAct h wa wu P w2 w1 w0 b := rfl

theorem act_3 : k0_pay35 (k0_pay29 h wa) (k0_pay30 h wu) (k0_pay31 h (iota Kind.tc S512x256 32 [0] iota_S512x256_d0_w32) wa P) (k0_pay32 h (iota Kind.tc S512x256 32 [0] iota_S512x256_d0_w32) wa P) w2 w1 w0 b
    = chunkAct h wa wu P w2 w1 w0 b := rfl

theorem act_4 : k0_pay41 (k0_pay40 (iota Kind.tc S512x256 32 [0] iota_S512x256_d0_w32) (k0_pay36 h wa) (k0_pay37 h wu) P (k0_pay38 (iota Kind.tc S512x256 32 [0] iota_S512x256_d0_w32)) w2 w1 w0 b)
    = chunkAct h wa wu P w2 w1 w0 b := rfl

theorem act_5 : k0_pay48 (k0_pay43 h wu) (k0_pay44 h (iota Kind.tc S512x256 32 [0] iota_S512x256_d0_w32) wa P) (k0_pay45 h (iota Kind.tc S512x256 32 [0] iota_S512x256_d0_w32) wa P) (k0_pay47 h wa w2) w1 w0 b
    = chunkAct h wa wu P w2 w1 w0 b := rfl

theorem act_6 : k0_pay57 (k0_pay49 h wa) (k0_pay50 h wu) (k0_pay51 h (iota Kind.tc S512x256 32 [0] iota_S512x256_d0_w32) wa P) (k0_pay52 (iota Kind.tc S512x256 32 [0] iota_S512x256_d0_w32)) (k0_pay53 P) (k0_pay54 (iota Kind.tc S512x256 32 [0] iota_S512x256_d0_w32)) (k0_pay55 P) w2 w1 w0 b
    = chunkAct h wa wu P w2 w1 w0 b := rfl

theorem act_7 : k0_pay62 (k0_pay59 h wu) (k0_pay61 (iota Kind.tc S512x256 32 [0] iota_S512x256_d0_w32) (k0_pay58 h wa) P w2 w1 w0) b
    = chunkAct h wa wu P w2 w1 w0 b := rfl

theorem act_8 : k0_pay68 (k0_pay63 h wa) (k0_pay64 h wu) (k0_pay65 h (iota Kind.tc S512x256 32 [0] iota_S512x256_d0_w32) wa P) (k0_pay66 h (iota Kind.tc S512x256 32 [0] iota_S512x256_d0_w32) wa P) w2 w1 w0 b
    = chunkAct h wa wu P w2 w1 w0 b := rfl

theorem act_9 : k0_pay75 (iota Kind.tc S512x256 32 [0] iota_S512x256_d0_w32) (k0_pay69 h wa) (k0_pay70 h wu) P (k0_pay71 (iota Kind.tc S512x256 32 [0] iota_S512x256_d0_w32)) (k0_pay72 h wa) (k0_pay73 P) w2 w1 w0 b
    = chunkAct h wa wu P w2 w1 w0 b := rfl

theorem act_10 : k0_pay81 (k0_pay77 h wu) (k0_pay78 h (iota Kind.tc S512x256 32 [0] iota_S512x256_d0_w32) wa P) (k0_pay80 h (iota Kind.tc S512x256 32 [0] iota_S512x256_d0_w32) wa P w2 w1) w0 b
    = chunkAct h wa wu P w2 w1 w0 b := rfl

theorem carry_0 : k0_pay13 s c n g wa = chunkCarry (k0_pay8 s c n g) wa := rfl

theorem carry_1 : k0_pay19 (k0_pay15 h wa) = chunkCarry h wa := rfl

theorem carry_2 : k0_pay25 h (k0_pay21 wa) = chunkCarry h wa := rfl

theorem carry_3 : k0_pay34 (k0_pay33 h wa) = chunkCarry h wa := rfl

theorem carry_4 : k0_pay39 (k0_pay36 h wa) = chunkCarry h wa := rfl

theorem carry_5 : k0_pay46 h wa = chunkCarry h wa := rfl

theorem carry_6 : k0_pay56 (k0_pay49 h wa) = chunkCarry h wa := rfl

theorem carry_7 : k0_pay60 (k0_pay58 h wa) = chunkCarry h wa := rfl

theorem carry_8 : k0_pay67 h wa = chunkCarry h wa := rfl

theorem carry_9 : k0_pay74 (k0_pay69 h wa) = chunkCarry h wa := rfl

theorem carry_10 : k0_pay79 h wa = chunkCarry h wa := rfl

end Cert.Kernel2Ideal.Ffn
-- ==== Proof.Ffn.Point.lean ====
/-
  A grid point's carried rows and output block, from the blocks its windows hold and the rows carried into it.
-/
module

public import proofs.«01_k».proof.Proof.Ffn.Payloads

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- The tile after the out-projection's residual. -/
def tileX (o : Vec Ideal S1x512x1024 .bf16) (wo : Vec Ideal S1024x1024 .bf16) (x : Vec Ideal S1x512x1024 .f32)
    (md : Vec Ideal S1x6x1024 .f32) : FVec Ideal S512x1024 .f32 :=
  k0_pay3 x (View.ld md (Rect.unit ![0, 2, 0] ![1, 1, 1024] inb_S1x6x1024_S1x1x1024_0_2_0)) o wo

/-- The tile normalized and modulated. -/
def tileH (o : Vec Ideal S1x512x1024 .bf16) (wo : Vec Ideal S1024x1024 .bf16) (x : Vec Ideal S1x512x1024 .f32)
    (md : Vec Ideal S1x6x1024 .f32) (g : Vec Ideal S1x1024 .f32) : FVec Ideal S512x1024 .bf16 :=
  k0_pay8 (k0_pay4 (View.ld md (Rect.unit ![0, 3, 0] ![1, 1, 1024] inb_S1x6x1024_S1x1x1024_0_3_0)))
    (k0_pay5 (View.ld md (Rect.unit ![0, 4, 0] ![1, 1, 1024] inb_S1x6x1024_S1x1x1024_0_4_0)))
    (k0_pay6 x (View.ld md (Rect.unit ![0, 2, 0] ![1, 1, 1024] inb_S1x6x1024_S1x1x1024_0_2_0)) o wo) (k0_pay7 g)

/-- The output block from the tile's gated products. -/
def tileOut (X1 : FVec Ideal S512x1024 .f32) (md : Vec Ideal S1x6x1024 .f32) (act : Vec Ideal S512x2816 .bf16)
    (wd : Vec Ideal S2816x1024 .bf16) (fg : Vec Ideal S1x1024 .f32) : FVec Ideal S1x512x1024 .f32 :=
  k0_pay1 (k0_pay82 X1 (View.ld md (Rect.unit ![0, 5, 0] ![1, 1, 1024] inb_S1x6x1024_S1x1x1024_0_5_0)) act wd fg)

/-- Eleven stores that are the blocks of one array, read back whole. -/
theorem read_pieces (v : View sig .tc .vmem S512x2816 .bf16) (G : Vec Ideal S512x2816 .bf16)
    (L : List (View.Piece (Elt Ideal) S512x2816 .bf16)) (hL : View.PiecesOf G L)
    (hc : ∀ y, ∃ p ∈ L, y ∈ p.1.set) (inb : ∀ a, (![0, 0] : Fin 2 → ℕ) a + S512x2816.size a ≤ S512x2816.size a) :
    v.readCov L (Rect.unit (s := S512x2816) ![0, 0] ![512, 2816] inb).toLoadRect = G := by
  rw [View.readCov_eq_canon']
  funext j
  refine Eq.trans ?_ (congrArg G (?_ : (Rect.unit (s := S512x2816) ![0, 0] ![512, 2816] inb).toLoadRect.idx j = j))
  · have h := View.canon_append_of_piecesOf G [] L hL _ (hc ((Rect.unit (s := S512x2816) ![0, 0] ![512, 2816] inb).toLoadRect.idx j))
    rwa [List.append_nil] at h
  · funext a
    refine Fin.ext ?_
    fin_cases a
    · show 0 + 1 * (j 0).val = (j 0).val
      omega
    · show 0 + 1 * (j 1).val = (j 1).val
      omega

variable (m : (ℓ : Loc nD τ sig) → Buf (Elt Ideal) ℓ)

set_option maxHeartbeats 1000000 in
/-- The rows a point leaves. -/
theorem pointCarry_B (c : Dev nD) (t : Fin cfg0.N) (h : ¬ t.val % 16 = 0) :
    (outsAt0 m c t.val t.isLt).2
      = tileCarry (tileH (iblk m c 0 t) (iblk m c 1 t) (iblk m c 2 t) (iblk m c 3 t) (iblk m c 4 t)) (iblk m c 5 t) := by
  rw [outsAt0_B m c t h]
  dsimp only
  generalize (outsAt0 m c (t.val - 1) (Nat.lt_of_le_of_lt (Nat.sub_le _ _) t.isLt)).2 = X
  frame_open
  simp (disch := decide) only [↓ View.readCov_skip, ↓ View.readCov_cons_toLoadRect, ↓ View.readCov_fill]
  frame_out
  simp only [carry_0, carry_1, carry_2, carry_3, carry_4, carry_5, carry_6, carry_7, carry_8, carry_9, carry_10]
  unfold tileH
  generalize k0_pay8 (k0_pay4 (View.ld (iblk m c 3 t) (Rect.unit ![0, 3, 0] ![1, 1, 1024] inb_S1x6x1024_S1x1x1024_0_3_0)))
    (k0_pay5 (View.ld (iblk m c 3 t) (Rect.unit ![0, 4, 0] ![1, 1, 1024] inb_S1x6x1024_S1x1x1024_0_4_0)))
    (k0_pay6 (iblk m c 2 t) (View.ld (iblk m c 3 t) (Rect.unit ![0, 2, 0] ![1, 1, 1024] inb_S1x6x1024_S1x1x1024_0_2_0)) (iblk m c 0 t) (iblk m c 1 t)) (k0_pay7 (iblk m c 4 t)) = H
  funext y
  refine View.canon_append_of_piecesOf _ [] [_, _, _, _, _, _, _, _, _, _, _] ⟨carry_piece 2560 (by decide) H (iblk m c 5 t) inb_S1024x5632_S1024x256_0_2560 inb_S8x2816_S8x256_0_2560,
      carry_piece 2304 (by decide) H (iblk m c 5 t) inb_S1024x5632_S1024x256_0_2304 inb_S8x2816_S8x256_0_2304,
      carry_piece 2048 (by decide) H (iblk m c 5 t) inb_S1024x5632_S1024x256_0_2048 inb_S8x2816_S8x256_0_2048,
      carry_piece 1792 (by decide) H (iblk m c 5 t) inb_S1024x5632_S1024x256_0_1792 inb_S8x2816_S8x256_0_1792,
      carry_piece 1536 (by decide) H (iblk m c 5 t) inb_S1024x5632_S1024x256_0_1536 inb_S8x2816_S8x256_0_1536,
      carry_piece 1280 (by decide) H (iblk m c 5 t) inb_S1024x5632_S1024x256_0_1280 inb_S8x2816_S8x256_0_1280,
      carry_piece 1024 (by decide) H (iblk m c 5 t) inb_S1024x5632_S1024x256_0_1024 inb_S8x2816_S8x256_0_1024,
      carry_piece 768 (by decide) H (iblk m c 5 t) inb_S1024x5632_S1024x256_0_768 inb_S8x2816_S8x256_0_768,
      carry_piece 512 (by decide) H (iblk m c 5 t) inb_S1024x5632_S1024x256_0_512 inb_S8x2816_S8x256_0_512,
      carry_piece 256 (by decide) H (iblk m c 5 t) inb_S1024x5632_S1024x256_0_256 inb_S8x2816_S8x256_0_256,
      carry_piece 0 (by decide) H (iblk m c 5 t) inb_S1024x5632_S1024x256_0_0 inb_S8x2816_S8x256_0_0, trivial⟩ y ?_
  exact View.cover_of_tiledL (s := S8x2816) _ ![8, 256] (by sl_kernel_rfl) y

set_option maxHeartbeats 1000000 in
/-- The output block of a point. -/
theorem pointOut_B (c : Dev nD) (t : Fin cfg0.N) (h : ¬ t.val % 16 = 0) :
    (outsAt0 m c t.val t.isLt).1
      = tileOut (tileX (iblk m c 0 t) (iblk m c 1 t) (iblk m c 2 t) (iblk m c 3 t)) (iblk m c 3 t)
          (tileAct (tileH (iblk m c 0 t) (iblk m c 1 t) (iblk m c 2 t) (iblk m c 3 t) (iblk m c 4 t)) (iblk m c 5 t)
            (iblk m c 6 t) (iblk m c 7 t) ((outsAt0 m c (t.val - 1) (Nat.lt_of_le_of_lt (Nat.sub_le _ _) t.isLt)).2)) (iblk m c 8 t) (iblk m c 9 t) := by
  rw [outsAt0_B m c t h]
  dsimp only
  generalize (outsAt0 m c (t.val - 1) (Nat.lt_of_le_of_lt (Nat.sub_le _ _) t.isLt)).2 = X
  frame_open
  simp (disch := decide) only [↓ View.readCov_skip, ↓ View.readCov_cons_toLoadRect, ↓ View.readCov_fill]
  frame_out
  simp only [read_unread_whole, act_0, act_1, act_2, act_3, act_4, act_5, act_6, act_7, act_8, act_9, act_10]
  unfold tileH
  generalize k0_pay8 (k0_pay4 (View.ld (iblk m c 3 t) (Rect.unit ![0, 3, 0] ![1, 1, 1024] inb_S1x6x1024_S1x1x1024_0_3_0)))
    (k0_pay5 (View.ld (iblk m c 3 t) (Rect.unit ![0, 4, 0] ![1, 1, 1024] inb_S1x6x1024_S1x1x1024_0_4_0)))
    (k0_pay6 (iblk m c 2 t) (View.ld (iblk m c 3 t) (Rect.unit ![0, 2, 0] ![1, 1, 1024] inb_S1x6x1024_S1x1x1024_0_2_0)) (iblk m c 0 t) (iblk m c 1 t)) (k0_pay7 (iblk m c 4 t)) = H
  refine congrArg (fun A => tileOut (tileX (iblk m c 0 t) (iblk m c 1 t) (iblk m c 2 t) (iblk m c 3 t)) (iblk m c 3 t) A
    (iblk m c 8 t) (iblk m c 9 t)) (read_pieces _ (tileAct H (iblk m c 5 t) (iblk m c 6 t) (iblk m c 7 t) X) [_, _, _, _, _, _, _, _, _, _, _] ⟨act_piece 2560 (by decide) H (iblk m c 5 t) (iblk m c 6 t) (iblk m c 7 t) X inb_S1024x5632_S1024x256_0_2560 inb_S1024x5632_S1024x256_0_5376 inb_S8x2816_S8x256_0_2560 inb_S3x2816_S1x256_2_2560 inb_S3x2816_S1x256_1_2560 inb_S3x2816_S1x256_0_2560 inb_S1x2816_S1x256_0_2560 inb_S512x2816_S512x256_0_2560,
      act_piece 2304 (by decide) H (iblk m c 5 t) (iblk m c 6 t) (iblk m c 7 t) X inb_S1024x5632_S1024x256_0_2304 inb_S1024x5632_S1024x256_0_5120 inb_S8x2816_S8x256_0_2304 inb_S3x2816_S1x256_2_2304 inb_S3x2816_S1x256_1_2304 inb_S3x2816_S1x256_0_2304 inb_S1x2816_S1x256_0_2304 inb_S512x2816_S512x256_0_2304,
      act_piece 2048 (by decide) H (iblk m c 5 t) (iblk m c 6 t) (iblk m c 7 t) X inb_S1024x5632_S1024x256_0_2048 inb_S1024x5632_S1024x256_0_4864 inb_S8x2816_S8x256_0_2048 inb_S3x2816_S1x256_2_2048 inb_S3x2816_S1x256_1_2048 inb_S3x2816_S1x256_0_2048 inb_S1x2816_S1x256_0_2048 inb_S512x2816_S512x256_0_2048,
      act_piece 1792 (by decide) H (iblk m c 5 t) (iblk m c 6 t) (iblk m c 7 t) X inb_S1024x5632_S1024x256_0_1792 inb_S1024x5632_S1024x256_0_4608 inb_S8x2816_S8x256_0_1792 inb_S3x2816_S1x256_2_1792 inb_S3x2816_S1x256_1_1792 inb_S3x2816_S1x256_0_1792 inb_S1x2816_S1x256_0_1792 inb_S512x2816_S512x256_0_1792,
      act_piece 1536 (by decide) H (iblk m c 5 t) (iblk m c 6 t) (iblk m c 7 t) X inb_S1024x5632_S1024x256_0_1536 inb_S1024x5632_S1024x256_0_4352 inb_S8x2816_S8x256_0_1536 inb_S3x2816_S1x256_2_1536 inb_S3x2816_S1x256_1_1536 inb_S3x2816_S1x256_0_1536 inb_S1x2816_S1x256_0_1536 inb_S512x2816_S512x256_0_1536,
      act_piece 1280 (by decide) H (iblk m c 5 t) (iblk m c 6 t) (iblk m c 7 t) X inb_S1024x5632_S1024x256_0_1280 inb_S1024x5632_S1024x256_0_4096 inb_S8x2816_S8x256_0_1280 inb_S3x2816_S1x256_2_1280 inb_S3x2816_S1x256_1_1280 inb_S3x2816_S1x256_0_1280 inb_S1x2816_S1x256_0_1280 inb_S512x2816_S512x256_0_1280,
      act_piece 1024 (by decide) H (iblk m c 5 t) (iblk m c 6 t) (iblk m c 7 t) X inb_S1024x5632_S1024x256_0_1024 inb_S1024x5632_S1024x256_0_3840 inb_S8x2816_S8x256_0_1024 inb_S3x2816_S1x256_2_1024 inb_S3x2816_S1x256_1_1024 inb_S3x2816_S1x256_0_1024 inb_S1x2816_S1x256_0_1024 inb_S512x2816_S512x256_0_1024,
      act_piece 768 (by decide) H (iblk m c 5 t) (iblk m c 6 t) (iblk m c 7 t) X inb_S1024x5632_S1024x256_0_768 inb_S1024x5632_S1024x256_0_3584 inb_S8x2816_S8x256_0_768 inb_S3x2816_S1x256_2_768 inb_S3x2816_S1x256_1_768 inb_S3x2816_S1x256_0_768 inb_S1x2816_S1x256_0_768 inb_S512x2816_S512x256_0_768,
      act_piece 512 (by decide) H (iblk m c 5 t) (iblk m c 6 t) (iblk m c 7 t) X inb_S1024x5632_S1024x256_0_512 inb_S1024x5632_S1024x256_0_3328 inb_S8x2816_S8x256_0_512 inb_S3x2816_S1x256_2_512 inb_S3x2816_S1x256_1_512 inb_S3x2816_S1x256_0_512 inb_S1x2816_S1x256_0_512 inb_S512x2816_S512x256_0_512,
      act_piece 256 (by decide) H (iblk m c 5 t) (iblk m c 6 t) (iblk m c 7 t) X inb_S1024x5632_S1024x256_0_256 inb_S1024x5632_S1024x256_0_3072 inb_S8x2816_S8x256_0_256 inb_S3x2816_S1x256_2_256 inb_S3x2816_S1x256_1_256 inb_S3x2816_S1x256_0_256 inb_S1x2816_S1x256_0_256 inb_S512x2816_S512x256_0_256,
      act_piece 0 (by decide) H (iblk m c 5 t) (iblk m c 6 t) (iblk m c 7 t) X inb_S1024x5632_S1024x256_0_0 inb_S1024x5632_S1024x256_0_2816 inb_S8x2816_S8x256_0_0 inb_S3x2816_S1x256_2_0 inb_S3x2816_S1x256_1_0 inb_S3x2816_S1x256_0_0 inb_S1x2816_S1x256_0_0 inb_S512x2816_S512x256_0_0, trivial⟩
    (fun y => View.cover_of_tiledL (s := S512x2816) _ ![512, 256] (by sl_kernel_rfl) y) _)

set_option maxHeartbeats 1000000 in
/-- The rows a point leaves, at a sequence's first tile. -/
theorem pointCarry_A (c : Dev nD) (t : Fin cfg0.N) (h : t.val % 16 = 0) :
    (outsAt0 m c t.val t.isLt).2
      = tileCarry (tileH (iblk m c 0 t) (iblk m c 1 t) (iblk m c 2 t) (iblk m c 3 t) (iblk m c 4 t)) (iblk m c 5 t) := by
  rw [outsAt0_A m c t h]
  dsimp only
  frame_open
  simp (disch := decide) only [↓ View.readCov_skip, ↓ View.readCov_cons_toLoadRect, ↓ View.readCov_fill]
  frame_out
  simp only [carry_0, carry_1, carry_2, carry_3, carry_4, carry_5, carry_6, carry_7, carry_8, carry_9, carry_10]
  unfold tileH
  generalize k0_pay8 (k0_pay4 (View.ld (iblk m c 3 t) (Rect.unit ![0, 3, 0] ![1, 1, 1024] inb_S1x6x1024_S1x1x1024_0_3_0)))
    (k0_pay5 (View.ld (iblk m c 3 t) (Rect.unit ![0, 4, 0] ![1, 1, 1024] inb_S1x6x1024_S1x1x1024_0_4_0)))
    (k0_pay6 (iblk m c 2 t) (View.ld (iblk m c 3 t) (Rect.unit ![0, 2, 0] ![1, 1, 1024] inb_S1x6x1024_S1x1x1024_0_2_0)) (iblk m c 0 t) (iblk m c 1 t)) (k0_pay7 (iblk m c 4 t)) = H
  funext y
  refine View.canon_append_of_piecesOf _ _ [_, _, _, _, _, _, _, _, _, _, _] ⟨carry_piece 2560 (by decide) H (iblk m c 5 t) inb_S1024x5632_S1024x256_0_2560 inb_S8x2816_S8x256_0_2560,
      carry_piece 2304 (by decide) H (iblk m c 5 t) inb_S1024x5632_S1024x256_0_2304 inb_S8x2816_S8x256_0_2304,
      carry_piece 2048 (by decide) H (iblk m c 5 t) inb_S1024x5632_S1024x256_0_2048 inb_S8x2816_S8x256_0_2048,
      carry_piece 1792 (by decide) H (iblk m c 5 t) inb_S1024x5632_S1024x256_0_1792 inb_S8x2816_S8x256_0_1792,
      carry_piece 1536 (by decide) H (iblk m c 5 t) inb_S1024x5632_S1024x256_0_1536 inb_S8x2816_S8x256_0_1536,
      carry_piece 1280 (by decide) H (iblk m c 5 t) inb_S1024x5632_S1024x256_0_1280 inb_S8x2816_S8x256_0_1280,
      carry_piece 1024 (by decide) H (iblk m c 5 t) inb_S1024x5632_S1024x256_0_1024 inb_S8x2816_S8x256_0_1024,
      carry_piece 768 (by decide) H (iblk m c 5 t) inb_S1024x5632_S1024x256_0_768 inb_S8x2816_S8x256_0_768,
      carry_piece 512 (by decide) H (iblk m c 5 t) inb_S1024x5632_S1024x256_0_512 inb_S8x2816_S8x256_0_512,
      carry_piece 256 (by decide) H (iblk m c 5 t) inb_S1024x5632_S1024x256_0_256 inb_S8x2816_S8x256_0_256,
      carry_piece 0 (by decide) H (iblk m c 5 t) inb_S1024x5632_S1024x256_0_0 inb_S8x2816_S8x256_0_0, trivial⟩ y ?_
  exact View.cover_of_tiledL (s := S8x2816) _ ![8, 256] (by sl_kernel_rfl) y

set_option maxHeartbeats 1000000 in
/-- The output block of a point, at a sequence's first tile. -/
theorem pointOut_A (c : Dev nD) (t : Fin cfg0.N) (h : t.val % 16 = 0) :
    (outsAt0 m c t.val t.isLt).1
      = tileOut (tileX (iblk m c 0 t) (iblk m c 1 t) (iblk m c 2 t) (iblk m c 3 t)) (iblk m c 3 t)
          (tileAct (tileH (iblk m c 0 t) (iblk m c 1 t) (iblk m c 2 t) (iblk m c 3 t) (iblk m c 4 t)) (iblk m c 5 t)
            (iblk m c 6 t) (iblk m c 7 t) (k0_pay2 (F := Ideal))) (iblk m c 8 t) (iblk m c 9 t) := by
  rw [outsAt0_A m c t h]
  dsimp only
  frame_open
  simp (disch := decide) only [↓ View.readCov_skip, ↓ View.readCov_cons_toLoadRect, ↓ View.readCov_fill]
  frame_out
  simp only [read_unread_whole, act_0, act_1, act_2, act_3, act_4, act_5, act_6, act_7, act_8, act_9, act_10]
  unfold tileH
  generalize k0_pay8 (k0_pay4 (View.ld (iblk m c 3 t) (Rect.unit ![0, 3, 0] ![1, 1, 1024] inb_S1x6x1024_S1x1x1024_0_3_0)))
    (k0_pay5 (View.ld (iblk m c 3 t) (Rect.unit ![0, 4, 0] ![1, 1, 1024] inb_S1x6x1024_S1x1x1024_0_4_0)))
    (k0_pay6 (iblk m c 2 t) (View.ld (iblk m c 3 t) (Rect.unit ![0, 2, 0] ![1, 1, 1024] inb_S1x6x1024_S1x1x1024_0_2_0)) (iblk m c 0 t) (iblk m c 1 t)) (k0_pay7 (iblk m c 4 t)) = H
  refine congrArg (fun A => tileOut (tileX (iblk m c 0 t) (iblk m c 1 t) (iblk m c 2 t) (iblk m c 3 t)) (iblk m c 3 t) A
    (iblk m c 8 t) (iblk m c 9 t)) (read_pieces _ (tileAct H (iblk m c 5 t) (iblk m c 6 t) (iblk m c 7 t) (k0_pay2 (F := Ideal))) [_, _, _, _, _, _, _, _, _, _, _] ⟨act_piece 2560 (by decide) H (iblk m c 5 t) (iblk m c 6 t) (iblk m c 7 t) (k0_pay2 (F := Ideal)) inb_S1024x5632_S1024x256_0_2560 inb_S1024x5632_S1024x256_0_5376 inb_S8x2816_S8x256_0_2560 inb_S3x2816_S1x256_2_2560 inb_S3x2816_S1x256_1_2560 inb_S3x2816_S1x256_0_2560 inb_S1x2816_S1x256_0_2560 inb_S512x2816_S512x256_0_2560,
      act_piece 2304 (by decide) H (iblk m c 5 t) (iblk m c 6 t) (iblk m c 7 t) (k0_pay2 (F := Ideal)) inb_S1024x5632_S1024x256_0_2304 inb_S1024x5632_S1024x256_0_5120 inb_S8x2816_S8x256_0_2304 inb_S3x2816_S1x256_2_2304 inb_S3x2816_S1x256_1_2304 inb_S3x2816_S1x256_0_2304 inb_S1x2816_S1x256_0_2304 inb_S512x2816_S512x256_0_2304,
      act_piece 2048 (by decide) H (iblk m c 5 t) (iblk m c 6 t) (iblk m c 7 t) (k0_pay2 (F := Ideal)) inb_S1024x5632_S1024x256_0_2048 inb_S1024x5632_S1024x256_0_4864 inb_S8x2816_S8x256_0_2048 inb_S3x2816_S1x256_2_2048 inb_S3x2816_S1x256_1_2048 inb_S3x2816_S1x256_0_2048 inb_S1x2816_S1x256_0_2048 inb_S512x2816_S512x256_0_2048,
      act_piece 1792 (by decide) H (iblk m c 5 t) (iblk m c 6 t) (iblk m c 7 t) (k0_pay2 (F := Ideal)) inb_S1024x5632_S1024x256_0_1792 inb_S1024x5632_S1024x256_0_4608 inb_S8x2816_S8x256_0_1792 inb_S3x2816_S1x256_2_1792 inb_S3x2816_S1x256_1_1792 inb_S3x2816_S1x256_0_1792 inb_S1x2816_S1x256_0_1792 inb_S512x2816_S512x256_0_1792,
      act_piece 1536 (by decide) H (iblk m c 5 t) (iblk m c 6 t) (iblk m c 7 t) (k0_pay2 (F := Ideal)) inb_S1024x5632_S1024x256_0_1536 inb_S1024x5632_S1024x256_0_4352 inb_S8x2816_S8x256_0_1536 inb_S3x2816_S1x256_2_1536 inb_S3x2816_S1x256_1_1536 inb_S3x2816_S1x256_0_1536 inb_S1x2816_S1x256_0_1536 inb_S512x2816_S512x256_0_1536,
      act_piece 1280 (by decide) H (iblk m c 5 t) (iblk m c 6 t) (iblk m c 7 t) (k0_pay2 (F := Ideal)) inb_S1024x5632_S1024x256_0_1280 inb_S1024x5632_S1024x256_0_4096 inb_S8x2816_S8x256_0_1280 inb_S3x2816_S1x256_2_1280 inb_S3x2816_S1x256_1_1280 inb_S3x2816_S1x256_0_1280 inb_S1x2816_S1x256_0_1280 inb_S512x2816_S512x256_0_1280,
      act_piece 1024 (by decide) H (iblk m c 5 t) (iblk m c 6 t) (iblk m c 7 t) (k0_pay2 (F := Ideal)) inb_S1024x5632_S1024x256_0_1024 inb_S1024x5632_S1024x256_0_3840 inb_S8x2816_S8x256_0_1024 inb_S3x2816_S1x256_2_1024 inb_S3x2816_S1x256_1_1024 inb_S3x2816_S1x256_0_1024 inb_S1x2816_S1x256_0_1024 inb_S512x2816_S512x256_0_1024,
      act_piece 768 (by decide) H (iblk m c 5 t) (iblk m c 6 t) (iblk m c 7 t) (k0_pay2 (F := Ideal)) inb_S1024x5632_S1024x256_0_768 inb_S1024x5632_S1024x256_0_3584 inb_S8x2816_S8x256_0_768 inb_S3x2816_S1x256_2_768 inb_S3x2816_S1x256_1_768 inb_S3x2816_S1x256_0_768 inb_S1x2816_S1x256_0_768 inb_S512x2816_S512x256_0_768,
      act_piece 512 (by decide) H (iblk m c 5 t) (iblk m c 6 t) (iblk m c 7 t) (k0_pay2 (F := Ideal)) inb_S1024x5632_S1024x256_0_512 inb_S1024x5632_S1024x256_0_3328 inb_S8x2816_S8x256_0_512 inb_S3x2816_S1x256_2_512 inb_S3x2816_S1x256_1_512 inb_S3x2816_S1x256_0_512 inb_S1x2816_S1x256_0_512 inb_S512x2816_S512x256_0_512,
      act_piece 256 (by decide) H (iblk m c 5 t) (iblk m c 6 t) (iblk m c 7 t) (k0_pay2 (F := Ideal)) inb_S1024x5632_S1024x256_0_256 inb_S1024x5632_S1024x256_0_3072 inb_S8x2816_S8x256_0_256 inb_S3x2816_S1x256_2_256 inb_S3x2816_S1x256_1_256 inb_S3x2816_S1x256_0_256 inb_S1x2816_S1x256_0_256 inb_S512x2816_S512x256_0_256,
      act_piece 0 (by decide) H (iblk m c 5 t) (iblk m c 6 t) (iblk m c 7 t) (k0_pay2 (F := Ideal)) inb_S1024x5632_S1024x256_0_0 inb_S1024x5632_S1024x256_0_2816 inb_S8x2816_S8x256_0_0 inb_S3x2816_S1x256_2_0 inb_S3x2816_S1x256_1_0 inb_S3x2816_S1x256_0_0 inb_S1x2816_S1x256_0_0 inb_S512x2816_S512x256_0_0, trivial⟩
    (fun y => View.cover_of_tiledL (s := S512x2816) _ ![512, 256] (by sl_kernel_rfl) y) _)

end Cert.Kernel2Ideal.Ffn
-- ==== Proof.Ffn.Entries.lean ====
/-
  The entries of a tile's stages: after the out-projection's residual, normalized and modulated, and in the output block.
-/
module

public import proofs.«01_k».proof.Proof.Ffn.Point

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Cert.FeedForward (lo hi gated scale)

section
variable (o : Vec Ideal S1x512x1024 .bf16) (wo : Vec Ideal S1024x1024 .bf16) (x : Vec Ideal S1x512x1024 .f32)
  (md : Vec Ideal S1x6x1024 .f32) (g : Vec Ideal S1x1024 .f32)

theorem tileX_at (r : Fin 512) (j : Fin 1024) :
    tileX o wo x md (ix2 r j) = x (ix3 0 r j) + md (ix3 0 2 j) * ∑ k : Fin 1024, o (ix3 0 r k) * wo (ix2 k j) := by
  pointwise [tileX, k0_pay3]

theorem tileH_at (r : Fin 512) (j : Fin 1024) :
    tileH o wo x md g (ix2 r j)
      = tileX o wo x md (ix2 r j) * scale (fun k => tileX o wo x md (ix2 r k)) * g (ix2 0 j) * (1 + md (ix3 0 4 j))
          + md (ix3 0 3 j) := by
  show k0_pay8 _ _ (k0_pay6 x (View.ld md (Rect.unit ![0, 2, 0] ![1, 1, 1024] inb_S1x6x1024_S1x1x1024_0_2_0)) o wo) _ _ = _
  unfold k0_pay6
  rw [show k0_pay3 x (View.ld md (Rect.unit ![0, 2, 0] ![1, 1, 1024] inb_S1x6x1024_S1x1x1024_0_2_0)) o wo = tileX o wo x md from rfl]
  generalize tileX o wo x md = X1
  pointwise [k0_pay8, k0_pay4, k0_pay5, k0_pay7, scale]

theorem tileOut_at (X1 : FVec Ideal S512x1024 .f32) (act : Vec Ideal S512x2816 .bf16)
    (wd : Vec Ideal S2816x1024 .bf16) (fg : Vec Ideal S1x1024 .f32) (r : Fin 512) (j : Fin 1024) :
    tileOut X1 md act wd fg (ix3 0 r j)
      = (X1 (ix2 r j) + md (ix3 0 5 j) * ∑ f : Fin 2816, act (ix2 r f) * wd (ix2 f j))
          * scale (fun k => X1 (ix2 r k) + md (ix3 0 5 k) * ∑ f : Fin 2816, act (ix2 r f) * wd (ix2 f k)) * fg (ix2 0 j) := by
  pointwise [tileOut, k0_pay1, k0_pay82, scale]

end

end Cert.Kernel2Ideal.Ffn

end
-- ==== Proof.Ffn.Blocks.lean ====
/-
  What the windows hold at a grid point: rows of the arguments, and the second layer's weights.
-/
module

public import proofs.«01_k».proof.Proof.Ffn.Entries
public import Idealize.ShloMosaic.Lib.Claim

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen
open Cert.FeedForward (Args)

/-- What the block reads, from the program's arguments. -/
def argsOf (o : Vec Ideal S2x8192x1024 .bf16) (wo : Vec Ideal S1x1024x1024 .f32) (x : Vec Ideal S2x8192x1024 .f32)
    (md : Vec Ideal S2x2x6144 .f32) (gn : Vec Ideal S2x1024 .f32) (wu : Vec Ideal S2x1024x5632 .f32)
    (cw : Vec Ideal S2x3x2816 .f32) (cb : Vec Ideal S2x2816 .f32) (wd : Vec Ideal S2x2816x1024 .f32)
    (fg : Vec Ideal S1024 .f32) : Args where
  o b s k := o (ix3 b s k)
  wo k j := wo (ix3 0 k j)
  x b s j := x (ix3 b s j)
  md b i j := md (ix3 1 b ⟨i.val * 1024 + j.val, by omega⟩)
  gn j := gn (ix2 1 j)
  wu k g := wu (ix3 1 k g)
  cw i f := cw (ix3 1 i f)
  cb f := cb (ix2 1 f)
  wd f j := wd (ix3 1 f j)
  fg j := fg (ix1 j)

variable (m : (ℓ : Loc nD τ sig) → Buf (Elt Ideal) ℓ)

/-- The arguments on a device. -/
abbrev args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem idx : ∀ t : Fin cfg0.N, win0_0.index t = ![t.val / 16, t.val % 16, 0] ∧ win0_1.index t = ![0, 0]
    ∧ win0_2.index t = ![t.val / 16, t.val % 16, 0] ∧ win0_3.index t = ![t.val / 16, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ t.val / 16 < 2 :=
  (by decide +kernel : ∀ t : Fin grid0.N, _)

/-- The sequence a grid point works on. -/
def seqOf (t : Fin cfg0.N) : Fin 2 := ⟨t.val / 16, (idx t).2.2.2.2.2.2.2.2.2.2⟩

/-- The sequence's row that row `r` of a grid point's tile is. -/
def rowOf (t : Fin cfg0.N) (r : Fin 512) : Fin 8192 :=
  ⟨512 * (t.val % 16) + r.val, by have := Nat.mod_lt t.val (show 0 < 16 by decide); omega⟩

theorem o_at (c : Dev nD) (t : Fin cfg0.N) (r : Fin 512) (k : Fin 1024) :
    (iblk m c 0 t : Vec Ideal S1x512x1024 .bf16) (ix3 0 r k) = (args m c).o (seqOf t) (rowOf t r) k := by
  show _ = m ((c : Thread nD τ).loc main_arg0) (ix3 (seqOf t) (rowOf t r) k)
  blk_ext [iblk, V, idx t, rowOf, seqOf]

theorem x_at (c : Dev nD) (t : Fin cfg0.N) (r : Fin 512) (k : Fin 1024) :
    (iblk m c 2 t : Vec Ideal S1x512x1024 .f32) (ix3 0 r k) = (args m c).x (seqOf t) (rowOf t r) k := by
  show _ = m ((c : Thread nD τ).loc main_arg2) (ix3 (seqOf t) (rowOf t r) k)
  blk_ext [iblk, V, idx t, rowOf, seqOf]

theorem wo_at (c : Dev nD) (t : Fin cfg0.N) (k j : Fin 1024) :
    (iblk m c 1 t : Vec Ideal S1024x1024 .bf16) (ix2 k j) = (args m c).wo k j := by
  have e : iblk m c 1 t = V m c main_v4 := by blk_ext! [iblk, idx t]
  rw [e]
  simp only [V, List.flatten_cons, List.flatten_nil, List.append_nil, hostOps0, List.cons_append, List.nil_append]
  entry_read
  simp only [argsOf]
  pointwise

theorem mod_at (c : Dev nD) (t : Fin cfg0.N) (i : Fin 6) (j : Fin 1024) :
    (iblk m c 3 t : Vec Ideal S1x6x1024 .f32) (ix3 0 i j) = (args m c).md (seqOf t) i j := by
  have e : (iblk m c 3 t : Vec Ideal S1x6x1024 .f32) (ix3 0 i j) = (V m c main_v2 : Vec Ideal S2x6x1024 .f32) (ix3 (seqOf t) i j) := by
    blk_ext [iblk, idx t, seqOf]
  rw [e]
  simp only [V, List.flatten_cons, List.flatten_nil, List.append_nil, hostOps0, List.cons_append, List.nil_append]
  entry_read
  simp only [argsOf]
  pointwise

theorem gain_at (c : Dev nD) (t : Fin cfg0.N) (j : Fin 1024) :
    (iblk m c 4 t : Vec Ideal S1x1024 .f32) (ix2 0 j) = (args m c).gn j := by
  have e : iblk m c 4 t = V m c main_v7 := by blk_ext! [iblk, idx t]
  rw [e]
  simp only [V, List.flatten_cons, List.flatten_nil, List.append_nil, hostOps0, List.cons_append, List.nil_append]
  entry_read
  simp only [argsOf]
  pointwise

theorem wup_at (c : Dev nD) (t : Fin cfg0.N) (k : Fin 1024) (g : Fin 5632) :
    (iblk m c 5 t : Vec Ideal S1024x5632 .bf16) (ix2 k g) = (args m c).wu k g := by
  have e : iblk m c 5 t = V m c main_v10 := by blk_ext! [iblk, idx t]
  rw [e]
  simp only [V, List.flatten_cons, List.flatten_nil, List.append_nil, hostOps0, List.cons_append, List.nil_append]
  entry_read
  simp only [argsOf]
  pointwise

theorem tap_at (c : Dev nD) (t : Fin cfg0.N) (i : Fin 3) (f : Fin 2816) :
    (iblk m c 6 t : Vec Ideal S3x2816 .f32) (ix2 i f) = (args m c).cw i f := by
  have e : iblk m c 6 t = V m c main_v12 := by blk_ext! [iblk, idx t]
  rw [e]
  simp only [V, List.flatten_cons, List.flatten_nil, List.append_nil, hostOps0, List.cons_append, List.nil_append]
  entry_read
  simp only [argsOf]
  pointwise

theorem bias_at (c : Dev nD) (t : Fin cfg0.N) (f : Fin 2816) :
    (iblk m c 7 t : Vec Ideal S1x2816 .f32) (ix2 0 f) = (args m c).cb f := by
  have e : iblk m c 7 t = V m c main_v15 := by blk_ext! [iblk, idx t]
  rw [e]
  simp only [V, List.flatten_cons, List.flatten_nil, List.append_nil, hostOps0, List.cons_append, List.nil_append]
  entry_read
  simp only [argsOf]
  pointwise

theorem wdown_at (c : Dev nD) (t : Fin cfg0.N) (f : Fin 2816) (j : Fin 1024) :
    (iblk m c 8 t : Vec Ideal S2816x1024 .bf16) (ix2 f j) = (args m c).wd f j := by
  have e : iblk m c 8 t = V m c main_v18 := by blk_ext! [iblk, idx t]
  rw [e]
  simp only [V, List.flatten_cons, List.flatten_nil, List.append_nil, hostOps0, List.cons_append, List.nil_append]
  entry_read
  simp only [argsOf]
  pointwise

theorem final_at (c : Dev nD) (t : Fin cfg0.N) (j : Fin 1024) :
    (iblk m c 9 t : Vec Ideal S1x1024 .f32) (ix2 0 j) = (args m c).fg j := by
  have e : iblk m c 9 t = V m c main_v19 := by blk_ext! [iblk, idx t]
  rw [e]
  simp only [V, List.flatten_cons, List.flatten_nil, List.append_nil, hostOps0, List.cons_append, List.nil_append]
  entry_read
  simp only [argsOf]
  pointwise

end Cert.Kernel2Ideal.Ffn

end
-- ==== Proof.Ffn.Sweep.lean ====
/-
  Over the grid: the rows each point hands to the next are the gate's last eight rows of its tile, so every tile convolves
  the gate of the whole sequence, and the kernel's result is the feed-forward block's.
-/
module

public import proofs.«01_k».proof.Proof.Ffn.Blocks

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Kernel2Ideal.Value
open Cert.FeedForward

variable (m : (ℓ : Loc nD τ sig) → Buf (Elt Ideal) ℓ)

/-- A point's tile normalized and modulated. -/
abbrev hOf (c : Dev nD) (t : Fin cfg0.N) : FVec Ideal S512x1024 .bf16 :=
  tileH (iblk m c 0 t) (iblk m c 1 t) (iblk m c 2 t) (iblk m c 3 t) (iblk m c 4 t)

theorem tile_mid (c : Dev nD) (t : Fin cfg0.N) (r : Fin 512) (j : Fin 1024) :
    tileX (iblk m c 0 t) (iblk m c 1 t) (iblk m c 2 t) (iblk m c 3 t) (ix2 r j) = mid (args m c) (seqOf t) (rowOf t r) j := by
  refine (tileX_at _ _ _ _ r j).trans ?_
  refine congrArg₂ (· + ·) (x_at m c t r j) (congrArg₂ (· * ·) (mod_at m c t 2 j) (Finset.sum_congr rfl fun k _ => ?_))
  exact congrArg₂ (· * ·) (o_at m c t r k) (wo_at m c t k j)

theorem tile_normed (c : Dev nD) (t : Fin cfg0.N) (r : Fin 512) (j : Fin 1024) :
    hOf m c t (ix2 r j) = normed (args m c) (seqOf t) (rowOf t r) j := by
  refine (tileH_at _ _ _ _ _ r j).trans ?_
  have e : (fun k => tileX (iblk m c 0 t) (iblk m c 1 t) (iblk m c 2 t) (iblk m c 3 t) (ix2 r k))
      = mid (args m c) (seqOf t) (rowOf t r) := funext fun k => tile_mid m c t r k
  exact congrArg₂ (· + ·) (congrArg₂ (· * ·) (congrArg₂ (· * ·) (congrArg₂ (· * ·) (tile_mid m c t r j) (congrArg scale e))
    (gain_at m c t j)) (congrArg (1 + ·) (mod_at m c t 4 j))) (mod_at m c t 3 j)

theorem tile_up (c : Dev nD) (t : Fin cfg0.N) (r : Fin 512) (g : Fin 5632) :
    hid (hOf m c t) (iblk m c 5 t) r g = up (args m c) (seqOf t) (rowOf t r) g :=
  Finset.sum_congr rfl fun k _ => congrArg₂ (· * ·) (tile_normed m c t r k) (wup_at m c t k g)

/-- The rows a point leaves. -/
theorem carry_eq (c : Dev nD) (t : Fin cfg0.N) : (outsAt0 m c t.val t.isLt).2 = tileCarry (hOf m c t) (iblk m c 5 t) := by
  by_cases h : t.val % 16 = 0
  · exact pointCarry_A m c t h
  · exact pointCarry_B m c t h

/-- The rows a point starts from: what the point before it left, or zero at a sequence's first tile. -/
def carried (c : Dev nD) (t : Fin cfg0.N) : Vec Ideal S8x2816 .f32 :=
  if t.val % 16 = 0 then k0_pay2 (F := Ideal) else (outsAt0 m c (t.val - 1) (Nat.lt_of_le_of_lt (Nat.sub_le _ _) t.isLt)).2

/-- They are the gate's one and two rows before the tile. -/
theorem carried_at (c : Dev nD) (t : Fin cfg0.N) (n : ℕ) (r : Fin 512) (hn : r.val < n) (i : Fin 8) (hi : i.val + n = 8 + r.val)
    (f : Fin 2816) : carried m c t (ix2 i f) = back (args m c) n (seqOf t) (rowOf t r) f := by
  unfold carried back
  have hi8 := i.isLt
  by_cases h : t.val % 16 = 0
  · rw [if_pos h, if_neg (show ¬ n ≤ (rowOf t r).val from show ¬ n ≤ 512 * (t.val % 16) + r.val by omega)]
    pointwise [k0_pay2]
  · rw [if_neg h, if_pos (show n ≤ (rowOf t r).val from show n ≤ 512 * (t.val % 16) + r.val by omega)]
    have ht : t.val - 1 < cfg0.N := Nat.lt_of_le_of_lt (Nat.sub_le _ _) t.isLt
    rw [carry_eq m c ⟨t.val - 1, ht⟩]
    refine (tile_up m c ⟨t.val - 1, ht⟩ ⟨504 + i.val, Nat.add_lt_add_left hi8 504⟩ (lo f)).trans ?_
    have e1 : seqOf ⟨t.val - 1, ht⟩ = seqOf t := Fin.ext (show (t.val - 1) / 16 = t.val / 16 by omega)
    have e2 : rowOf ⟨t.val - 1, ht⟩ ⟨504 + i.val, Nat.add_lt_add_left hi8 504⟩
        = ⟨(rowOf t r).val - n, lt_of_le_of_lt (Nat.sub_le _ _) (rowOf t r).isLt⟩ :=
      Fin.ext (show 512 * ((t.val - 1) % 16) + (504 + i.val) = 512 * (t.val % 16) + r.val - n by omega)
    rw [e1, e2]

/-- A row of the tile some rows back. -/
theorem tile_back (c : Dev nD) (t : Fin cfg0.N) (n : ℕ) (r : Fin 512) (hn : n ≤ r.val) (f : Fin 2816) :
    hid (hOf m c t) (iblk m c 5 t) ⟨r.val - n, lt_of_le_of_lt (Nat.sub_le _ _) r.isLt⟩ (lo f)
      = back (args m c) n (seqOf t) (rowOf t r) f := by
  rw [tile_up]
  unfold back
  rw [if_pos (show n ≤ (rowOf t r).val from show n ≤ 512 * (t.val % 16) + r.val by omega)]
  refine congrArg (fun s => up (args m c) (seqOf t) s (lo f)) (Fin.ext ?_)
  show 512 * (t.val % 16) + (r.val - n) = 512 * (t.val % 16) + r.val - n
  omega

theorem tile_back1 (c : Dev nD) (t : Fin cfg0.N) (r : Fin 512) (f : Fin 2816) :
    back1 (hOf m c t) (iblk m c 5 t) (carried m c t) r f = back (args m c) 1 (seqOf t) (rowOf t r) f := by
  unfold back1
  by_cases h0 : r.val = 0
  · rw [if_pos h0]
    exact carried_at m c t 1 r (by omega) 7 (by rw [h0]; rfl) f
  · rw [if_neg h0]
    exact tile_back m c t 1 r (by omega) f

theorem tile_back2 (c : Dev nD) (t : Fin cfg0.N) (r : Fin 512) (f : Fin 2816) :
    back2 (hOf m c t) (iblk m c 5 t) (carried m c t) r f = back (args m c) 2 (seqOf t) (rowOf t r) f := by
  unfold back2
  by_cases h0 : r.val = 0
  · rw [if_pos h0]
    exact carried_at m c t 2 r (by omega) 6 (by rw [h0]; rfl) f
  · rw [if_neg h0]
    by_cases h1 : r.val = 1
    · rw [if_pos h1]
      exact carried_at m c t 2 r (by omega) 7 (by rw [h1]; rfl) f
    · rw [if_neg h1]
      exact tile_back m c t 2 r (by omega) f

theorem tile_act (c : Dev nD) (t : Fin cfg0.N) (r : Fin 512) (f : Fin 2816) :
    tileAct (hOf m c t) (iblk m c 5 t) (iblk m c 6 t) (iblk m c 7 t) (carried m c t) (ix2 r f)
      = act (args m c) (seqOf t) (rowOf t r) f := by
  show gated (hid (hOf m c t) (iblk m c 5 t) r (lo f)) (back1 (hOf m c t) (iblk m c 5 t) (carried m c t) r f)
      (back2 (hOf m c t) (iblk m c 5 t) (carried m c t) r f) (hid (hOf m c t) (iblk m c 5 t) r (hi f))
      ((iblk m c 6 t : Vec Ideal S3x2816 .f32) (ix2 2 f)) ((iblk m c 6 t : Vec Ideal S3x2816 .f32) (ix2 1 f))
      ((iblk m c 6 t : Vec Ideal S3x2816 .f32) (ix2 0 f)) ((iblk m c 7 t : Vec Ideal S1x2816 .f32) (ix2 0 f)) = _
  rw [tile_up, tile_up, tile_back1, tile_back2, tap_at, tap_at, tap_at, bias_at]
  rfl

/-- The output block of a point. -/
theorem block (c : Dev nD) (t : Fin cfg0.N) :
    (outsAt0 m c t.val t.isLt).1
      = tileOut (tileX (iblk m c 0 t) (iblk m c 1 t) (iblk m c 2 t) (iblk m c 3 t)) (iblk m c 3 t)
          (tileAct (hOf m c t) (iblk m c 5 t) (iblk m c 6 t) (iblk m c 7 t) (carried m c t)) (iblk m c 8 t) (iblk m c 9 t) := by
  unfold carried
  by_cases h : t.val % 16 = 0
  · rw [if_pos h]
    exact pointOut_A m c t h
  · rw [if_neg h]
    exact pointOut_B m c t h

theorem block_at (c : Dev nD) (t : Fin cfg0.N) (r : Fin 512) (j : Fin 1024) :
    (outsAt0 m c t.val t.isLt).1 (ix3 0 r j) = result (args m c) (seqOf t) (rowOf t r) j := by
  rw [block]
  refine (tileOut_at _ _ _ _ _ r j).trans ?_
  have e : ∀ k, tileX (iblk m c 0 t) (iblk m c 1 t) (iblk m c 2 t) (iblk m c 3 t) (ix2 r k)
      + (show EReal from (iblk m c 3 t : Vec Ideal S1x6x1024 .f32) (ix3 0 5 k)) * ∑ f : Fin 2816,
          (show EReal from tileAct (hOf m c t) (iblk m c 5 t) (iblk m c 6 t) (iblk m c 7 t) (carried m c t) (ix2 r f))
            * (show EReal from (iblk m c 8 t : Vec Ideal S2816x1024 .bf16) (ix2 f k))
      = last (args m c) (seqOf t) (rowOf t r) k := fun k =>
    congrArg₂ (· + ·) (tile_mid m c t r k) (congrArg₂ (· * ·) (mod_at m c t 5 k) (Finset.sum_congr rfl fun f _ =>
      congrArg₂ (· * ·) (tile_act m c t r f) (wdown_at m c t f k)))
  exact congrArg₂ (· * ·) (congrArg₂ (· * ·) (e j) (congrArg scale (funext e))) (final_at m c t j)

/-- The kernel's result, index by index. -/
theorem result_at (c : Dev nD) (b : Fin 2) (s : Fin 8192) (j : Fin 1024) :
    (G10 m c : Vec Ideal S2x8192x1024 .f32) (ix3 b s j) = result (args m c) b s j := by
  have hp : pt10Of (ix3 b s j) = 16 * b.val + s.val / 512 := by
    have hj : j.val / 1024 = 0 := Nat.div_eq_of_lt j.isLt
    simp only [pt10Of, run10Of, ix3_0, ix3_1, ix3_2, hj]; omega
  have hN : 16 * b.val + s.val / 512 < cfg0.N := by
    rw [show cfg0.N = 32 from N_0]; omega
  let t : Fin cfg0.N := ⟨16 * b.val + s.val / 512, hN⟩
  have e1 : (G10 m c : Vec Ideal S2x8192x1024 .f32) (ix3 b s j) = (outsAt0 m c t.val t.isLt).1 (loc10Of (ix3 b s j)) := by
    rw [outsAt0_sweep]
    unfold G10
    rw [dif_pos (by rw [hp]; exact hN), fold0_congr m c _ _ _ _ hp]
  have e2 : loc10Of (ix3 b s j) = ix3 0 ⟨s.val % 512, Nat.mod_lt _ (by decide)⟩ j := by
    funext a
    apply Fin.ext
    match a with
    | ⟨0, _⟩ => show b.val % 1 = 0; omega
    | ⟨1, _⟩ => show s.val % 512 = s.val % 512; rfl
    | ⟨2, _⟩ => show j.val % 1024 = j.val; omega
  have e3 : seqOf t = b := Fin.ext (by simp only [seqOf, t]; omega)
  have e4 : rowOf t ⟨s.val % 512, Nat.mod_lt _ (by decide)⟩ = s := Fin.ext (by simp only [rowOf, t]; omega)
  rw [e1, e2, block_at, e3, e4]

end Cert.Kernel2Ideal.Ffn

end
-- ==== Proof.Ffn.Reference.lean ====
/-
  The reference's stages and result are the feed-forward block's.
-/
module

public import proofs.«01_k».proof.Proof.Ffn.Blocks
public import proofs.«01_k».proof.Proof.Gen.Reference2Ideal.Run

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Value
open Cert.Kernel2Ideal.Ffn (argsOf)
open Cert.FeedForward

variable (V0 : Valuation τ sig (Elt Ideal))

/-- The arguments. -/
abbrev args : Args :=
  argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9))

theorem mod_at (b : Fin 2) (k : Fin 6144) :
    (res_main_v1 V0 : Vec Ideal S2x6144 .f32) (ix2 b k) = (V0 (Proc.devRef .tc main_arg3) : Vec Ideal S2x2x6144 .f32) (ix3 1 b k) := by
  unfold res_main_v1
  pointwise

theorem mid_at (b : Fin 2) (s : Fin 8192) (j : Fin 1024) :
    (res_main_v14 V0 : Vec Ideal S2x8192x1024 .f32) (ix3 b s j) = mid (args V0) b s j := by
  unfold res_main_v14
  pointwise [mod_at, mid, argsOf]

theorem up_at (b : Fin 2) (s : Fin 8192) (g : Fin 5632) :
    (res_main_v47 V0 : Vec Ideal S2x8192x5632 .f32) (ix3 b s g) = up (args V0) b s g := by
  unfold res_main_v47
  pointwise [mod_at, mid_at, up, normed, scale]
  rfl

theorem tap_at (i : Fin 3) (f : Fin 2816) :
    (res_main_v42 V0 : Vec Ideal S3x2816 .f32) (ix2 i f) = (args V0).cw i f := by
  unfold res_main_v42
  pointwise [argsOf]

theorem pad_at (b : Fin 2) (s : Fin 8194) (f : Fin 2816) :
    (res_main_v50 V0 : Vec Ideal S2x8194x2816 .f32) (ix3 b s f)
      = if h : 2 ≤ s.val then up (args V0) b ⟨s.val - 2, by omega⟩ (lo f) else 0 := by
  unfold res_main_v50
  pointwise [up_at]
  by_cases h : 2 ≤ s.val
  · rw [dif_pos h, dif_pos ⟨h, by omega⟩]
    rfl
  · rw [dif_neg h, dif_neg (fun h' => h h'.1)]
    show (((0#32 : BitVec 32).toInt : ℝ) : EReal) = 0
    simp

/-- The padded gate at a shifted row is the gate some rows back. -/
theorem pad_back (n : ℕ) (hn : n ≤ 2) (b : Fin 2) (s : Fin 8192) (f : Fin 2816) :
    (res_main_v50 V0 : Vec Ideal S2x8194x2816 .f32) (ix3 b ⟨2 - n + s.val, by omega⟩ f) = back (args V0) n b s f := by
  rw [pad_at]
  unfold back
  by_cases h : n ≤ s.val
  · rw [if_pos h, dif_pos (show 2 ≤ 2 - n + s.val by omega)]
    refine congrArg (fun r => up (args V0) b r (lo f)) (Fin.ext ?_)
    show 2 - n + s.val - 2 = s.val - n
    omega
  · rw [if_neg h, dif_neg (show ¬ 2 ≤ 2 - n + s.val by omega)]

theorem sum_reversed (p q r : EReal) : p + q + r = r + q + p := by
  rw [add_comm (p + q) r, add_comm p q, add_assoc]

/-- The convolved gate. -/
def conv (a : Args) (b : Fin 2) (s : Fin 8192) (f : Fin 2816) : EReal :=
  a.cw 2 f * up a b s (lo f) + a.cw 1 f * back a 1 b s f + a.cw 0 f * back a 2 b s f + a.cb f

theorem conv_at (b : Fin 2) (s : Fin 8192) (f : Fin 2816) :
    (res_main_v75 V0 : Vec Ideal S2x8192x2816 .f32) (ix3 b s f) = conv (args V0) b s f := by
  have e : (res_main_v75 V0 : Vec Ideal S2x8192x2816 .f32) (ix3 b s f)
      = back (args V0) 2 b s f * (args V0).cw 0 f + back (args V0) 1 b s f * (args V0).cw 1 f
          + back (args V0) 0 b s f * (args V0).cw 2 f + (args V0).cb f := by
    rw [← pad_back V0 2 le_rfl, ← pad_back V0 1 (by decide), ← pad_back V0 0 (by decide)]
    unfold res_main_v75
    pointwise [tap_at]
    rfl
  have e0 : back (args V0) 0 b s f = up (args V0) b s (lo f) := rfl
  rw [e, e0]
  unfold conv
  rw [mul_comm ((args V0).cw 2 f), mul_comm ((args V0).cw 1 f), mul_comm ((args V0).cw 0 f)]
  congr 1
  exact sum_reversed _ _ _

theorem last_at (b : Fin 2) (s : Fin 8192) (j : Fin 1024) :
    (res_main_v81 V0 : Vec Ideal S2x8192x1024 .f32) (ix3 b s j) = last (args V0) b s j := by
  unfold res_main_v81
  pointwise [mod_at, mid_at, up_at, conv_at, last]
  rfl

/-- The reference's result, index by index. -/
theorem result_at (b : Fin 2) (s : Fin 8192) (j : Fin 1024) :
    (mulf (mulf (res_main_v81 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v81 V0) (res_main_v81 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg9)))) : Vec Ideal S2x8192x1024 .f32) (ix3 b s j)
      = result (args V0) b s j := by
  pointwise [last_at, result, scale]
  rfl

end Cert.Reference2Ideal.Ffn

end
-- ==== Proof.Ffn.Equal.lean ====
/-
  The feed-forward block: the two runs joined. Both programs end with `result` of the arguments.
-/
module

public import proofs.«01_k».proof.Defs
public import proofs.«01_k».proof.Proof.Ffn.Sweep
public import proofs.«01_k».proof.Proof.Ffn.Reference
public import Idealize.ShloMosaic.Lib.Quiescent

@[expose] public section

set_option maxRecDepth 16384

noncomputable section

namespace Cert.Proof.Ffn

open Idealize.ShloMosaic Idealize.ShloMosaic.TcCoe Idealize.SL.Sem

/-- The reference ends with its arguments unchanged; it declares no semaphore. -/
theorem reference_frame :
    Cert.quiescent_Reference2Ideal (hReference2Ideal := Cert.Reference2Ideal.Gen.facts) :=
  fun m g _ => (θ_run _ _ _).mono (fun r h => ⟨fun c => (h c).2, sem_eq_zero_of_no_sems (by decide) r.2⟩)
    (Cert.Reference2Ideal.Value.run m g)

/-- The value claim of the feed-forward block. -/
theorem algebraic : Cert.algebraic_Kernel2Ideal_Reference2Ideal
    (hKernel2Ideal := Cert.Kernel2Ideal.Gen.facts) (hReference2Ideal := Cert.Reference2Ideal.Gen.facts) := by
  intro m g m' g' _ hargs
  refine ⟨fun c => Cert.Kernel2Ideal.Value.G10 m c, Cert.Kernel2Ideal.Value.run m g, ?_⟩
  refine (θ_run _ _ _).mono (fun r h c => ⟨(h c).1.trans ?_, (h c).2⟩) (Cert.Reference2Ideal.Value.run m' g')
  obtain ⟨h0, h1, h2, h3, h4, h5, h6, h7, h8, h9⟩ := hargs c
  funext j
  obtain ⟨b, s, w, rfl⟩ : ∃ (b : Fin 2) (s : Fin 8192) (w : Fin 1024), j = ix3 b s w :=
    ⟨j 0, j 1, j 2, funext fun a => by fin_cases a <;> rfl⟩
  refine (Cert.Reference2Ideal.Ffn.result_at _ b s w).trans ?_
  refine Eq.trans ?_ (Cert.Kernel2Ideal.Ffn.result_at m c b s w).symm
  have e : Cert.Reference2Ideal.Ffn.args (StableHlo.launchContents m' c) = Cert.Kernel2Ideal.Ffn.args m c := by
    show Cert.Kernel2Ideal.Ffn.argsOf (m' ((c.tc : Thread Cert.Reference2Ideal.nD Cert.Reference2Ideal.τ).loc Cert.Reference2Ideal.main_arg0)) _ _ _ _ _ _ _ _ _ = _
    exact congrArg₂ (fun f x => f x) (congrArg₂ (fun f x => f x) (congrArg₂ (fun f x => f x) (congrArg₂ (fun f x => f x)
      (congrArg₂ (fun f x => f x) (congrArg₂ (fun f x => f x) (congrArg₂ (fun f x => f x) (congrArg₂ (fun f x => f x)
      (congrArg₂ (fun f x => f x) (congrArg Cert.Kernel2Ideal.Ffn.argsOf h0) h1) h2) h3) h4) h5) h6) h7) h8) h9
  exact congrArg (fun a => Cert.FeedForward.result a b s w) e

end Cert.Proof.Ffn

end
-- ==== Proof.Proj.Math.lean ====
/-
  The attention's input projection as mathematics: the modulated norm, the product with the weights, and the layout of the
  result, in which each group's rows of equal residue modulo its dilation stand together within a unit of 1024 rows.
-/
module

public import proofs.«01_k».proof.Proof.Ffn.Math

@[expose] public section

set_option maxRecDepth 16384

noncomputable section

namespace Cert.Projection

open Idealize.ShloMosaic

/-- The row of the tile that stands in row `s` of a group of dilation `d`, where `n` rows have the same residue. -/
def rowFrom (d n : ℕ) (s : ℕ) : ℕ := s % n * d + s / n

/-- A group's dilation and the number of rows of one residue. -/
def dil (g : Fin 3) : ℕ := 4 ^ g.val
def span (g : Fin 3) : ℕ := 1024 / 4 ^ g.val

/-- The row of the tile that stands in row `s` of group `g`. -/
def src (g : Fin 3) (s : Fin 1024) : Fin 1024 := ⟨rowFrom (dil g) (span g) s.val, by
  have hs := s.isLt
  fin_cases g
  · show s.val % 1024 * 1 + s.val / 1024 < 1024
    omega
  · show s.val % 256 * 4 + s.val / 256 < 1024
    omega
  · show s.val % 64 * 16 + s.val / 64 < 1024
    omega⟩

/-- The sequence's row that stands in row `s` of group `g`'s part of the result. -/
def rowIn (g : Fin 3) (s : Fin 8192) : Fin 8192 :=
  ⟨1024 * (s.val / 1024) + (src g ⟨s.val % 1024, Nat.mod_lt _ (by decide)⟩).val, by
    have h := (src g ⟨s.val % 1024, Nat.mod_lt _ (by decide)⟩).isLt
    have hs := s.isLt
    omega⟩

/-- The weights' column for the queries, keys or values (`t`), group `g` and column `j`. -/
def colIn (t g : Fin 3) (j : Fin 1024) : Fin 9216 := ⟨3072 * t.val + 1024 * g.val + j.val, by omega⟩

/-- What the projection reads. -/
structure Args where
  /-- residual stream -/
  x : Fin 2 → Fin 8192 → Fin 1024 → EReal
  /-- modulation rows -/
  md : Fin 2 → Fin 6 → Fin 1024 → EReal
  /-- norm's gain -/
  gn : Fin 1024 → EReal
  /-- weights -/
  w : Fin 1024 → Fin 9216 → EReal

variable (a : Args)

/-- The stream normalized and modulated. -/
def normed (b : Fin 2) (s : Fin 8192) (j : Fin 1024) : EReal :=
  a.x b s j * FeedForward.scale (a.x b s) * a.gn j * (1 + a.md b 1 j) + a.md b 0 j

/-- The projected stream. -/
def proj (b : Fin 2) (s : Fin 8192) (n : Fin 9216) : EReal := ∑ k, normed a b s k * a.w k n

/-- The queries' factor. -/
def scaled (t : Fin 3) (e : EReal) : EReal := if t = 0 then e * Ideal.ofBits .f32 0x3E38AA3B#32 else e

/-- The result: slot `p` of the queries, keys or values (`t`) of group `g`. -/
def result (b : Fin 2) (g t : Fin 3) (p : Fin 8) (s : Fin 8192) (l : Fin 128) : EReal :=
  scaled t (proj a b (rowIn g s) (colIn t g ⟨128 * p.val + l.val, by omega⟩))

end Cert.Projection

end
-- ==== Proof.Proj.Pieces.lean ====
/-
  The attention's input projection: what a grid point stores into its two scratch buffers, piece by piece. The normalized
  tile goes into one buffer in eight column blocks; into the other it goes three times, once in its own row order and
  twice with the rows of equal residue modulo 4 and modulo 16 together.
-/
module

public import proofs.«01_k».proof.Proof.Gen.Kernel3Ideal.Skeleton
public import proofs.«01_k».proof.Proof.Proj.Math
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Cert.Projection

/-- The tile in eight column blocks. -/
def laneOf (H : FVec Ideal S1024x1024 .f32) : Vec Ideal S8x1024x128 .f32 := fun j =>
  H (ix2 (j 1) ⟨128 * (j 0).val + (j 2).val, by
    have h0 : (j 0).val < 8 := (j 0).isLt
    have h2 : (j 2).val < 128 := (j 2).isLt
    omega⟩)

/-- The tile in the three row orders. -/
def groups (H : FVec Ideal S1024x1024 .f32) : Vec Ideal S3x1024x1024 .bf16 := fun j => H (ix2 (src (j 0) (j 1)) (j 2))

/-- A column block of the tile, as it is stored. -/
def lanePay (H : FVec Ideal S1024x1024 .f32) (o : ℕ) (h : S1024x1024.Slices ![0, o] S1024x128) : FVec Ideal S1x1024x128 .f32 :=
  shapeCast S1x1024x128 (extractStridedSlice S1024x128 ![0, o] H h) shapeCasts_S1024x128_S1x1024x128

/-- It is the column block's piece of `laneOf`. -/
theorem lane_piece (H : FVec Ideal S1024x1024 .f32) (c : Fin 8) (h : S1024x1024.Slices ![0, 128 * c.val] S1024x128)
    (i : ∀ a, (![c.val, 0, 0] : Fin 3 → ℕ) a + S1x1024x128.size a ≤ S8x1024x128.size a) (x : S1x1024x128.Idx) :
    lanePay H (128 * c.val) h x = laneOf H ((Rect.unit (s := S8x1024x128) ![c.val, 0, 0] ![1, 1024, 128] i).emb x) := by
  obtain ⟨r, l, rfl⟩ : ∃ (r : Fin 1024) (l : Fin 128), x = ix3 0 r l :=
    ⟨x 1, x 2, funext fun a => by
      fin_cases a
      · exact Subsingleton.elim (α := Fin 1) _ _
      · rfl
      · rfl⟩
  have hl := l.isLt
  have e : lanePay H (128 * c.val) h (ix3 0 r l) = H (ix2 r ⟨128 * c.val + l.val, by have := c.isLt; omega⟩) := by
    unfold lanePay
    pointwise
  rw [e]
  refine congrArg H (funext fun a => Fin.ext ?_)
  fin_cases a
  · show r.val = 0 + 1 * r.val
    omega
  · show 128 * c.val + l.val = 128 * (c.val + 1 * 0) + (0 + 1 * l.val)
    omega

/-- Rows of one residue modulo 4, as they are stored. -/
def pay4 (v : Vec Ideal S1x256x128 .f32) : FVec Ideal S1x256x128 .bf16 :=
  shapeCast S1x256x128 (truncf .bf16 (shapeCast S256x128 v shapeCasts_S1x256x128_S256x128) bitsLt_bf16_f32)
    shapeCasts_S256x128_S1x256x128

/-- Rows of one residue modulo 16, as they are stored. -/
def pay16 (v : Vec Ideal S1x64x128 .f32) : FVec Ideal S1x64x128 .bf16 :=
  shapeCast S1x64x128 (truncf .bf16 (shapeCast S64x128 v shapeCasts_S1x64x128_S64x128) bitsLt_bf16_f32)
    shapeCasts_S64x128_S1x64x128

theorem pay4_at (v : Vec Ideal S1x256x128 .f32) (k : Fin 256) (l : Fin 128) : pay4 v (ix3 0 k l) = v (ix3 0 k l) := by
  unfold pay4
  pointwise

theorem pay16_at (v : Vec Ideal S1x64x128 .f32) (k : Fin 64) (l : Fin 128) : pay16 v (ix3 0 k l) = v (ix3 0 k l) := by
  unfold pay16
  pointwise

end Cert.Kernel3Ideal.Proj

end
-- ==== Proof.Proj.Stores.lean ====
/-
  The attention's input projection: the lists of stores of a grid point, in the kernel's order, and what the buffers hold
  after them.
-/
module

public import proofs.«01_k».proof.Proof.Proj.Pieces
public import proofs.«01_k».proof.Proof.Gen.Kernel3Ideal.Frame

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Cert.Projection

theorem lane_slices : ∀ c : Fin 8, S1024x1024.Slices ![0, 128 * c.val] S1024x128 := by decide
theorem lane_inb : ∀ c : Fin 8, ∀ a, (![c.val, 0, 0] : Fin 3 → ℕ) a + S1x1024x128.size a ≤ S8x1024x128.size a := by decide
theorem slot_inb : ∀ (t : Fin 3) (p : Fin 8), ∀ a,
    (![0, 8 * t.val + p.val, 0, 0] : Fin 4 → ℕ) a + S1x1x1024x128.size a ≤ S1x24x1024x128.size a := by decide
theorem rows4_inb : ∀ (r : Fin 4) (c : Fin 8), ∀ a,
    (![1, 256 * r.val, 128 * c.val] : Fin 3 → ℕ) a + S1x256x128.size a ≤ S3x1024x1024.size a := by decide
theorem rows16_inb : ∀ (r : Fin 16) (c : Fin 8), ∀ a,
    (![2, 64 * r.val, 128 * c.val] : Fin 3 → ℕ) a + S1x64x128.size a ≤ S3x1024x1024.size a := by decide
theorem every4_inb : ∀ (r : Fin 4) (c : Fin 8), ∀ a, S1x256x128.size a = 0 ∨
    (![c.val, r.val, 0] : Fin 3 → ℕ) a + (![1, 4, 1] : Fin 3 → ℕ) a * (S1x256x128.size a - 1) < S8x1024x128.size a := by decide
theorem every16_inb : ∀ (r : Fin 16) (c : Fin 8), ∀ a, S1x64x128.size a = 0 ∨
    (![c.val, r.val, 0] : Fin 3 → ℕ) a + (![1, 16, 1] : Fin 3 → ℕ) a * (S1x64x128.size a - 1) < S8x1024x128.size a := by decide

/-- Every fourth row of a column block, from row `r`. -/
def every4 (r : Fin 4) (c : Fin 8) : LoadRect S8x1024x128 := ⟨![c.val, r.val, 0], S1x256x128.size, ![1, 4, 1], every4_inb r c⟩

/-- Every sixteenth row of a column block, from row `r`. -/
def every16 (r : Fin 16) (c : Fin 8) : LoadRect S8x1024x128 :=
  ⟨![c.val, r.val, 0], S1x64x128.size, ![1, 16, 1], every16_inb r c⟩

/-- The columns and rows of the loops, in the order of the list: the last store is the first of the list. -/
abbrev cols : List (Fin 8) := [7, 6, 5, 4, 3, 2, 1, 0]
abbrev rows4 : List (Fin 4) := [3, 2, 1, 0]
abbrev rows16 : List (Fin 16) := [15, 14, 13, 12, 11, 10, 9, 8, 7, 6, 5, 4, 3, 2, 1, 0]

/-- The stores of the tile's column blocks. -/
def lanes (H : FVec Ideal S1024x1024 .f32) : List (View.Piece (Elt Ideal) S8x1024x128 .f32) :=
  cols.map fun c => ⟨Rect.unit ![c.val, 0, 0] S1x1024x128.size (lane_inb c), lanePay H (128 * c.val) (lane_slices c)⟩

theorem mem_cols : ∀ c : Fin 8, c ∈ cols := by decide
theorem mem_rows4 : ∀ c : Fin 4, c ∈ rows4 := by decide
theorem mem_rows16 : ∀ c : Fin 16, c ∈ rows16 := by decide

/-- After them the buffer holds the tile in column blocks. -/
theorem lanes_canon (H : FVec Ideal S1024x1024 .f32) (y : S8x1024x128.Idx) : View.canon (lanes H) y = laneOf H y := by
  have hc : ∃ p ∈ lanes H, y ∈ p.1.set := View.cover_of_tiledL (lanes H) ![1, 1024, 128] (by sl_kernel_rfl) y
  have h := View.canon_append_of_pieces (laneOf H) [] (lanes H) (fun p hp x => by
    obtain ⟨k, -, rfl⟩ := List.mem_map.mp hp
    exact lane_piece H k (lane_slices k) (lane_inb k) x) y hc
  rwa [List.append_nil] at h

/-- The stores of the tile in its three row orders: `T` is the list of the column blocks' stores, `w` their buffer and
    `first` what is stored for the group of the tile's own order. -/
def stores (w : View sig Kind.tc Space.vmem S8x1024x128 EltTy.f32) (T : List (View.Piece (Elt Ideal) S8x1024x128 .f32))
    (first : FVec Ideal S1x1024x1024 .bf16) : List (View.Piece (Elt Ideal) S3x1024x1024 .bf16) :=
  (rows16.flatMap fun r => cols.map fun c =>
    (⟨Rect.unit ![2, 64 * r.val, 128 * c.val] S1x64x128.size (rows16_inb r c), pay16 (w.readCov T (every16 r c))⟩ :
      View.Piece (Elt Ideal) S3x1024x1024 .bf16)) ++
  ((rows4.flatMap fun r => cols.map fun c =>
    (⟨Rect.unit ![1, 256 * r.val, 128 * c.val] S1x256x128.size (rows4_inb r c), pay4 (w.readCov T (every4 r c))⟩ :
      View.Piece (Elt Ideal) S3x1024x1024 .bf16)) ++
  [⟨Rect.unit ![0, 0, 0] S1x1024x1024.size inb_S3x1024x1024_S1x1024x1024_0_0_0, first⟩])

/-- A piece of the third group is its block of `groups`. -/
theorem rows16_piece (w : View sig Kind.tc Space.vmem S8x1024x128 EltTy.f32) (H : FVec Ideal S1024x1024 .f32)
    (T : List (View.Piece (Elt Ideal) S8x1024x128 .f32)) (hT : ∀ y, View.canon T y = laneOf H y) (r : Fin 16) (c : Fin 8)
    (x : S1x64x128.Idx) : pay16 (w.readCov T (every16 r c)) x =
      groups H ((Rect.unit (s := S3x1024x1024) ![2, 64 * r.val, 128 * c.val] S1x64x128.size (rows16_inb r c)).emb x) := by
  obtain ⟨k, l, rfl⟩ : ∃ (k : Fin 64) (l : Fin 128), x = ix3 0 k l :=
    ⟨x 1, x 2, funext fun a => by
      fin_cases a
      · exact Subsingleton.elim (α := Fin 1) _ _
      · rfl
      · rfl⟩
  refine (pay16_at (w.readCov T (every16 r c)) k l).trans ?_
  refine (congrFun (View.readCov_eq_canon' w T (every16 r c)) (ix3 0 k l)).trans ?_
  refine (hT _).trans (congrArg H (funext fun a => Fin.ext ?_))
  have hk := k.isLt
  have hl := l.isLt
  have hr := r.isLt
  fin_cases a
  · show r.val + 16 * k.val = rowFrom (dil 2) (span 2) (64 * r.val + 1 * k.val)
    rw [show dil 2 = 16 from rfl, show span 2 = 64 from rfl]
    unfold rowFrom
    omega
  · show 128 * (c.val + 1 * 0) + (0 + 1 * l.val) = 128 * c.val + 1 * l.val
    omega

/-- A piece of the second group is its block of `groups`. -/
theorem rows4_piece (w : View sig Kind.tc Space.vmem S8x1024x128 EltTy.f32) (H : FVec Ideal S1024x1024 .f32)
    (T : List (View.Piece (Elt Ideal) S8x1024x128 .f32)) (hT : ∀ y, View.canon T y = laneOf H y) (r : Fin 4) (c : Fin 8)
    (x : S1x256x128.Idx) : pay4 (w.readCov T (every4 r c)) x =
      groups H ((Rect.unit (s := S3x1024x1024) ![1, 256 * r.val, 128 * c.val] S1x256x128.size (rows4_inb r c)).emb x) := by
  obtain ⟨k, l, rfl⟩ : ∃ (k : Fin 256) (l : Fin 128), x = ix3 0 k l :=
    ⟨x 1, x 2, funext fun a => by
      fin_cases a
      · exact Subsingleton.elim (α := Fin 1) _ _
      · rfl
      · rfl⟩
  refine (pay4_at (w.readCov T (every4 r c)) k l).trans ?_
  refine (congrFun (View.readCov_eq_canon' w T (every4 r c)) (ix3 0 k l)).trans ?_
  refine (hT _).trans (congrArg H (funext fun a => Fin.ext ?_))
  have hk := k.isLt
  have hl := l.isLt
  have hr := r.isLt
  fin_cases a
  · show r.val + 4 * k.val = rowFrom (dil 1) (span 1) (256 * r.val + 1 * k.val)
    rw [show dil 1 = 4 from rfl, show span 1 = 256 from rfl]
    unfold rowFrom
    omega
  · show 128 * (c.val + 1 * 0) + (0 + 1 * l.val) = 128 * c.val + 1 * l.val
    omega

/-- The piece of the first group is its block of `groups`. -/
theorem first_piece (H : FVec Ideal S1024x1024 .f32) (first : FVec Ideal S1x1024x1024 .bf16)
    (h : ∀ r k : Fin 1024, first (ix3 0 r k) = H (ix2 r k)) (x : S1x1024x1024.Idx) : first x =
      groups H ((Rect.unit (s := S3x1024x1024) ![0, 0, 0] S1x1024x1024.size
        inb_S3x1024x1024_S1x1024x1024_0_0_0).emb x) := by
  obtain ⟨r, k, rfl⟩ : ∃ (r k : Fin 1024), x = ix3 0 r k :=
    ⟨x 1, x 2, funext fun a => by
      fin_cases a
      · exact Subsingleton.elim (α := Fin 1) _ _
      · rfl
      · rfl⟩
  refine (h r k).trans (congrArg H (funext fun a => Fin.ext ?_))
  have hr := r.isLt
  fin_cases a
  · show r.val = rowFrom (dil 0) (span 0) (0 + 1 * r.val)
    rw [show dil 0 = 1 from rfl, show span 0 = 1024 from rfl]
    unfold rowFrom
    omega
  · show k.val = 0 + 1 * k.val
    omega

/-- After all the stores the buffer holds the tile in its three row orders. -/
theorem stores_canon (w : View sig Kind.tc Space.vmem S8x1024x128 EltTy.f32) (H : FVec Ideal S1024x1024 .f32)
    (T : List (View.Piece (Elt Ideal) S8x1024x128 .f32)) (hT : ∀ y, View.canon T y = laneOf H y)
    (first : FVec Ideal S1x1024x1024 .bf16) (hf : ∀ r k : Fin 1024, first (ix3 0 r k) = H (ix2 r k)) (y : S3x1024x1024.Idx)
    (hc : ∃ p ∈ stores w T first, y ∈ p.1.set) : View.canon (stores w T first) y = groups H y := by
  have h := View.canon_append_of_pieces (groups H) [] (stores w T first) (fun p hp x => by
    rcases List.mem_append.mp hp with hp | hp
    · obtain ⟨r, -, hp⟩ := List.mem_flatMap.mp hp
      obtain ⟨k, -, rfl⟩ := List.mem_map.mp hp
      exact rows16_piece w H T hT r k x
    · rcases List.mem_append.mp hp with hp | hp
      · obtain ⟨r, -, hp⟩ := List.mem_flatMap.mp hp
        obtain ⟨k, -, rfl⟩ := List.mem_map.mp hp
        exact rows4_piece w H T hT r k x
      · obtain rfl := List.mem_singleton.mp hp
        exact first_piece H first hf x) y hc
  rwa [List.append_nil] at h

/-- A column block of a product, as it is stored in the result's block. -/
def outPay (R : FVec Ideal S1024x1024 .f32) (o : ℕ) (h : S1024x1024.Slices ![0, o] S1024x128) : FVec Ideal S1x1x1024x128 .bf16 :=
  shapeCast S1x1x1024x128 (truncf .bf16 (extractStridedSlice S1024x128 ![0, o] R h) bitsLt_bf16_f32)
    shapeCasts_S1024x128_S1x1x1024x128

/-- The stores of the result's block: the column blocks of the three products. -/
def outs (R : Fin 3 → FVec Ideal S1024x1024 .f32) : List (View.Piece (Elt Ideal) S1x24x1024x128 .bf16) :=
  ([2, 1, 0] : List (Fin 3)).flatMap fun t => cols.map fun p =>
    (⟨Rect.unit ![0, 8 * t.val + p.val, 0, 0] S1x1x1024x128.size (slot_inb t p),
      outPay (R t) (128 * p.val) (lane_slices p)⟩ : View.Piece (Elt Ideal) S1x24x1024x128 .bf16)

/-- The result's block. -/
def outOf (R : Fin 3 → FVec Ideal S1024x1024 .f32) : Vec Ideal S1x24x1024x128 .bf16 := fun y =>
  R ⟨(y 1).val / 8, by have h : (y 1).val < 24 := (y 1).isLt; omega⟩
    (ix2 (y 2) ⟨128 * ((y 1).val % 8) + (y 3).val, by have h : (y 3).val < 128 := (y 3).isLt; omega⟩)

theorem outPay_at (R : FVec Ideal S1024x1024 .f32) (p : Fin 8) (r : Fin 1024) (l : Fin 128) :
    outPay R (128 * p.val) (lane_slices p) (ix4 0 0 r l) = R (ix2 r ⟨128 * p.val + l.val, by omega⟩) := by
  unfold outPay
  pointwise

/-- After the stores the result's block holds the three products' column blocks. -/
theorem outs_canon (R : Fin 3 → FVec Ideal S1024x1024 .f32) (y : S1x24x1024x128.Idx) : View.canon (outs R) y = outOf R y := by
  have hc : ∃ p ∈ outs R, y ∈ p.1.set := View.cover_of_tiledL (outs R) ![1, 1, 1024, 128] (by sl_kernel_rfl) y
  have h := View.canon_append_of_pieces (outOf R) [] (outs R) (fun p hp x => by
    obtain ⟨t, -, hp⟩ := List.mem_flatMap.mp hp
    obtain ⟨k, -, rfl⟩ := List.mem_map.mp hp
    obtain ⟨r, l, rfl⟩ : ∃ (r : Fin 1024) (l : Fin 128), x = ix4 0 0 r l :=
      ⟨x 2, x 3, funext fun a => by
        fin_cases a
        · exact Subsingleton.elim (α := Fin 1) _ _
        · exact Subsingleton.elim (α := Fin 1) _ _
        · rfl
        · rfl⟩
    refine (outPay_at (R t) k r l).trans ?_
    have hk := k.isLt
    refine congr (congrArg R (Fin.ext ?_)) (funext fun a => Fin.ext ?_)
    · show t.val = (8 * t.val + k.val + 1 * 0) / 8
      omega
    · fin_cases a
      · show r.val = 0 + 1 * r.val
        omega
      · show 128 * k.val + l.val = 128 * ((8 * t.val + k.val + 1 * 0) % 8) + (0 + 1 * l.val)
        omega) y hc
  rwa [List.append_nil] at h

end Cert.Kernel3Ideal.Proj

end
-- ==== Proof.Proj.Point.lean ====
/-
  The attention's input projection: what a grid point leaves in the carried buffer and in the result's block.
-/
module

public import proofs.«01_k».proof.Proof.Proj.Stores

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Cert.Projection

/-- The modulated and normalized tile of a block of the input. -/
def tile (x : Vec Ideal S1x1024x1024 .f32) (md : Vec Ideal S1x6x1024 .f32) (g : Vec Ideal S1x1024 .f32) :
    FVec Ideal S1024x1024 .f32 :=
  k0_pay5 (View.ld x (Rect.unit ![0, 0, 0] S1x1024x1024.size inb_S1x1024x1024_S1x1024x1024_0_0_0))
    (View.ld g (Rect.unit ![0, 0] S1x1024.size inb_S1x1024_S1x1024_0_0))
    (View.ld md (Rect.unit ![0, 0, 0] S1x1x1024.size inb_S1x6x1024_S1x1x1024_0_0_0))
    (View.ld md (Rect.unit ![0, 1, 0] S1x1x1024.size inb_S1x6x1024_S1x1x1024_0_1_0))

/-- The three products of a point: the rows of the carried group with the weights of the queries, keys and values. -/
def products (X : FVec Ideal S1024x1024 .bf16) (wq wk wv : FVec Ideal S1024x1024 .bf16) : Fin 3 → FVec Ideal S1024x1024 .f32 :=
  ![mulf (k0_pay207 X wq) (broadcast S1024x1024 (Scalar.ofBits .f32 0x3E38AA3B#32)), k0_pay207 X wk, k0_pay207 X wv]

section

variable (c : Dev nD) (i : grid0.Coords) (arg3 : Memref sig Kind.tc Space.vmem S1x1024x1024 EltTy.f32) (harg3 : arg3.IsWhole)
  (arg4 : Memref sig Kind.tc Space.vmem S1x6x1024 EltTy.f32) (harg4 : arg4.IsWhole)
  (arg5 : Memref sig Kind.tc Space.vmem S1x1024 EltTy.f32) (harg5 : arg5.IsWhole)
  (arg10 : Memref sig Kind.tc Space.vmem S3x1024x1024 EltTy.bf16) (arg11 : Memref sig Kind.tc Space.vmem S8x1024x128 EltTy.f32)
  (x0 : Vec Ideal S1x1024x1024 .f32) (x1 : Vec Ideal S1x6x1024 .f32) (x2 : Vec Ideal S1x1024 .f32)

theorem r_eq : kernelRun0_A.sl.r c arg3 harg3 arg4 harg4 arg5 harg5 x0 x1 x2 = tile x0 x1 x2 := by
  unfold kernelRun0_A.sl.r tile
  simp only [View.readAt_eq_ld, Memref.IsWhole.read_unread]

theorem HS1_8_eq : kernelRun0_A.sl.HS1_8 c arg3 harg3 arg4 harg4 arg5 harg5 x0 x1 x2 =
    lanes (kernelRun0_A.sl.r c arg3 harg3 arg4 harg4 arg5 harg5 x0 x1 x2) := by
  unfold kernelRun0_A.sl.HS1_8
  rfl

set_option maxHeartbeats 4000000 in
theorem HS0_161_eq : kernelRun0_A.sl.HS0_161 c arg3 harg3 arg4 harg4 arg5 harg5 arg11 x0 x1 x2 =
    stores arg11.view (kernelRun0_A.sl.HS1_8 c arg3 harg3 arg4 harg4 arg5 harg5 x0 x1 x2)
      (shapeCast S1x1024x1024 (truncf .bf16 (kernelRun0_A.sl.r c arg3 harg3 arg4 harg4 arg5 harg5 x0 x1 x2) bitsLt_bf16_f32)
        shapeCasts_S1024x1024_S1x1024x1024) := by
  unfold kernelRun0_A.sl.HS0_161
  rfl

/-- What case A stores in the carried buffer: the tile in its three row orders. -/
theorem HS0_161_canon (y : S3x1024x1024.Idx) :
    View.canon (kernelRun0_A.sl.HS0_161 c arg3 harg3 arg4 harg4 arg5 harg5 arg11 x0 x1 x2) y = groups (tile x0 x1 x2) y := by
  rw [HS0_161_eq, HS1_8_eq, r_eq]
  refine stores_canon arg11.view (tile x0 x1 x2) _ (lanes_canon _) _ (fun r k => ?_) y
    (View.cover_of_tiledBy _ ![1, 64, 128] (by sl_kernel_rfl) y)
  pointwise

/-- The rows of a group that a point reads from the carried buffer. -/
def group (G : Vec Ideal S3x1024x1024 .bf16) : FVec Ideal S1024x1024 .bf16 :=
  k0_pay196 (View.ld G (Rect.unit (k0_off1 i) S1x1024x1024.size (k0_off1_inb i)))

theorem r_24_eq : kernelRun0_A.sl.r_24 c i arg3 harg3 arg4 harg4 arg5 harg5 arg10 arg11 x0 x1 x2 =
    group i (groups (tile x0 x1 x2)) := by
  unfold kernelRun0_A.sl.r_24 kernelRun0_A.sl.v4 group
  rw [View.readAt_writes_junk_eq_canon]
  refine congrArg k0_pay196 (funext fun j => ?_)
  exact HS0_161_canon c arg3 harg3 arg4 harg4 arg5 harg5 arg11 x0 x1 x2 _

theorem r_B_eq (harg10 : arg10.IsWhole) (G : Vec Ideal S3x1024x1024 .bf16) : kernelRun0_B.sl.r c i arg10 harg10 G = group i G := by
  unfold kernelRun0_B.sl.r group
  simp only [View.readAt_eq_ld, Memref.IsWhole.read_unread]

variable (arg6 : Memref sig Kind.tc Space.vmem S1024x1024 EltTy.bf16) (harg6 : arg6.IsWhole)
  (arg7 : Memref sig Kind.tc Space.vmem S1024x1024 EltTy.bf16) (harg7 : arg7.IsWhole)
  (arg8 : Memref sig Kind.tc Space.vmem S1024x1024 EltTy.bf16) (harg8 : arg8.IsWhole)
  (arg9 : Memref sig Kind.tc Space.vmem S1x24x1024x128 EltTy.bf16) (harg9 : arg9.IsWhole)
  (harg10 : arg10.IsWhole) (harg11 : arg11.IsWhole) (x3 x4 x5 : Vec Ideal S1024x1024 .bf16)

/-- The whole of a weight window's block, as it is loaded from the window's buffer. -/
def loaded (a : Memref sig Kind.tc Space.vmem S1024x1024 EltTy.bf16) (h : a.IsWhole) (w : Vec Ideal S1024x1024 .bf16) :
    FVec Ideal S1024x1024 .bf16 :=
  View.readAt (Elt Ideal) a.view (Rect.unit ![0, 0] S1024x1024.size inb_S1024x1024_S1024x1024_0_0).toLoadRect (h.unread w)

/-- A weight window's block. -/
def weight (w : Vec Ideal S1024x1024 .bf16) : FVec Ideal S1024x1024 .bf16 :=
  View.ld w (Rect.unit ![0, 0] S1024x1024.size inb_S1024x1024_S1024x1024_0_0)

theorem loaded_eq (a : Memref sig Kind.tc Space.vmem S1024x1024 EltTy.bf16) (h : a.IsWhole) (w : Vec Ideal S1024x1024 .bf16) :
    loaded a h w = weight w := by
  unfold loaded weight
  simp only [View.readAt_eq_ld, Memref.IsWhole.read_unread]

set_option maxHeartbeats 4000000 in
/-- Case A's stores in the result's block. -/
theorem outs_A (h : cond0_0 i) :
    (kernelRun0_A c i arg3 harg3 arg4 harg4 arg5 harg5 arg6 harg6 arg7 harg7 arg8 harg8 arg9 harg9 arg10 harg10 arg11 harg11 h
      x0 x1 x2 x3 x4 x5).1 =
    outs (products (kernelRun0_A.sl.r_24 c i arg3 harg3 arg4 harg4 arg5 harg5 arg10 arg11 x0 x1 x2) (loaded arg6 harg6 x3)
      (loaded arg7 harg7 x4) (loaded arg8 harg8 x5)) := by
  unfold kernelRun0_A
  rfl

set_option maxHeartbeats 4000000 in
/-- Case B's stores in the result's block. -/
theorem outs_B (h : ¬ cond0_0 i) (G : Vec Ideal S3x1024x1024 .bf16) :
    (kernelRun0_B c i arg3 harg3 arg4 harg4 arg5 harg5 arg6 harg6 arg7 harg7 arg8 harg8 arg9 harg9 arg10 harg10 arg11 harg11 h
      x0 x1 x2 x3 x4 x5 G).1 =
    outs (products (kernelRun0_B.sl.r c i arg10 harg10 G) (loaded arg6 harg6 x3) (loaded arg7 harg7 x4)
      (loaded arg8 harg8 x5)) := by
  unfold kernelRun0_B
  rfl

end

section

variable (m : (ℓ : Loc nD τ sig) → Buf (Elt Ideal) ℓ) (c : Dev nD) (t : Fin cfg0.N)

theorem carried_A (h : t.val % 3 = 0) :
    (outsAt0 m c t.val t.isLt).2 = groups (tile (iblk m c 0 t) (iblk m c 1 t) (iblk m c 2 t)) := by
  rw [outsAt0_A m c t h]
  dsimp only
  unfold sout0_A_0
  rw [View.read_writes_junk_eq_canon]
  funext y
  exact HS0_161_canon c (ms0_0 t) _ (ms0_1 t) _ (ms0_2 t) _ scM0_1 (iblk m c 0 t) (iblk m c 1 t) (iblk m c 2 t) y

theorem carried_B (h : ¬ t.val % 3 = 0) :
    (outsAt0 m c t.val t.isLt).2 = (outsAt0 m c (t.val - 1) (Nat.lt_of_le_of_lt (Nat.sub_le _ _) t.isLt)).2 := by
  rw [outsAt0_B m c t h]
  rfl

theorem out_A (h : t.val % 3 = 0) (y : S1x24x1024x128.Idx) : (outsAt0 m c t.val t.isLt).1 y =
    outOf (products (group (grid0.coords t) (groups (tile (iblk m c 0 t) (iblk m c 1 t) (iblk m c 2 t))))
      (weight (iblk m c 3 t)) (weight (iblk m c 4 t)) (weight (iblk m c 5 t))) y := by
  rw [outsAt0_A m c t h]
  dsimp only
  unfold out0_A_6
  rw [View.read_writes_junk_eq_canon, outs_A, r_24_eq, loaded_eq, loaded_eq, loaded_eq]
  exact outs_canon _ y

theorem out_B (h : ¬ t.val % 3 = 0) (y : S1x24x1024x128.Idx) : (outsAt0 m c t.val t.isLt).1 y =
    outOf (products (group (grid0.coords t) (outsAt0 m c (t.val - 1) (Nat.lt_of_le_of_lt (Nat.sub_le _ _) t.isLt)).2)
      (weight (iblk m c 3 t)) (weight (iblk m c 4 t)) (weight (iblk m c 5 t))) y := by
  rw [outsAt0_B m c t h]
  dsimp only
  unfold out0_B_6
  rw [View.read_writes_junk_eq_canon, outs_B, r_B_eq, loaded_eq, loaded_eq, loaded_eq]
  exact outs_canon _ y

end

end Cert.Kernel3Ideal.Proj

end
-- ==== Proof.Proj.Blocks.lean ====
/-
  The attention's input projection: what the windows hold at a grid point, and the tile and products there.
-/
module

public import proofs.«01_k».proof.Proof.Proj.Point
public import Idealize.ShloMosaic.Lib.Claim

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Cert.Projection

/-- What the projection reads, from the program's arguments. -/
def argsOf (x : Vec Ideal S2x8192x1024 .f32) (md : Vec Ideal S2x2x6144 .f32) (gn : Vec Ideal S2x1024 .f32)
    (w : Vec Ideal S1x1024x9216 .f32) : Args where
  x b s j := x (ix3 b s j)
  md b i j := md (ix3 0 b ⟨i.val * 1024 + j.val, by omega⟩)
  gn j := gn (ix2 0 j)
  w k n := w (ix3 0 k n)

variable (m : (ℓ : Loc nD τ sig) → Buf (Elt Ideal) ℓ)

/-- The arguments on a device. -/
abbrev args (c : Dev nD) : Args :=
  argsOf (m ((c : Thread nD τ).loc main_arg0)) (m ((c : Thread nD τ).loc main_arg1)) (m ((c : Thread nD τ).loc main_arg2))
    (m ((c : Thread nD τ).loc main_arg3))

theorem idx : ∀ t : Fin cfg0.N, win0_0.index t = ![t.val / 24, t.val % 24 / 3, 0] ∧ win0_1.index t = ![t.val / 24, 0, 0]
    ∧ win0_2.index t = ![0, 0] ∧ win0_3.index t = ![0, t.val % 3] ∧ win0_4.index t = ![0, 3 + t.val % 3]
    ∧ win0_5.index t = ![0, 6 + t.val % 3] ∧ win0_6.index t = ![t.val / 24, t.val % 3, t.val % 24 / 3, 0]
    ∧ k0_off1 (grid0.coords t) = ![t.val % 3, 0, 0] ∧ t.val / 24 < 2 :=
  (by decide +kernel : ∀ t : Fin grid0.N, _)

/-- The sequence, the unit of rows and the group a grid point works on. -/
def seqOf (t : Fin cfg0.N) : Fin 2 := ⟨t.val / 24, (idx t).2.2.2.2.2.2.2.2⟩
def unitOf (t : Fin cfg0.N) : Fin 8 := ⟨t.val % 24 / 3, by omega⟩
def groupOf (t : Fin cfg0.N) : Fin 3 := ⟨t.val % 3, Nat.mod_lt _ (by decide)⟩

/-- The sequence's row that row `r` of a unit is. -/
def rowOf (u : Fin 8) (r : Fin 1024) : Fin 8192 := ⟨1024 * u.val + r.val, by omega⟩

theorem x_at (c : Dev nD) (t : Fin cfg0.N) (r k : Fin 1024) :
    (iblk m c 0 t : Vec Ideal S1x1024x1024 .f32) (ix3 0 r k) = (args m c).x (seqOf t) (rowOf (unitOf t) r) k := by
  show _ = m ((c : Thread nD τ).loc main_arg0) (ix3 (seqOf t) (rowOf (unitOf t) r) k)
  blk_ext [iblk, V, idx t, rowOf, seqOf, unitOf]

theorem mod_at (c : Dev nD) (t : Fin cfg0.N) (i : Fin 6) (j : Fin 1024) :
    (iblk m c 1 t : Vec Ideal S1x6x1024 .f32) (ix3 0 i j) = (args m c).md (seqOf t) i j := by
  have e : (iblk m c 1 t : Vec Ideal S1x6x1024 .f32) (ix3 0 i j) = (V m c main_v2 : Vec Ideal S2x6x1024 .f32) (ix3 (seqOf t) i j) := by
    blk_ext [iblk, idx t, seqOf]
  rw [e]
  simp only [V, List.flatten_cons, List.flatten_nil, List.append_nil, hostOps0, List.cons_append, List.nil_append]
  entry_read
  simp only [argsOf]
  pointwise

theorem gain_at (c : Dev nD) (t : Fin cfg0.N) (j : Fin 1024) :
    (iblk m c 2 t : Vec Ideal S1x1024 .f32) (ix2 0 j) = (args m c).gn j := by
  have e : iblk m c 2 t = V m c main_v5 := by blk_ext! [iblk, idx t]
  rw [e]
  simp only [V, List.flatten_cons, List.flatten_nil, List.append_nil, hostOps0, List.cons_append, List.nil_append]
  entry_read
  simp only [argsOf]
  pointwise

theorem wall_at (c : Dev nD) (k : Fin 1024) (n : Fin 9216) :
    (V m c main_v7 : Vec Ideal S1024x9216 .bf16) (ix2 k n) = (args m c).w k n := by
  simp only [V, List.flatten_cons, List.flatten_nil, List.append_nil, hostOps0, List.cons_append, List.nil_append]
  entry_read
  simp only [argsOf]
  pointwise

theorem wq_at (c : Dev nD) (t : Fin cfg0.N) (k j : Fin 1024) :
    (iblk m c 3 t : Vec Ideal S1024x1024 .bf16) (ix2 k j) = (args m c).w k (colIn 0 (groupOf t) j) := by
  rw [← wall_at]
  blk_ext [iblk, idx t, colIn, groupOf]

theorem wk_at (c : Dev nD) (t : Fin cfg0.N) (k j : Fin 1024) :
    (iblk m c 4 t : Vec Ideal S1024x1024 .bf16) (ix2 k j) = (args m c).w k (colIn 1 (groupOf t) j) := by
  rw [← wall_at]
  blk_ext [iblk, idx t, colIn, groupOf]

theorem wv_at (c : Dev nD) (t : Fin cfg0.N) (k j : Fin 1024) :
    (iblk m c 5 t : Vec Ideal S1024x1024 .bf16) (ix2 k j) = (args m c).w k (colIn 2 (groupOf t) j) := by
  rw [← wall_at]
  blk_ext [iblk, idx t, colIn, groupOf]

/-- The tile's entries. -/
theorem tile_at (x : Vec Ideal S1x1024x1024 .f32) (md : Vec Ideal S1x6x1024 .f32) (g : Vec Ideal S1x1024 .f32) (r k : Fin 1024) :
    tile x md g (ix2 r k) = x (ix3 0 r k) * FeedForward.scale (fun j => x (ix3 0 r j)) * g (ix2 0 k) * (1 + md (ix3 0 1 k))
      + md (ix3 0 0 k) := by
  unfold tile k0_pay5
  pointwise [View.ld, FeedForward.scale]

/-- At a grid point the tile is the unit's normalized stream. -/
theorem tile_eq (c : Dev nD) (t : Fin cfg0.N) (r k : Fin 1024) :
    tile (iblk m c 0 t) (iblk m c 1 t) (iblk m c 2 t) (ix2 r k) = normed (args m c) (seqOf t) (rowOf (unitOf t) r) k := by
  rw [tile_at, mod_at, mod_at, gain_at, x_at]
  have e : (fun j => (iblk m c 0 t : Vec Ideal S1x1024x1024 .f32) (ix3 0 r j)) = (args m c).x (seqOf t) (rowOf (unitOf t) r) :=
    funext fun j => x_at m c t r j
  rw [e]
  rfl

theorem group_at (t : Fin cfg0.N) (G : Vec Ideal S3x1024x1024 .bf16) (r k : Fin 1024) :
    group (grid0.coords t) G (ix2 r k) = G (ix3 (groupOf t) r k) := by
  have e : group (grid0.coords t) G (ix2 r k) = View.ld G (Rect.unit (k0_off1 (grid0.coords t)) S1x1024x1024.size
      (k0_off1_inb (grid0.coords t))) (ix3 0 r k) := by
    unfold group k0_pay196
    pointwise
  rw [e]
  have ho := (idx t).2.2.2.2.2.2.2.1
  refine congrArg G (funext fun a => Fin.ext ?_)
  fin_cases a
  · show k0_off1 (grid0.coords t) 0 + 1 * 0 = t.val % 3
    rw [ho]
    rfl
  · show k0_off1 (grid0.coords t) 1 + 1 * r.val = r.val
    rw [ho]
    show 0 + 1 * r.val = r.val
    omega
  · show k0_off1 (grid0.coords t) 2 + 1 * k.val = k.val
    rw [ho]
    show 0 + 1 * k.val = k.val
    omega

theorem weight_eq (w : Vec Ideal S1024x1024 .bf16) (k j : Fin 1024) : weight w (ix2 k j) = w (ix2 k j) := by
  unfold weight
  pointwise [View.ld]

theorem dot_at (X w : FVec Ideal S1024x1024 .bf16) (r j : Fin 1024) :
    k0_pay207 X w (ix2 r j) = ∑ k, (show EReal from X (ix2 r k)) * (show EReal from w (ix2 k j)) := by
  unfold k0_pay207
  pointwise

end Cert.Kernel3Ideal.Proj

end
-- ==== Proof.Proj.Sweep.lean ====
/-
  The attention's input projection over the grid: each point leaves its block of the result, so the array after the last
  point is the projection's result.
-/
module

public import proofs.«01_k».proof.Proof.Proj.Blocks
public import proofs.«01_k».proof.Proof.Gen.Kernel3Ideal.Value

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen
open Cert.Projection

variable (m : (ℓ : Loc nD τ sig) → Buf (Elt Ideal) ℓ) (c : Dev nD)

/-- The normalized stream of a grid point's unit of rows. -/
def unitTile (t : Fin cfg0.N) : FVec Ideal S1024x1024 .f32 := fun j => normed (args m c) (seqOf t) (rowOf (unitOf t) (j 0)) (j 1)

theorem tile_eq_unitTile (t : Fin cfg0.N) : tile (iblk m c 0 t) (iblk m c 1 t) (iblk m c 2 t) = unitTile m c t := by
  funext j
  obtain ⟨r, k, rfl⟩ : ∃ (r k : Fin 1024), j = ix2 r k := ⟨j 0, j 1, funext fun a => by fin_cases a <;> rfl⟩
  exact tile_eq m c t r k

/-- A point that starts no unit works on the unit of the point before. -/
theorem unitTile_pred (t : Fin cfg0.N) (h : ¬ t.val % 3 = 0) :
    unitTile m c ⟨t.val - 1, Nat.lt_of_le_of_lt (Nat.sub_le _ _) t.isLt⟩ = unitTile m c t := by
  have es : seqOf ⟨t.val - 1, Nat.lt_of_le_of_lt (Nat.sub_le _ _) t.isLt⟩ = seqOf t := Fin.ext (by
    show (t.val - 1) / 24 = t.val / 24
    omega)
  have eu : unitOf ⟨t.val - 1, Nat.lt_of_le_of_lt (Nat.sub_le _ _) t.isLt⟩ = unitOf t := Fin.ext (by
    show (t.val - 1) % 24 / 3 = t.val % 24 / 3
    omega)
  unfold unitTile
  rw [es, eu]

/-- After every point the carried buffer holds the unit's normalized stream in its three row orders. -/
theorem carried : ∀ (n : ℕ) (h : n < cfg0.N), (outsAt0 m c n h).2 = groups (unitTile m c ⟨n, h⟩) := by
  intro n
  induction n with
  | zero =>
    intro h
    rw [carried_A m c ⟨0, h⟩ rfl, tile_eq_unitTile]
  | succ n ih =>
    intro h
    by_cases hz : (n + 1) % 3 = 0
    · rw [carried_A m c ⟨n + 1, h⟩ hz, tile_eq_unitTile]
    · rw [carried_B m c ⟨n + 1, h⟩ hz, ← unitTile_pred m c ⟨n + 1, h⟩ hz]
      exact ih _

/-- The products' rows at a point, whether it starts its unit or not. -/
theorem out_eq (t : Fin cfg0.N) (y : S1x24x1024x128.Idx) : (outsAt0 m c t.val t.isLt).1 y =
    outOf (products (group (grid0.coords t) (groups (unitTile m c t)))
      (weight (iblk m c 3 t)) (weight (iblk m c 4 t)) (weight (iblk m c 5 t))) y := by
  by_cases hz : t.val % 3 = 0
  · rw [out_A m c t hz, tile_eq_unitTile]
  · rw [out_B m c t hz, carried m c (t.val - 1), unitTile_pred m c t hz]

/-- The row order within a unit is the result's. -/
theorem rowIn_rowOf (g : Fin 3) (u : Fin 8) (r : Fin 1024) : rowIn g (rowOf u r) = rowOf u (src g r) := by
  have hr := r.isLt
  have e : (⟨(1024 * u.val + r.val) % 1024, Nat.mod_lt _ (by decide)⟩ : Fin 1024) = r := Fin.ext (by
    show (1024 * u.val + r.val) % 1024 = r.val
    omega)
  refine Fin.ext ?_
  show 1024 * ((1024 * u.val + r.val) / 1024) + (src g ⟨(1024 * u.val + r.val) % 1024, Nat.mod_lt _ (by decide)⟩).val
    = 1024 * u.val + (src g r).val
  rw [e]
  omega

/-- One product at a point, from the weights' entries. -/
theorem product_at (t : Fin cfg0.N) (w : Vec Ideal S1024x1024 .bf16) (q : Fin 3) (r j : Fin 1024)
    (hw : ∀ k, w (ix2 k j) = (args m c).w k (colIn q (groupOf t) j)) :
    k0_pay207 (group (grid0.coords t) (groups (unitTile m c t))) (weight w) (ix2 r j) =
      proj (args m c) (seqOf t) (rowIn (groupOf t) (rowOf (unitOf t) r)) (colIn q (groupOf t) j) := by
  rw [dot_at, rowIn_rowOf]
  unfold proj
  refine Finset.sum_congr rfl fun k _ => ?_
  rw [group_at, weight_eq, hw k]
  rfl

/-- What a point leaves in its block of the result. -/
theorem block_at (t : Fin cfg0.N) (q : Fin 3) (p : Fin 8) (r : Fin 1024) (l : Fin 128) :
    (outsAt0 m c t.val t.isLt).1 (ix4 0 ⟨8 * q.val + p.val, by omega⟩ r l) =
      result (args m c) (seqOf t) (groupOf t) q p (rowOf (unitOf t) r) l := by
  rw [out_eq]
  have hp := p.isLt
  have e : ∀ R : Fin 3 → FVec Ideal S1024x1024 .f32, outOf R (ix4 0 ⟨8 * q.val + p.val, by omega⟩ r l)
      = R q (ix2 r ⟨128 * p.val + l.val, by omega⟩) := fun R => by
    refine congr (congrArg R (Fin.ext ?_)) (funext fun a => Fin.ext ?_)
    · show (8 * q.val + p.val) / 8 = q.val
      omega
    · fin_cases a
      · rfl
      · show 128 * ((8 * q.val + p.val) % 8) + l.val = 128 * p.val + l.val
        omega
  rw [e]
  unfold result
  fin_cases q
  · exact congrArg (fun e : EReal => e * Ideal.ofBits .f32 0x3E38AA3B#32) (product_at m c t _ 0 r _ fun k => wq_at m c t k _)
  · exact product_at m c t _ 1 r _ fun k => wk_at m c t k _
  · exact product_at m c t _ 2 r _ fun k => wv_at m c t k _

/-- The grid point whose block holds an entry of the result. -/
def pointOf (b : Fin 2) (g : Fin 3) (u : Fin 8) : Fin cfg0.N := ⟨24 * b.val + 3 * u.val + g.val, by
  show _ < 48
  omega⟩

theorem pointOf_seq (b : Fin 2) (g : Fin 3) (u : Fin 8) : seqOf (pointOf b g u) = b := Fin.ext (by
  show (24 * b.val + 3 * u.val + g.val) / 24 = b.val
  omega)

theorem pointOf_group (b : Fin 2) (g : Fin 3) (u : Fin 8) : groupOf (pointOf b g u) = g := Fin.ext (by
  show (24 * b.val + 3 * u.val + g.val) % 3 = g.val
  omega)

theorem pointOf_unit (b : Fin 2) (g : Fin 3) (u : Fin 8) : unitOf (pointOf b g u) = u := Fin.ext (by
  show (24 * b.val + 3 * u.val + g.val) % 24 / 3 = u.val
  omega)

theorem pointOf_index (b : Fin 2) (g : Fin 3) (u : Fin 8) : win0_6.index (pointOf b g u) = ![b.val, g.val, u.val, 0] := by
  rw [(idx (pointOf b g u)).2.2.2.2.2.2.1, show (pointOf b g u).val / 24 = b.val from congrArg Fin.val (pointOf_seq b g u),
    show (pointOf b g u).val % 3 = g.val from congrArg Fin.val (pointOf_group b g u),
    show (pointOf b g u).val % 24 / 3 = u.val from congrArg Fin.val (pointOf_unit b g u)]

/-- The array after the last point, index by index. -/
theorem result_at (b : Fin 2) (g q : Fin 3) (p : Fin 8) (u : Fin 8) (r : Fin 1024) (l : Fin 128) :
    ((dats m 0 c).arrAt 6 cfg0.N : Vec Ideal S2x72x8192x128 .bf16)
        (ix4 b ⟨24 * g.val + (8 * q.val + p.val), by omega⟩ (rowOf u r) l) =
      result (args m c) b g q p (rowOf u r) l := by
  have h := congrFun (Value.blocks6 m c (pointOf b g u) (flush0_6 _)) (ix4 0 ⟨8 * q.val + p.val, by omega⟩ r l)
  rw [Value.flushed6] at h
  have e := block_at m c (pointOf b g u) q p r l
  rw [pointOf_seq, pointOf_group, pointOf_unit] at e
  rw [← e]
  refine Eq.trans ?_ (h.trans ?_)
  · symm
    blk_ext [pointOf_index b g u, rowOf]
  · rfl

end Cert.Kernel3Ideal.Proj

end
-- ==== Proof.Proj.Reference.lean ====
/-
  The attention's input projection in the reference: the product, the nine parts of its columns, each laid out, and their
  stack.
-/
module

public import proofs.«01_k».proof.Proof.Proj.Blocks
public import proofs.«01_k».proof.Proof.Gen.Reference3Ideal.Run

@[expose] public section

set_option maxRecDepth 16384

noncomputable section

namespace Cert.Reference3Ideal.Proj

open Idealize.ShloMosaic Idealize.ShloMosaic.TcCoe Idealize.SL.Sem
open Cert.Reference3Ideal Cert.Reference3Ideal.Gen Cert.Reference3Ideal.Value
open Cert.Kernel3Ideal.Proj (argsOf)
open Cert.Projection

/-- The projected stream. -/
def projected (x : FVec Ideal S2x8192x1024 .f32) (md : FVec Ideal S2x2x6144 .f32) (gn : FVec Ideal S2x1024 .f32)
    (w : FVec Ideal S1x1024x9216 .f32) : FVec Ideal S2x8192x9216 .f32 :=
  Host.dotGeneral dot_S2x8192x1024_S1024x9216_S2x8192x9216_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] gn slices_S2x1024_S1x1024_0_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] (shapeCast _ (extractStridedSlice S1x2x6144 ![0, 0, 0] md slices_S2x2x6144_S1x2x6144_0_0_0) shapeCasts_S1x2x6144_S2x6144) slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] (shapeCast _ (extractStridedSlice S1x2x6144 ![0, 0, 0] md slices_S2x2x6144_S1x2x6144_0_0_0) shapeCasts_S1x2x6144_S2x6144) slices_S2x6144_S2x1024_0_0)))) (shapeCast _ w shapeCasts_S1x1024x9216_S1024x9216)

theorem part_slices : ∀ t g : Fin 3, S2x8192x3x3x1024.Slices ![0, 0, t.val, g.val, 0] S2x8192x1x1x1024 := by decide

/-- The columns for the queries, keys or values (`t`) and group `g`. -/
def part (t g : Fin 3) (W : FVec Ideal S2x8192x9216 .f32) : FVec Ideal S2x8192x1024 .f32 :=
  shapeCast S2x8192x1024 (extractStridedSlice S2x8192x1x1x1024 ![0, 0, t.val, g.val, 0]
    (shapeCast S2x8192x3x3x1024 W shapeCasts_S2x8192x9216_S2x8192x3x3x1024) (part_slices t g))
    shapeCasts_S2x8192x1x1x1024_S2x8192x1024

/-- The queries' columns have a factor. -/
def factored (T : FVec Ideal S2x8192x1024 .f32) : FVec Ideal S2x8192x1024 .f32 :=
  mulf T (broadcastInDim S2x8192x1024 ![] bcast_S_S2x8192x1024 (constant S_ .f32 0x3E38AA3B#32))

/-- The layout of the first group. -/
def lay1 (T : FVec Ideal S2x8192x1024 .f32) : FVec Ideal S2x8x8192x128 .f32 :=
  shapeCast S2x8x8192x128 (transpose S2x8x8x1x1024x128 [0, 4, 1, 3, 2, 5]
    (shapeCast S2x8x1024x1x8x128 T shapeCasts_S2x8192x1024_S2x8x1024x1x8x128)
    transposes_S2x8x1024x1x8x128_S2x8x8x1x1024x128_0_4_1_3_2_5) shapeCasts_S2x8x8x1x1024x128_S2x8x8192x128

/-- The layout of the second group. -/
def lay4 (T : FVec Ideal S2x8192x1024 .f32) : FVec Ideal S2x8x8192x128 .f32 :=
  shapeCast S2x8x8192x128 (transpose S2x8x8x4x256x128 [0, 4, 1, 3, 2, 5]
    (shapeCast S2x8x256x4x8x128 T shapeCasts_S2x8192x1024_S2x8x256x4x8x128)
    transposes_S2x8x256x4x8x128_S2x8x8x4x256x128_0_4_1_3_2_5) shapeCasts_S2x8x8x4x256x128_S2x8x8192x128

/-- The layout of the third group. -/
def lay16 (T : FVec Ideal S2x8192x1024 .f32) : FVec Ideal S2x8x8192x128 .f32 :=
  shapeCast S2x8x8192x128 (transpose S2x8x8x16x64x128 [0, 4, 1, 3, 2, 5]
    (shapeCast S2x8x64x16x8x128 T shapeCasts_S2x8192x1024_S2x8x64x16x8x128)
    transposes_S2x8x64x16x8x128_S2x8x8x16x64x128_0_4_1_3_2_5) shapeCasts_S2x8x8x16x64x128_S2x8x8192x128

/-- The nine parts stacked. -/
def stacked (W : FVec Ideal S2x8192x9216 .f32) : FVec Ideal S2x72x8192x128 .bf16 :=
  truncf .bf16 (concatenate S2x72x8192x128 1
    [⟨S2x8x8192x128, lay1 (factored (part 0 0 W))⟩, ⟨S2x8x8192x128, lay1 (part 1 0 W)⟩, ⟨S2x8x8192x128, lay1 (part 2 0 W)⟩,
     ⟨S2x8x8192x128, lay4 (factored (part 0 1 W))⟩, ⟨S2x8x8192x128, lay4 (part 1 1 W)⟩, ⟨S2x8x8192x128, lay4 (part 2 1 W)⟩,
     ⟨S2x8x8192x128, lay16 (factored (part 0 2 W))⟩, ⟨S2x8x8192x128, lay16 (part 1 2 W)⟩,
     ⟨S2x8x8192x128, lay16 (part 2 2 W)⟩]
    concatenates_S2x8x8192x128_S2x8x8192x128_S2x8x8192x128_S2x8x8192x128_S2x8x8192x128_S2x8x8192x128_S2x8x8192x128_S2x8x8192x128_S2x8x8192x128_S2x72x8192x128_d1)
    bitsLt_bf16_f32

theorem res_eq (m : (ℓ : Loc nD τ sig) → Buf (Elt Ideal) ℓ) (c : Dev nD) : res_main_v86 m c =
    stacked (projected (m ((c.tc : Thread nD τ).loc main_arg0)) (m ((c.tc : Thread nD τ).loc main_arg1))
      (m ((c.tc : Thread nD τ).loc main_arg2)) (m ((c.tc : Thread nD τ).loc main_arg3))) := by
  unfold res_main_v86
  rfl

theorem projected_at (x : FVec Ideal S2x8192x1024 .f32) (md : FVec Ideal S2x2x6144 .f32) (gn : FVec Ideal S2x1024 .f32)
    (w : FVec Ideal S1x1024x9216 .f32) (b : Fin 2) (s : Fin 8192) (n : Fin 9216) :
    projected x md gn w (ix3 b s n) = proj (argsOf x md gn w) b s n := by
  unfold projected
  pointwise [proj, normed, FeedForward.scale, argsOf]

theorem part_at (t g : Fin 3) (W : FVec Ideal S2x8192x9216 .f32) (b : Fin 2) (s : Fin 8192) (j : Fin 1024) :
    part t g W (ix3 b s j) = W (ix3 b s (colIn t g j)) := by
  unfold part
  pointwise
  exact congrArg (fun n => W (ix3 b s n)) (Fin.ext (by
    show t.val * 3072 + g.val * 1024 + j.val = 3072 * t.val + 1024 * g.val + j.val
    omega))

theorem factored_at (T : FVec Ideal S2x8192x1024 .f32) (b : Fin 2) (s : Fin 8192) (j : Fin 1024) :
    factored T (ix3 b s j) = (show EReal from T (ix3 b s j)) * Ideal.ofBits .f32 0x3E38AA3B#32 := by
  unfold factored
  pointwise

/-- An entry at a row and column that are the layout's. -/
theorem entry_eq (T : FVec Ideal S2x8192x1024 .f32) (b : Fin 2) (g : Fin 3) (p : Fin 8) (s : Fin 8192) (l : Fin 128)
    (r : Fin 8192) (k : Fin 1024) (hr : r.val = 1024 * (s.val / 1024) + rowFrom (dil g) (span g) (s.val % 1024))
    (hk : k.val = p.val * 128 + l.val) : T (ix3 b r k) = T (ix3 b (rowIn g s) ⟨128 * p.val + l.val, by omega⟩) := by
  have ek : k.val = 128 * p.val + l.val := by omega
  exact congrArg T (funext fun a => by
    fin_cases a
    · rfl
    · exact Fin.ext hr
    · exact Fin.ext ek)

theorem lay1_at (T : FVec Ideal S2x8192x1024 .f32) (b : Fin 2) (p : Fin 8) (s : Fin 8192) (l : Fin 128) :
    lay1 T (ix4 b p s l) = T (ix3 b (rowIn 0 s) ⟨128 * p.val + l.val, by omega⟩) := by
  unfold lay1
  pointwise
  refine entry_eq T b 0 p s l _ _ ?_ rfl
  rw [show dil 0 = 1 from rfl, show span 0 = 1024 from rfl]
  unfold rowFrom
  omega

theorem lay4_at (T : FVec Ideal S2x8192x1024 .f32) (b : Fin 2) (p : Fin 8) (s : Fin 8192) (l : Fin 128) :
    lay4 T (ix4 b p s l) = T (ix3 b (rowIn 1 s) ⟨128 * p.val + l.val, by omega⟩) := by
  unfold lay4
  pointwise
  refine entry_eq T b 1 p s l _ _ ?_ rfl
  rw [show dil 1 = 4 from rfl, show span 1 = 256 from rfl]
  unfold rowFrom
  show s.val / 1024 * 1024 + s.val % 256 * 4 + s.val / 256 % 4 = _
  omega

theorem lay16_at (T : FVec Ideal S2x8192x1024 .f32) (b : Fin 2) (p : Fin 8) (s : Fin 8192) (l : Fin 128) :
    lay16 T (ix4 b p s l) = T (ix3 b (rowIn 2 s) ⟨128 * p.val + l.val, by omega⟩) := by
  unfold lay16
  pointwise
  refine entry_eq T b 2 p s l _ _ ?_ rfl
  rw [show dil 2 = 16 from rfl, show span 2 = 64 from rfl]
  unfold rowFrom
  show s.val / 1024 * 1024 + s.val % 64 * 16 + s.val / 64 % 16 = _
  omega

/-- The three groups' layouts. -/
def laid : Fin 3 → FVec Ideal S2x8192x1024 .f32 → FVec Ideal S2x8x8192x128 .f32 := ![lay1, lay4, lay16]

theorem laid_at (g : Fin 3) (T : FVec Ideal S2x8192x1024 .f32) (b : Fin 2) (p : Fin 8) (s : Fin 8192) (l : Fin 128) :
    laid g T (ix4 b p s l) = T (ix3 b (rowIn g s) ⟨128 * p.val + l.val, by omega⟩) := by
  fin_cases g
  · exact lay1_at T b p s l
  · exact lay4_at T b p s l
  · exact lay16_at T b p s l

/-- The nine parts with the queries' factor. -/
def kind : Fin 3 → FVec Ideal S2x8192x1024 .f32 → FVec Ideal S2x8192x1024 .f32 := ![factored, id, id]

theorem kind_at (q g : Fin 3) (W : FVec Ideal S2x8192x9216 .f32) (b : Fin 2) (s : Fin 8192) (j : Fin 1024) :
    kind q (part q g W) (ix3 b s j) = scaled q (W (ix3 b s (colIn q g j))) := by
  rw [← part_at q g W]
  fin_cases q
  · exact factored_at (part 0 g W) b s j
  · rfl
  · rfl

/-- Piece `n` of the stack. -/
def pieceOf (W : FVec Ideal S2x8192x9216 .f32) (n : Fin 9) : FVec Ideal S2x8x8192x128 .f32 :=
  laid ⟨n.val / 3, by omega⟩ (kind ⟨n.val % 3, Nat.mod_lt _ (by decide)⟩
    (part ⟨n.val % 3, Nat.mod_lt _ (by decide)⟩ ⟨n.val / 3, by omega⟩ W))

/-- The stack, index by index. -/
theorem stacked_at (W : FVec Ideal S2x8192x9216 .f32) (b : Fin 2) (g q : Fin 3) (p : Fin 8) (s : Fin 8192) (l : Fin 128) :
    stacked W (ix4 b ⟨24 * g.val + (8 * q.val + p.val), by omega⟩ s l) =
      scaled q (W (ix3 b (rowIn g s) (colIn q g ⟨128 * p.val + l.val, by omega⟩))) := by
  have hp := p.isLt
  have e : pieceOf W ⟨3 * g.val + q.val, by omega⟩ (ix4 b p s l) =
      scaled q (W (ix3 b (rowIn g s) (colIn q g ⟨128 * p.val + l.val, by omega⟩))) := by
    have eg : (⟨(3 * g.val + q.val) / 3, by omega⟩ : Fin 3) = g := Fin.ext (by
      show (3 * g.val + q.val) / 3 = g.val
      omega)
    have eq : (⟨(3 * g.val + q.val) % 3, Nat.mod_lt _ (by decide)⟩ : Fin 3) = q := Fin.ext (by
      show (3 * g.val + q.val) % 3 = q.val
      omega)
    unfold pieceOf
    dsimp only
    rw [eg, eq, laid_at, kind_at]
  refine Eq.trans ?_ e
  exact concatenate_ofFn_apply (t := S2x72x8192x128) (s₁ := S2x8x8192x128) 1 (pieceOf W)
    concatenates_S2x8x8192x128_S2x8x8192x128_S2x8x8192x128_S2x8x8192x128_S2x8x8192x128_S2x8x8192x128_S2x8x8192x128_S2x8x8192x128_S2x8x8192x128_S2x72x8192x128_d1
    rfl 8 rfl (ix4 b ⟨24 * g.val + (8 * q.val + p.val), by omega⟩ s l)
    ⟨3 * g.val + q.val, by omega⟩
    (by
      show (24 * g.val + (8 * q.val + p.val)) / 8 = 3 * g.val + q.val
      omega) (ix4 b p s l)
    (by
      show p.val = (24 * g.val + (8 * q.val + p.val)) % 8
      omega)
    (fun a ha => by
      fin_cases a
      · rfl
      · exact absurd rfl ha
      · rfl
      · rfl)

end Cert.Reference3Ideal.Proj

end
-- ==== Proof.Proj.Equal.lean ====
/-
  The attention's input projection: the two runs joined. Both programs end with `result` of the arguments.
-/
module

public import proofs.«01_k».proof.Defs
public import proofs.«01_k».proof.Proof.Proj.Sweep
public import proofs.«01_k».proof.Proof.Proj.Reference
public import Idealize.ShloMosaic.Lib.Quiescent

@[expose] public section

set_option maxRecDepth 16384

noncomputable section

namespace Cert.Proof.Proj

open Idealize.ShloMosaic Idealize.ShloMosaic.TcCoe Idealize.SL.Sem

/-- The reference ends with its arguments unchanged; it declares no semaphore. -/
theorem reference_frame :
    Cert.quiescent_Reference3Ideal (hReference3Ideal := Cert.Reference3Ideal.Gen.facts) :=
  fun m g _ => (θ_run _ _ _).mono (fun r h => ⟨fun c => (h c).2, sem_eq_zero_of_no_sems (by decide) r.2⟩)
    (Cert.Reference3Ideal.Value.run m g)

/-- Every index of the result is a sequence, a group, a kind, a slot, a row of a unit and a lane. -/
theorem index_parts (j : (⟨4, ![2, 72, 8192, 128]⟩ : Shape).Idx) :
    ∃ (b : Fin 2) (g q : Fin 3) (p u : Fin 8) (r : Fin 1024) (l : Fin 128),
      j = ix4 b ⟨24 * g.val + (8 * q.val + p.val), by omega⟩ (Cert.Kernel3Ideal.Proj.rowOf u r) l := by
  have h1 : (j 1).val < 72 := (j 1).isLt
  have h2 : (j 2).val < 8192 := (j 2).isLt
  refine ⟨j 0, ⟨(j 1).val / 24, by omega⟩, ⟨(j 1).val / 8 % 3, by omega⟩, ⟨(j 1).val % 8, by omega⟩,
    ⟨(j 2).val / 1024, by omega⟩, ⟨(j 2).val % 1024, by omega⟩, j 3, funext fun a => Fin.ext ?_⟩
  fin_cases a
  · rfl
  · show (j 1).val = 24 * ((j 1).val / 24) + (8 * ((j 1).val / 8 % 3) + (j 1).val % 8)
    omega
  · show (j 2).val = 1024 * ((j 2).val / 1024) + (j 2).val % 1024
    omega
  · rfl

/-- The value claim of the attention's input projection. -/
theorem algebraic : Cert.algebraic_Kernel3Ideal_Reference3Ideal
    (hKernel3Ideal := Cert.Kernel3Ideal.Gen.facts) (hReference3Ideal := Cert.Reference3Ideal.Gen.facts) := by
  intro m g m' g' _ hargs
  refine ⟨fun c => (Cert.Kernel3Ideal.Gen.dats m 0 c).arrAt 6 Cert.Kernel3Ideal.cfg0.N,
    Cert.Kernel3Ideal.Value.run_blocks m g, ?_⟩
  refine (θ_run _ _ _).mono (fun r h c => ⟨(h c).1.trans ?_, (h c).2⟩) (Cert.Reference3Ideal.Value.run m' g')
  obtain ⟨h0, h1, h2, h3⟩ := hargs c
  rw [Cert.Reference3Ideal.Proj.res_eq]
  funext j
  obtain ⟨b, gr, q, p, u, r, l, rfl⟩ := index_parts j
  refine (Cert.Reference3Ideal.Proj.stacked_at _ b gr q p _ l).trans ?_
  rw [Cert.Reference3Ideal.Proj.projected_at]
  refine Eq.trans ?_ (Cert.Kernel3Ideal.Proj.result_at m c b gr q p u r l).symm
  have e : Cert.Kernel3Ideal.Proj.argsOf (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3)) =
      Cert.Kernel3Ideal.Proj.args m c :=
    congrArg₂ (fun f x => f x) (congrArg₂ (fun f x => f x) (congrArg₂ (fun f x => f x)
      (congrArg Cert.Kernel3Ideal.Proj.argsOf h0) h1) h2) h3
  exact congrArg (fun a => Cert.Projection.result a b gr q p (Cert.Kernel3Ideal.Proj.rowOf u r) l) e

end Cert.Proof.Proj

end
-- ==== Proof.GlaProj.Math.lean ====
/-
  The gated linear attention's input projection as mathematics: the modulated norm, the product with the weights, and the
  log decays, which come from sixteen of its columns through a second product and the logarithm of the logistic function.
-/
module

public import proofs.«01_k».proof.Proof.Ffn.Math

@[expose] public section

set_option maxRecDepth 16384

noncomputable section

namespace Cert.GlaProjection

open Idealize.ShloMosaic

/-- What the projection reads. -/
structure Args where
  /-- residual stream -/
  x : Fin 2 → Fin 8192 → Fin 1024 → EReal
  /-- modulation rows -/
  md : Fin 2 → Fin 6 → Fin 1024 → EReal
  /-- norm's gain -/
  gn : Fin 1024 → EReal
  /-- weights -/
  w : Fin 1024 → Fin 3088 → EReal
  /-- decays' second weights -/
  wg : Fin 16 → Fin 512 → EReal
  /-- decays' bias -/
  bg : Fin 512 → EReal

variable (a : Args)

/-- The stream normalized and modulated. -/
def normed (b : Fin 2) (s : Fin 8192) (j : Fin 1024) : EReal :=
  a.x b s j * FeedForward.scale (a.x b s) * a.gn j * (1 + a.md b 1 j) + a.md b 0 j

/-- The projected stream. -/
def proj (b : Fin 2) (s : Fin 8192) (n : Fin 3088) : EReal := ∑ k, normed a b s k * a.w k n

/-- The columns of the queries, keys, values, gates and of what the decays come from. -/
def qCol (j : Fin 512) : Fin 3088 := ⟨j.val, by omega⟩
def kCol (j : Fin 512) : Fin 3088 := ⟨512 + j.val, by omega⟩
def vCol (j : Fin 1024) : Fin 3088 := ⟨1024 + j.val, by omega⟩
def lowCol (j : Fin 16) : Fin 3088 := ⟨2048 + j.val, by omega⟩
def rCol (j : Fin 1024) : Fin 3088 := ⟨2064 + j.val, by omega⟩

/-- The decays' argument. -/
def gate (b : Fin 2) (s : Fin 8192) (j : Fin 512) : EReal := (∑ i, proj a b s (lowCol i) * a.wg i j) + a.bg j

/-- A log decay from its argument: the logarithm of the logistic function, divided by sixteen. -/
def decay (z : EReal) : EReal :=
  Ideal.div (min z 0 - Ideal.log (1 + Ideal.exp (0 - max z (-z)))) (Ideal.ofBits .f32 0x41800000#32)

/-- The logarithm of one plus an exponential of a real is real. -/
theorem log_one_add_exp (r : ℝ) : ∃ l : ℝ, Ideal.log (1 + Ideal.exp (r : EReal)) = (l : EReal) := by
  refine ⟨Real.log (1 + Real.exp r), ?_⟩
  have h : (1 : EReal) + Ideal.exp (r : EReal) = ((1 + Real.exp r : ℝ) : EReal) := by
    show (1 : EReal) + ((Real.exp r : ℝ) : EReal) = _
    rw [EReal.coe_add]
    rfl
  rw [h]
  show (if 1 + Real.exp r ≤ 0 then (⊥ : EReal) else _) = _
  rw [if_neg (not_le.mpr (by positivity))]

theorem log_one_add_exp_bot : Ideal.log (1 + Ideal.exp ⊥) = ((0 : ℝ) : EReal) := by
  rw [show Ideal.exp ⊥ = 0 from rfl, add_zero]
  show (if (1 : ℝ) ≤ 0 then (⊥ : EReal) else ((Real.log 1 : ℝ) : EReal)) = _
  rw [if_neg (by norm_num), Real.log_one]

/-- The logarithm of the logistic function, written with the maximum of `-z` and zero. -/
theorem neg_max_add (z : EReal) :
    -(max (-z) 0 + Ideal.log (1 + Ideal.exp (-(max (-z - 0) (-(-z - 0)))))) =
      min z 0 - Ideal.log (1 + Ideal.exp (0 - max z (-z))) := by
  have e : -(max (-z - 0) (-(-z - 0))) = 0 - max z (-z) := by
    rw [sub_zero, neg_neg, max_comm, zero_sub]
  have e' : -(max (-z) 0) = min z 0 := by
    rw [← neg_zero (G := EReal), EReal.max_neg_neg, neg_neg, neg_zero]
  rw [e]
  have hl : ∃ l : ℝ, Ideal.log (1 + Ideal.exp (0 - max z (-z))) = (l : EReal) := by
    induction z with
    | bot => exact ⟨0, by
        rw [show (0 : EReal) - max ⊥ (-⊥) = ⊥ by simp]
        exact log_one_add_exp_bot⟩
    | top => exact ⟨0, by
        rw [show (0 : EReal) - max ⊤ (-⊤) = ⊥ by simp]
        exact log_one_add_exp_bot⟩
    | coe r =>
      have h : (0 : EReal) - max (r : EReal) (-(r : EReal)) = ((0 - max r (-r) : ℝ) : EReal) := by
        rw [EReal.coe_sub, EReal.coe_strictMono.monotone.map_max, EReal.coe_neg]
        rfl
      rw [h]
      exact log_one_add_exp _
  obtain ⟨l, hl⟩ := hl
  rw [hl, EReal.neg_add (Or.inr (EReal.coe_ne_top l)) (Or.inr (EReal.coe_ne_bot l)), e']

end Cert.GlaProjection

end
-- ==== Proof.GlaProj.Blocks.lean ====
/-
  The gated linear attention's input projection: what the windows hold at a grid point, and what the point stores.
-/
module

public import proofs.«01_k».proof.Proof.GlaProj.Math
public import proofs.«01_k».proof.Proof.Gen.Kernel4Ideal.Value
public import Idealize.ShloMosaic.Lib.Claim

@[expose] public section

set_option maxRecDepth 16384

noncomputable section

namespace Cert.Kernel4Ideal.GlaProj

open Idealize.ShloMosaic Idealize.ShloMosaic.TcCoe Idealize.SL.Sem
open Cert.Kernel4Ideal Cert.Kernel4Ideal.Gen
open Cert.GlaProjection

/-- What the projection reads, from the program's arguments. -/
def argsOf (x : Vec Ideal S2x8192x1024 .f32) (md : Vec Ideal S2x2x6144 .f32) (gn : Vec Ideal S2x1024 .f32)
    (w : Vec Ideal S1x1024x3088 .f32) (wg : Vec Ideal S1x16x512 .f32) (bg : Vec Ideal S1x512 .f32) : Args where
  x b s j := x (ix3 b s j)
  md b i j := md (ix3 1 b ⟨i.val * 1024 + j.val, by omega⟩)
  gn j := gn (ix2 1 j)
  w k n := w (ix3 0 k n)
  wg i j := wg (ix3 0 i j)
  bg j := bg (ix2 0 j)

variable (m : (ℓ : Loc nD τ sig) → Buf (Elt Ideal) ℓ)

/-- The arguments on a device. -/
abbrev args (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![0, 0] ∧ win0_5.index t = ![0, 0]
    ∧ win0_6.index t = ![0, 0] ∧ t.val / 16 < 2 :=
  (by decide +kernel : ∀ t : Fin grid0.N, _)

/-- The sequence a grid point works on. -/
def seqOf (t : Fin cfg0.N) : Fin 2 := ⟨t.val / 16, (idx t).2.2.2.2.2.2.2⟩

/-- The sequence's row that row `r` of a grid point's tile is. -/
def rowOf (t : Fin cfg0.N) (r : Fin 512) : Fin 8192 :=
  ⟨512 * (t.val % 16) + r.val, by have := Nat.mod_lt t.val (show 0 < 16 by decide); omega⟩

theorem x_at (c : Dev nD) (t : Fin cfg0.N) (r : Fin 512) (k : Fin 1024) :
    (iblk m c 0 t : Vec Ideal S1x512x1024 .f32) (ix3 0 r k) = (args m c).x (seqOf t) (rowOf t r) k := by
  show _ = m ((c : Thread nD τ).loc main_arg0) (ix3 (seqOf t) (rowOf t r) k)
  blk_ext [iblk, V, idx t, rowOf, seqOf]

theorem mod_at (c : Dev nD) (t : Fin cfg0.N) (i : Fin 6) (j : Fin 1024) :
    (iblk m c 1 t : Vec Ideal S1x6x1024 .f32) (ix3 0 i j) = (args m c).md (seqOf t) i j := by
  have e : (iblk m c 1 t : Vec Ideal S1x6x1024 .f32) (ix3 0 i j) = (V m c main_v2 : Vec Ideal S2x6x1024 .f32) (ix3 (seqOf t) i j) := by
    blk_ext [iblk, idx t, seqOf]
  rw [e]
  simp only [V, List.flatten_cons, List.flatten_nil, List.append_nil, hostOps0, List.cons_append, List.nil_append]
  entry_read
  simp only [argsOf]
  pointwise

theorem gain_at (c : Dev nD) (t : Fin cfg0.N) (j : Fin 1024) :
    (iblk m c 2 t : Vec Ideal S1x1024 .f32) (ix2 0 j) = (args m c).gn j := by
  have e : iblk m c 2 t = V m c main_v12 := by blk_ext! [iblk, idx t]
  rw [e]
  simp only [V, List.flatten_cons, List.flatten_nil, List.append_nil, hostOps0, List.cons_append, List.nil_append]
  entry_read
  simp only [argsOf]
  pointwise

/-- The weights without the sixteen columns of the decays: the first 2048 columns. -/
theorem wfirst_at (c : Dev nD) (t : Fin cfg0.N) (k : Fin 1024) (n : Fin 2048) :
    (iblk m c 3 t : Vec Ideal S1024x3072 .bf16) (ix2 k ⟨n.val, by omega⟩) = (args m c).w k ⟨n.val, by omega⟩ := by
  have e : iblk m c 3 t = V m c main_v7 := by blk_ext! [iblk, idx t]
  rw [e]
  simp only [V, List.flatten_cons, List.flatten_nil, List.append_nil, hostOps0, List.cons_append, List.nil_append]
  entry_read
  simp only [argsOf]
  pointwise

/-- The weights without the sixteen columns of the decays: the others. -/
theorem wlast_at (c : Dev nD) (t : Fin cfg0.N) (k : Fin 1024) (n : Fin 1024) :
    (iblk m c 3 t : Vec Ideal S1024x3072 .bf16) (ix2 k ⟨2048 + n.val, by omega⟩) = (args m c).w k (rCol n) := by
  have e : iblk m c 3 t = V m c main_v7 := by blk_ext! [iblk, idx t]
  rw [e]
  simp only [V, List.flatten_cons, List.flatten_nil, List.append_nil, hostOps0, List.cons_append, List.nil_append]
  entry_read
  simp only [argsOf]
  pointwise [rCol]

theorem wlow_at (c : Dev nD) (t : Fin cfg0.N) (k : Fin 1024) (n : Fin 16) :
    (iblk m c 4 t : Vec Ideal S1024x16 .bf16) (ix2 k n) = (args m c).w k (lowCol n) := by
  have e : iblk m c 4 t = V m c main_v9 := by blk_ext! [iblk, idx t]
  rw [e]
  simp only [V, List.flatten_cons, List.flatten_nil, List.append_nil, hostOps0, List.cons_append, List.nil_append]
  entry_read
  simp only [argsOf]
  pointwise [lowCol]

theorem wgate_at (c : Dev nD) (t : Fin cfg0.N) (i : Fin 16) (j : Fin 512) :
    (iblk m c 5 t : Vec Ideal S16x512 .bf16) (ix2 i j) = (args m c).wg i j := by
  have e : iblk m c 5 t = V m c main_v14 := by blk_ext! [iblk, idx t]
  rw [e]
  simp only [V, List.flatten_cons, List.flatten_nil, List.append_nil, hostOps0, List.cons_append, List.nil_append]
  entry_read
  simp only [argsOf]
  pointwise

theorem bias_at (c : Dev nD) (t : Fin cfg0.N) (j : Fin 512) :
    (iblk m c 6 t : Vec Ideal S1x512 .f32) (ix2 0 j) = (args m c).bg j := by
  have e : iblk m c 6 t = V m c main_v16 := by blk_ext! [iblk, idx t]
  rw [e]
  simp only [V, List.flatten_cons, List.flatten_nil, List.append_nil, hostOps0, List.cons_append, List.nil_append]
  entry_read
  simp only [argsOf]
  pointwise

/-- The tile's entries. -/
theorem tile_at (x : Vec Ideal S1x512x1024 .f32) (md : Vec Ideal S1x6x1024 .f32) (g : Vec Ideal S1x1024 .f32)
    (r : Fin 512) (k : Fin 1024) :
    k0_pay2 (View.ld x r0_0) (View.ld g r0_1) (View.ld md r0_2) (View.ld md r0_3) (ix2 r k) =
      x (ix3 0 r k) * FeedForward.scale (fun j => x (ix3 0 r j)) * g (ix2 0 k) * (1 + md (ix3 0 1 k)) + md (ix3 0 0 k) := by
  unfold k0_pay2
  pointwise [View.ld, FeedForward.scale]

/-- The normalized tile of a grid point. -/
def tile (c : Dev nD) (t : Fin cfg0.N) : FVec Ideal S512x1024 .bf16 :=
  k0_pay2 (View.ld (iblk m c 0 t) r0_0) (View.ld (iblk m c 2 t) r0_1) (View.ld (iblk m c 1 t) r0_2) (View.ld (iblk m c 1 t) r0_3)

theorem tile_eq (c : Dev nD) (t : Fin cfg0.N) (r : Fin 512) (k : Fin 1024) :
    tile m c t (ix2 r k) = normed (args m c) (seqOf t) (rowOf t r) k := by
  refine (tile_at (iblk m c 0 t) (iblk m c 1 t) (iblk m c 2 t) r k).trans ?_
  rw [mod_at, mod_at, gain_at, x_at]
  have e : (fun j => (iblk m c 0 t : Vec Ideal S1x512x1024 .f32) (ix3 0 r j)) = (args m c).x (seqOf t) (rowOf t r) :=
    funext fun j => x_at m c t r j
  rw [e]
  rfl

/-- The products' entries. -/
theorem pay4_at (X : FVec Ideal S512x1024 .bf16) (w : Vec Ideal S1024x512 .bf16) (r j : Fin 512) :
    k0_pay4 X w (ix3 0 r j) = ∑ k, (show EReal from X (ix2 r k)) * (show EReal from w (ix2 k j)) := by
  unfold k0_pay4
  pointwise

theorem pay5_at (X : FVec Ideal S512x1024 .bf16) (w : Vec Ideal S1024x1024 .bf16) (r : Fin 512) (j : Fin 1024) :
    k0_pay5 X w (ix3 0 r j) = ∑ k, (show EReal from X (ix2 r k)) * (show EReal from w (ix2 k j)) := by
  unfold k0_pay5
  pointwise

theorem pay6_at (X : FVec Ideal S512x1024 .bf16) (w : Vec Ideal S1024x1024 .bf16) (r : Fin 512) (j : Fin 1024) :
    k0_pay6 X w (ix3 0 r j) = ∑ k, (show EReal from X (ix2 r k)) * (show EReal from w (ix2 k j)) := by
  unfold k0_pay6
  pointwise

theorem pay7_at (X : FVec Ideal S512x1024 .bf16) (wl : Vec Ideal S1024x16 .bf16) (wg : Vec Ideal S16x512 .bf16)
    (bg : Vec Ideal S1x512 .f32) (r j : Fin 512) :
    k0_pay7 X wl wg bg (ix2 r j) =
      (∑ i, (∑ k, (show EReal from X (ix2 r k)) * (show EReal from wl (ix2 k i))) * (show EReal from wg (ix2 i j)))
        + (show EReal from bg (ix2 0 j)) := by
  unfold k0_pay7
  pointwise

theorem pay1_at (X : FVec Ideal S512x1024 .bf16) (wl : Vec Ideal S1024x16 .bf16) (wg : Vec Ideal S16x512 .bf16)
    (bg : Vec Ideal S1x512 .f32) (r j : Fin 512) :
    k0_pay1 (k0_pay8 X wl wg bg) (k0_pay9 X wl wg bg) (ix3 0 r j) = decay (k0_pay7 X wl wg bg (ix2 r j)) := by
  unfold k0_pay1 k0_pay8 k0_pay9
  generalize k0_pay7 X wl wg bg = Z
  pointwise [decay]
  rfl

theorem tile_embed (y : S1x512x1024.Idx) : r0_0.emb y = y := funext fun a => Fin.ext (by
  fin_cases a
  · show 0 + 1 * (y 0).val = (y 0).val
    omega
  · show 0 + 1 * (y 1).val = (y 1).val
    omega
  · show 0 + 1 * (y 2).val = (y 2).val
    omega)

theorem half_embed (y : S1x512x512.Idx) : r0_5.emb y = y := funext fun a => Fin.ext (by
  fin_cases a
  · show 0 + 1 * (y 0).val = (y 0).val
    omega
  · show 0 + 1 * (y 1).val = (y 1).val
    omega
  · show 0 + 1 * (y 2).val = (y 2).val
    omega)

/-- A block stored whole holds what is stored. -/
theorem canon_tile {e : EltTy} (w : Vec Ideal S1x512x1024 e) (y : S1x512x1024.Idx) :
    View.canon (Val := Elt Ideal) [⟨r0_0, w⟩] y = w y := by
  have h := View.canon_cons_emb (Val := Elt Ideal) (e := e) r0_0 w [] y
  rwa [tile_embed] at h

theorem canon_half {e : EltTy} (w : Vec Ideal S1x512x512 e) (y : S1x512x512.Idx) :
    View.canon (Val := Elt Ideal) [⟨r0_5, w⟩] y = w y := by
  have h := View.canon_cons_emb (Val := Elt Ideal) (e := e) r0_5 w [] y
  rwa [half_embed] at h

/-- A product of the tile with columns of the weights. -/
theorem product_eq (c : Dev nD) (t : Fin cfg0.N) (r : Fin 512) (n : Fin 3088) (w : Fin 1024 → EReal)
    (h : ∀ k, w k = (args m c).w k n) :
    (∑ k, (show EReal from tile m c t (ix2 r k)) * w k) = proj (args m c) (seqOf t) (rowOf t r) n := by
  unfold proj
  exact Finset.sum_congr rfl fun k _ => congrArg₂ (· * ·) (tile_eq m c t r k) (h k)

/-- The queries' block. -/
theorem q_block (c : Dev nD) (t : Fin cfg0.N) (r j : Fin 512) :
    out0_7 (iblk m c 0 t) (iblk m c 1 t) (iblk m c 2 t) (iblk m c 3 t) (iblk m c 4 t) (iblk m c 5 t) (iblk m c 6 t) (ix3 0 r j)
      = proj (args m c) (seqOf t) (rowOf t r) (qCol j) := by
  refine (canon_half _ _).trans ((pay4_at (tile m c t) _ r j).trans (product_eq m c t r _ _ fun k => ?_))
  refine Eq.trans ?_ (wfirst_at m c t k ⟨j.val, by omega⟩)
  refine congrArg (iblk m c 3 t) (funext fun a => Fin.ext ?_)
  fin_cases a
  · show 0 + 1 * k.val = k.val
    omega
  · show 0 + 1 * j.val = j.val
    omega

/-- The keys' block. -/
theorem k_block (c : Dev nD) (t : Fin cfg0.N) (r j : Fin 512) :
    out0_8 (iblk m c 0 t) (iblk m c 1 t) (iblk m c 2 t) (iblk m c 3 t) (iblk m c 4 t) (iblk m c 5 t) (iblk m c 6 t) (ix3 0 r j)
      = proj (args m c) (seqOf t) (rowOf t r) (kCol j) := by
  refine (canon_half _ _).trans ((pay4_at (tile m c t) _ r j).trans (product_eq m c t r _ _ fun k => ?_))
  refine Eq.trans ?_ (wfirst_at m c t k ⟨512 + j.val, by omega⟩)
  refine congrArg (iblk m c 3 t) (funext fun a => Fin.ext ?_)
  fin_cases a
  · show 0 + 1 * k.val = k.val
    omega
  · show 512 + 1 * j.val = 512 + j.val
    omega

/-- The values' block. -/
theorem v_block (c : Dev nD) (t : Fin cfg0.N) (r : Fin 512) (j : Fin 1024) :
    out0_9 (iblk m c 0 t) (iblk m c 1 t) (iblk m c 2 t) (iblk m c 3 t) (iblk m c 4 t) (iblk m c 5 t) (iblk m c 6 t) (ix3 0 r j)
      = proj (args m c) (seqOf t) (rowOf t r) (vCol j) := by
  refine (canon_tile _ _).trans ((pay5_at (tile m c t) _ r j).trans (product_eq m c t r _ _ fun k => ?_))
  refine Eq.trans ?_ (wfirst_at m c t k ⟨1024 + j.val, by omega⟩)
  refine congrArg (iblk m c 3 t) (funext fun a => Fin.ext ?_)
  fin_cases a
  · show 0 + 1 * k.val = k.val
    omega
  · show 1024 + 1 * j.val = 1024 + j.val
    omega

/-- The gates' block. -/
theorem r_block (c : Dev nD) (t : Fin cfg0.N) (r : Fin 512) (j : Fin 1024) :
    out0_10 (iblk m c 0 t) (iblk m c 1 t) (iblk m c 2 t) (iblk m c 3 t) (iblk m c 4 t) (iblk m c 5 t) (iblk m c 6 t) (ix3 0 r j)
      = proj (args m c) (seqOf t) (rowOf t r) (rCol j) := by
  refine (canon_tile _ _).trans ((pay6_at (tile m c t) _ r j).trans (product_eq m c t r _ _ fun k => ?_))
  refine Eq.trans ?_ (wlast_at m c t k j)
  refine congrArg (iblk m c 3 t) (funext fun a => Fin.ext ?_)
  fin_cases a
  · show 0 + 1 * k.val = k.val
    omega
  · show 2048 + 1 * j.val = 2048 + j.val
    omega

/-- The whole of a window's block, as it is loaded. -/
theorem load_low (w : Vec Ideal S1024x16 .bf16) (k : Fin 1024) (i : Fin 16) : View.ld w r0_9 (ix2 k i) = w (ix2 k i) := by
  pointwise [View.ld]
theorem load_gate (w : Vec Ideal S16x512 .bf16) (i : Fin 16) (j : Fin 512) : View.ld w r0_10 (ix2 i j) = w (ix2 i j) := by
  pointwise [View.ld]
theorem load_bias (w : Vec Ideal S1x512 .f32) (j : Fin 512) : View.ld w r0_11 (ix2 0 j) = w (ix2 0 j) := by
  pointwise [View.ld]

/-- The log decays' block. -/
theorem a_block (c : Dev nD) (t : Fin cfg0.N) (r j : Fin 512) :
    out0_11 (iblk m c 0 t) (iblk m c 1 t) (iblk m c 2 t) (iblk m c 3 t) (iblk m c 4 t) (iblk m c 5 t) (iblk m c 6 t) (ix3 0 r j)
      = decay (gate (args m c) (seqOf t) (rowOf t r) j) := by
  refine (canon_half _ _).trans ((pay1_at (tile m c t) _ _ _ r j).trans (congrArg decay ((pay7_at (tile m c t) _ _ _ r j).trans ?_)))
  unfold gate
  rw [load_bias]
  refine congrArg₂ (· + ·) (Finset.sum_congr rfl fun i _ => congrArg₂ (· * ·) (product_eq m c t r _ _ fun k => ?_) ?_)
    (bias_at m c t j)
  · rw [load_low]
    exact wlow_at m c t k i
  · rw [load_gate]
    exact wgate_at m c t i j

end Cert.Kernel4Ideal.GlaProj

end
-- ==== Proof.GlaProj.Sweep.lean ====
/-
  The gated linear attention's input projection over the grid: each point leaves its block of each of the five results, so
  the arrays after the last point are the projection's results.
-/
module

public import proofs.«01_k».proof.Proof.GlaProj.Blocks

@[expose] public section

set_option maxRecDepth 16384

noncomputable section

namespace Cert.Kernel4Ideal.GlaProj

open Idealize.ShloMosaic Idealize.ShloMosaic.TcCoe Idealize.SL.Sem
open Cert.Kernel4Ideal Cert.Kernel4Ideal.Gen
open Cert.GlaProjection

variable (m : (ℓ : Loc nD τ sig) → Buf (Elt Ideal) ℓ) (c : Dev nD)

theorem out_idx : ∀ t : Fin cfg0.N, win0_7.index t = ![t.val / 16, t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0] :=
  (by decide +kernel : ∀ t : Fin grid0.N, _)

/-- Every row of every sequence is a row of a grid point's tile. -/
theorem exists_point (b : Fin 2) (s : Fin 8192) : ∃ (t : Fin cfg0.N) (r : Fin 512), seqOf t = b ∧ rowOf t r = s := by
  have hs := s.isLt
  refine ⟨⟨16 * b.val + s.val / 512, by show _ < 32; omega⟩, ⟨s.val % 512, Nat.mod_lt _ (by decide)⟩, Fin.ext ?_, Fin.ext ?_⟩
  · show (16 * b.val + s.val / 512) / 16 = b.val
    omega
  · show 512 * ((16 * b.val + s.val / 512) % 16) + s.val % 512 = s.val
    omega

/-- The queries after the last point. -/
theorem q_at (b : Fin 2) (s : Fin 8192) (j : Fin 512) :
    ((dats m 0 c).arrAt 7 cfg0.N : Vec Ideal S2x8192x512 .f32) (ix3 b s j) = proj (args m c) b s (qCol j) := by
  obtain ⟨t, r, rfl, rfl⟩ := exists_point b s
  have h := congrFun (Value.blocks7 m c t (flush0_7 _)) (ix3 0 r j)
  rw [Value.flushed7] at h
  refine Eq.trans (Eq.symm ?_) (h.trans (q_block m c t r j))
  blk_ext [out_idx t, rowOf, seqOf]

/-- The keys after the last point. -/
theorem k_at (b : Fin 2) (s : Fin 8192) (j : Fin 512) :
    ((dats m 0 c).arrAt 8 cfg0.N : Vec Ideal S2x8192x512 .f32) (ix3 b s j) = proj (args m c) b s (kCol j) := by
  obtain ⟨t, r, rfl, rfl⟩ := exists_point b s
  have h := congrFun (Value.blocks8 m c t (flush0_8 _)) (ix3 0 r j)
  rw [Value.flushed8] at h
  refine Eq.trans (Eq.symm ?_) (h.trans (k_block m c t r j))
  blk_ext [out_idx t, rowOf, seqOf]

/-- The values after the last point. -/
theorem v_at (b : Fin 2) (s : Fin 8192) (j : Fin 1024) :
    ((dats m 0 c).arrAt 9 cfg0.N : Vec Ideal S2x8192x1024 .bf16) (ix3 b s j) = proj (args m c) b s (vCol j) := by
  obtain ⟨t, r, rfl, rfl⟩ := exists_point b s
  have h := congrFun (Value.blocks9 m c t (flush0_9 _)) (ix3 0 r j)
  rw [Value.flushed9] at h
  refine Eq.trans (Eq.symm ?_) (h.trans (v_block m c t r j))
  blk_ext [out_idx t, rowOf, seqOf]

/-- The gates after the last point. -/
theorem r_at (b : Fin 2) (s : Fin 8192) (j : Fin 1024) :
    ((dats m 0 c).arrAt 10 cfg0.N : Vec Ideal S2x8192x1024 .f32) (ix3 b s j) = proj (args m c) b s (rCol j) := by
  obtain ⟨t, r, rfl, rfl⟩ := exists_point b s
  have h := congrFun (Value.blocks10 m c t (flush0_10 _)) (ix3 0 r j)
  rw [Value.flushed10] at h
  refine Eq.trans (Eq.symm ?_) (h.trans (r_block m c t r j))
  blk_ext [out_idx t, rowOf, seqOf]

/-- The log decays after the last point. -/
theorem a_at (b : Fin 2) (s : Fin 8192) (j : Fin 512) :
    ((dats m 0 c).arrAt 11 cfg0.N : Vec Ideal S2x8192x512 .f32) (ix3 b s j) = decay (gate (args m c) b s j) := by
  obtain ⟨t, r, rfl, rfl⟩ := exists_point b s
  have h := congrFun (Value.blocks11 m c t (flush0_11 _)) (ix3 0 r j)
  rw [Value.flushed11] at h
  refine Eq.trans (Eq.symm ?_) (h.trans (a_block m c t r j))
  blk_ext [out_idx t, rowOf, seqOf]

end Cert.Kernel4Ideal.GlaProj

end
-- ==== Proof.GlaProj.Reference.lean ====
/-
  The gated linear attention's input projection in the reference: the product, its parts, and the log decays.
-/
module

public import proofs.«01_k».proof.Proof.GlaProj.Blocks
public import proofs.«01_k».proof.Proof.Gen.Reference4Ideal.Run

@[expose] public section

set_option maxRecDepth 16384

noncomputable section

namespace Cert.Reference4Ideal.GlaProj

open Idealize.ShloMosaic Idealize.ShloMosaic.TcCoe Idealize.SL.Sem
open Cert.Reference4Ideal Cert.Reference4Ideal.Gen Cert.Reference4Ideal.Value
open Cert.Kernel4Ideal.GlaProj (argsOf)
open Cert.GlaProjection

/-- The projected stream. -/
def projected (x : FVec Ideal S2x8192x1024 .f32) (md : FVec Ideal S2x2x6144 .f32) (gn : FVec Ideal S2x1024 .f32)
    (w : FVec Ideal S1x1024x3088 .f32) : FVec Ideal S2x8192x3088 .f32 :=
  Host.dotGeneral dot_S2x8192x1024_S1024x3088_S2x8192x3088_2_0_01_1_n_n none (addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![1, 0] gn slices_S2x1024_S1x1024_1_0) shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] (shapeCast _ (extractStridedSlice S1x2x6144 ![1, 0, 0] md slices_S2x2x6144_S1x2x6144_1_0_0) shapeCasts_S1x2x6144_S2x6144) slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] (shapeCast _ (extractStridedSlice S1x2x6144 ![1, 0, 0] md slices_S2x2x6144_S1x2x6144_1_0_0) shapeCasts_S1x2x6144_S2x6144) slices_S2x6144_S2x1024_0_0)))) (shapeCast _ w shapeCasts_S1x1024x3088_S1024x3088)

/-- The decays' argument, from the projected stream. -/
def gated (W : FVec Ideal S2x8192x3088 .f32) (wg : FVec Ideal S1x16x512 .f32) (bg : FVec Ideal S1x512 .f32) :
    FVec Ideal S2x8192x512 .f32 :=
  addf (Host.dotGeneral dot_S2x8192x16_S16x512_S2x8192x512_2_0_01_1_n_n none (extractStridedSlice S2x8192x16 ![0, 0, 2048] W slices_S2x8192x3088_S2x8192x16_0_0_2048) (shapeCast _ wg shapeCasts_S1x16x512_S16x512)) (broadcastInDim S2x8192x512 ![0, 1, 2] bcast_S1x1x512_S2x8192x512_0_1_2 (broadcastInDim S1x1x512 ![2] bcast_S512_S1x1x512_2 (shapeCast _ bg shapeCasts_S1x512_S512)))

/-- The array of zeros. -/
def zeros : FVec Ideal S2x8192x512 .f32 := broadcastInDim S2x8192x512 ![] bcast_S_S2x8192x512 (constant S_ .f32 0x00000000#32)

/-- The log decays, from their argument. -/
def decays (Z : FVec Ideal S2x8192x512 .f32) : FVec Ideal S2x8192x512 .f32 :=
  Host.divf (Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))) (broadcastInDim S2x8192x512 ![] bcast_S_S2x8192x512 (constant S_ .f32 0x41800000#32))

theorem res_eq (m : (ℓ : Loc nD τ sig) → Buf (Elt Ideal) ℓ) (c : Dev nD) : res_main_v46 m c =
    decays (gated (projected (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5))) := by
  unfold res_main_v46
  rfl

/-- An entry of each part of the projected stream. -/
theorem q_slice (W : FVec Ideal S2x8192x3088 .f32) (b : Fin 2) (s : Fin 8192) (j : Fin 512) :
    extractStridedSlice S2x8192x512 ![0, 0, 0] W slices_S2x8192x3088_S2x8192x512_0_0_0 (ix3 b s j) = W (ix3 b s (qCol j)) := by
  pointwise [qCol]

theorem k_slice (W : FVec Ideal S2x8192x3088 .f32) (b : Fin 2) (s : Fin 8192) (j : Fin 512) :
    extractStridedSlice S2x8192x512 ![0, 0, 512] W slices_S2x8192x3088_S2x8192x512_0_0_512 (ix3 b s j) = W (ix3 b s (kCol j)) := by
  pointwise [kCol]

theorem v_slice (W : FVec Ideal S2x8192x3088 .f32) (b : Fin 2) (s : Fin 8192) (j : Fin 1024) :
    (truncf .bf16 (extractStridedSlice S2x8192x1024 ![0, 0, 1024] W slices_S2x8192x3088_S2x8192x1024_0_0_1024) : FVec Ideal S2x8192x1024 .bf16)
      (ix3 b s j) = W (ix3 b s (vCol j)) := by
  pointwise [vCol]

theorem r_slice (W : FVec Ideal S2x8192x3088 .f32) (b : Fin 2) (s : Fin 8192) (j : Fin 1024) :
    extractStridedSlice S2x8192x1024 ![0, 0, 2064] W slices_S2x8192x3088_S2x8192x1024_0_0_2064 (ix3 b s j) = W (ix3 b s (rCol j)) := by
  pointwise [rCol]

section

variable (x : FVec Ideal S2x8192x1024 .f32) (md : FVec Ideal S2x2x6144 .f32) (gn : FVec Ideal S2x1024 .f32)
  (w : FVec Ideal S1x1024x3088 .f32) (wg : FVec Ideal S1x16x512 .f32) (bg : FVec Ideal S1x512 .f32)

theorem projected_at (b : Fin 2) (s : Fin 8192) (n : Fin 3088) :
    projected x md gn w (ix3 b s n) = proj (argsOf x md gn w wg bg) b s n := by
  unfold projected
  pointwise [proj, normed, FeedForward.scale, argsOf]

/-- The decays' argument, index by index. -/
theorem gated_at (b : Fin 2) (s : Fin 8192) (j : Fin 512) :
    gated (projected x md gn w) wg bg (ix3 b s j) = gate (argsOf x md gn w wg bg) b s j := by
  have e : ∀ W : FVec Ideal S2x8192x3088 .f32, gated W wg bg (ix3 b s j) =
      (∑ i : Fin 16, (show EReal from W (ix3 b s (lowCol i))) * (show EReal from wg (ix3 0 i j))) + (show EReal from bg (ix2 0 j)) := by
    intro W
    unfold gated
    pointwise [lowCol]
  rw [e]
  unfold gate
  refine congrArg (· + _) (Finset.sum_congr rfl fun i _ => ?_)
  exact congrArg (· * _) (projected_at x md gn w wg bg b s (lowCol i))

end

/-- A log decay is the kernel's formula of its argument. -/
theorem decays_at (Z : FVec Ideal S2x8192x512 .f32) (j : S2x8192x512.Idx) : decays Z j = decay (Z j) := by
  unfold decay
  rw [← neg_max_add]
  unfold decays zeros
  pointwise
  rw [if_neg (fun h => h rfl)]
  rfl

end Cert.Reference4Ideal.GlaProj

end
-- ==== Proof.GlaProj.Equal.lean ====
/-
  The gated linear attention's input projection: the two runs joined. Both programs end with the queries, keys, values,
  gates and log decays of the arguments.
-/
module

public import proofs.«01_k».proof.Defs
public import proofs.«01_k».proof.Proof.GlaProj.Sweep
public import proofs.«01_k».proof.Proof.GlaProj.Reference
public import Idealize.ShloMosaic.Lib.Quiescent

@[expose] public section

set_option maxRecDepth 16384

noncomputable section

namespace Cert.Proof.GlaProj

open Idealize.ShloMosaic Idealize.ShloMosaic.TcCoe Idealize.SL.Sem
open Cert.GlaProjection

/-- The reference ends with its arguments unchanged; it declares no semaphore. -/
theorem reference_frame :
    Cert.quiescent_Reference4Ideal (hReference4Ideal := Cert.Reference4Ideal.Gen.facts) :=
  fun m g _ => (θ_run _ _ _).mono (fun r h => ⟨fun c => (h c).2.2.2.2.2, sem_eq_zero_of_no_sems (by decide) r.2⟩)
    (Cert.Reference4Ideal.Value.run m g)

/-- Every index of a rank-3 array is its three coordinates. -/
theorem index_parts {p q n : Nat} (y : (⟨3, ![p, q, n]⟩ : Shape).Idx) : ∃ (b : Fin p) (s : Fin q) (j : Fin n), y = ix3 b s j :=
  ⟨y 0, y 1, y 2, funext fun a => by fin_cases a <;> rfl⟩

/-- The value claim of the gated linear attention's input projection. -/
theorem algebraic : Cert.algebraic_Kernel4Ideal_Reference4Ideal
    (hKernel4Ideal := Cert.Kernel4Ideal.Gen.facts) (hReference4Ideal := Cert.Reference4Ideal.Gen.facts) := by
  intro m g m' g' _ hargs
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    Cert.Kernel4Ideal.Value.run_blocks m g, ?_⟩
  have e : ∀ c : Dev Cert.Kernel4Ideal.nD, Cert.Kernel4Ideal.GlaProj.argsOf
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5)) =
      Cert.Kernel4Ideal.GlaProj.args m c := by
    intro c
    obtain ⟨h0, h1, h2, h3, h4, h5⟩ := hargs c
    exact congrArg₂ (fun f x => f x) (congrArg₂ (fun f x => f x) (congrArg₂ (fun f x => f x) (congrArg₂ (fun f x => f x) (congrArg₂ (fun f x => f x) (congrArg Cert.Kernel4Ideal.GlaProj.argsOf h0) h1) h2) h3) h4) h5
  have p : ∀ (c : Dev Cert.Kernel4Ideal.nD) (b : Fin 2) (s : Fin 8192) (n : Fin 3088), Cert.Reference4Ideal.GlaProj.projected
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (ix3 b s n) =
      proj (Cert.Kernel4Ideal.GlaProj.args m c) b s n := fun c b s n =>
    (Cert.Reference4Ideal.GlaProj.projected_at _ _ _ _ _ _ b s n).trans (congrArg (fun a => proj a b s n) (e c))
  refine (θ_run _ _ _).mono (fun r h c => ⟨(h c).1.trans ?_, (h c).2.1.trans ?_, (h c).2.2.1.trans ?_, (h c).2.2.2.1.trans ?_,
    (h c).2.2.2.2.1.trans ?_, (h c).2.2.2.2.2⟩) (Cert.Reference4Ideal.Value.run m' g')
  · funext y
    obtain ⟨b, s, j, rfl⟩ := index_parts y
    refine Eq.trans ?_ (Cert.Kernel4Ideal.GlaProj.q_at m c b s j).symm
    exact (Cert.Reference4Ideal.GlaProj.q_slice _ b s j).trans (p c b s (qCol j))
  · funext y
    obtain ⟨b, s, j, rfl⟩ := index_parts y
    refine Eq.trans ?_ (Cert.Kernel4Ideal.GlaProj.k_at m c b s j).symm
    exact (Cert.Reference4Ideal.GlaProj.k_slice _ b s j).trans (p c b s (kCol j))
  · funext y
    obtain ⟨b, s, j, rfl⟩ := index_parts y
    refine Eq.trans ?_ (Cert.Kernel4Ideal.GlaProj.v_at m c b s j).symm
    exact (Cert.Reference4Ideal.GlaProj.v_slice _ b s j).trans (p c b s (vCol j))
  · funext y
    obtain ⟨b, s, j, rfl⟩ := index_parts y
    refine Eq.trans ?_ (Cert.Kernel4Ideal.GlaProj.r_at m c b s j).symm
    exact (Cert.Reference4Ideal.GlaProj.r_slice _ b s j).trans (p c b s (rCol j))
  · rw [Cert.Reference4Ideal.GlaProj.res_eq]
    funext y
    obtain ⟨b, s, j, rfl⟩ := index_parts y
    refine Eq.trans ?_ (Cert.Kernel4Ideal.GlaProj.a_at m c b s j).symm
    refine (Cert.Reference4Ideal.GlaProj.decays_at _ _).trans (congrArg decay ?_)
    exact (Cert.Reference4Ideal.GlaProj.gated_at _ _ _ _ _ _ b s j).trans (congrArg (fun a => gate a b s j) (e c))

end Cert.Proof.GlaProj

end
-- ==== Proof.Ada.Blocks.lean ====
/-
  The modulations: what a grid point stores, and the array after the last point.
-/
module

public import proofs.«01_k».proof.Proof.Gen.Kernel5Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Ada

open Idealize.ShloMosaic Idealize.ShloMosaic.TcCoe Idealize.SL.Sem
open Cert.Kernel5Ideal Cert.Kernel5Ideal.Gen

/-- A modulation: the gated condition times a column of the layer's weights, and the bias. -/
def modulation (c : Vec Ideal S2x1024 .f32) (w : Vec Ideal S2x1024x6144 .f32) (b : Vec Ideal S2x6144 .f32)
    (l s : Fin 2) (n : Fin 6144) : EReal :=
  (∑ k : Fin 1024, ((c (ix2 s k) : EReal) * Ideal.logistic (c (ix2 s k))) * w (ix3 l k n)) + b (ix2 l n)

variable (m : (ℓ : Loc nD τ sig) → Buf (Elt Ideal) ℓ)

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val / 4 < 2 :=
  (by decide +kernel : ∀ t : Fin grid0.N, _)

/-- The layer a grid point works on. -/
def layerOf (t : Fin cfg0.N) : Fin 2 := ⟨t.val / 4, (idx t).2.2.2.2⟩

/-- The column that column `n` of a grid point's tile is. -/
def colOf (t : Fin cfg0.N) (n : Fin 1536) : Fin 6144 :=
  ⟨1536 * (t.val % 4) + n.val, by have := Nat.mod_lt t.val (show 0 < 4 by decide); omega⟩

theorem cond_at (c : Dev nD) (t : Fin cfg0.N) (s : Fin 2) (k : Fin 1024) :
    (iblk m c 0 t : Vec Ideal S2x1024 .f32) (ix2 s k) =
      (m ((c : Thread nD τ).loc main_arg0) : Vec Ideal S2x1024 .f32) (ix2 s k) := by
  have e : iblk m c 0 t = m ((c : Thread nD τ).loc main_arg0) := by blk_ext! [iblk, V, idx t]
  rw [e]

theorem weight_at (c : Dev nD) (t : Fin cfg0.N) (k : Fin 1024) (n : Fin 1536) :
    (iblk m c 1 t : Vec Ideal S1x1024x1536 .f32) (ix3 0 k n) =
      (m ((c : Thread nD τ).loc main_arg1) : Vec Ideal S2x1024x6144 .f32) (ix3 (layerOf t) k (colOf t n)) := by
  blk_ext [iblk, V, idx t, layerOf, colOf]

theorem bias_at (c : Dev nD) (t : Fin cfg0.N) (n : Fin 1536) :
    (iblk m c 2 t : Vec Ideal S1x1x1536 .f32) (ix3 0 0 n) =
      (m ((c : Thread nD τ).loc main_arg2) : Vec Ideal S2x6144 .f32) (ix2 (layerOf t) (colOf t n)) := by
  have e : (iblk m c 2 t : Vec Ideal S1x1x1536 .f32) (ix3 0 0 n) =
      (V m c main_v0 : Vec Ideal S2x1x6144 .f32) (ix3 (layerOf t) 0 (colOf t n)) := by
    blk_ext [iblk, idx t, layerOf, colOf]
  rw [e]
  simp only [V, List.flatten_cons, List.flatten_nil, List.append_nil, hostOps0, List.cons_append, List.nil_append]
  entry_read
  pointwise

/-- What a point stores, from its blocks. -/
theorem pay_at (x : Vec Ideal S2x1024 .f32) (w : Vec Ideal S1x1024x1536 .f32) (b : Vec Ideal S1x1x1536 .f32)
    (s : Fin 2) (n : Fin 1536) :
    k0_pay1 (View.ld x r0_0) (View.ld w r0_1) (View.ld b r0_2) (ix3 0 s n) =
      (∑ k : Fin 1024, ((x (ix2 s k) : EReal) * Ideal.logistic (x (ix2 s k))) * w (ix3 0 k n)) + b (ix3 0 0 n) := by
  unfold k0_pay1
  pointwise [View.ld]

theorem store_embed (y : S1x2x1536.Idx) : r0_3.emb y = y := funext fun a => Fin.ext (by
  fin_cases a
  · show 0 + 1 * (y 0).val = (y 0).val
    omega
  · show 0 + 1 * (y 1).val = (y 1).val
    omega
  · show 0 + 1 * (y 2).val = (y 2).val
    omega)

/-- A block stored whole holds what is stored. -/
theorem canon_store (w : Vec Ideal S1x2x1536 .f32) (y : S1x2x1536.Idx) :
    View.canon (Val := Elt Ideal) [⟨r0_3, w⟩] y = w y := by
  have h := View.canon_cons_emb (Val := Elt Ideal) (e := .f32) r0_3 w [] y
  rwa [store_embed] at h

/-- The modulations on a device, from its arguments. -/
abbrev modAt (c : Dev nD) : Fin 2 → Fin 2 → Fin 6144 → EReal :=
  modulation (m ((c : Thread nD τ).loc main_arg0)) (m ((c : Thread nD τ).loc main_arg1)) (m ((c : Thread nD τ).loc main_arg2))

/-- The block a point leaves. -/
theorem block_at (c : Dev nD) (t : Fin cfg0.N) (s : Fin 2) (n : Fin 1536) :
    out0_3 (iblk m c 0 t) (iblk m c 1 t) (iblk m c 2 t) (ix3 0 s n) = modAt m c (layerOf t) s (colOf t n) := by
  refine (canon_store _ _).trans ((pay_at (iblk m c 0 t) (iblk m c 1 t) (iblk m c 2 t) s n).trans ?_)
  unfold modAt modulation
  refine congrArg₂ (· + ·) (Finset.sum_congr rfl fun k _ => ?_) (bias_at m c t n)
  rw [cond_at, weight_at]

/-- Every column of a layer is a column of a grid point's tile. -/
theorem exists_point (l : Fin 2) (n : Fin 6144) : ∃ (t : Fin cfg0.N) (r : Fin 1536), layerOf t = l ∧ colOf t r = n := by
  have hn := n.isLt
  refine ⟨⟨4 * l.val + n.val / 1536, by show _ < 8; omega⟩, ⟨n.val % 1536, Nat.mod_lt _ (by decide)⟩, Fin.ext ?_, Fin.ext ?_⟩
  · show (4 * l.val + n.val / 1536) / 4 = l.val
    omega
  · show 1536 * ((4 * l.val + n.val / 1536) % 4) + n.val % 1536 = n.val
    omega

/-- The array after the last point. -/
theorem result_at (c : Dev nD) (l s : Fin 2) (n : Fin 6144) :
    ((dats m 0 c).arrAt 3 cfg0.N : Vec Ideal S2x2x6144 .f32) (ix3 l s n) = modAt m c l s n := by
  obtain ⟨t, r, rfl, rfl⟩ := exists_point l n
  have h := congrFun (Value.blocks3 m c t (flush0_3 _)) (ix3 0 s r)
  rw [Value.flushed3] at h
  refine Eq.trans (Eq.symm ?_) (h.trans (block_at m c t s r))
  blk_ext [idx t, layerOf, colOf]

end Cert.Kernel5Ideal.Ada

end
-- ==== Proof.Ada.Equal.lean ====
/-
  The modulations: the reference, and the two runs joined.
-/
module

public import proofs.«01_k».proof.Defs
public import proofs.«01_k».proof.Proof.Ada.Blocks
public import proofs.«01_k».proof.Proof.Gen.Reference5Ideal.Run
public import Idealize.ShloMosaic.Lib.Quiescent

@[expose] public section

set_option maxRecDepth 16384

noncomputable section

namespace Cert.Reference5Ideal.Ada

open Idealize.ShloMosaic Idealize.ShloMosaic.TcCoe Idealize.SL.Sem
open Cert.Reference5Ideal Cert.Reference5Ideal.Gen
open Cert.Kernel5Ideal.Ada (modulation)

/-- The modulations of the two layers, stacked. -/
def stacked (c : FVec Ideal S2x1024 .f32) (w : FVec Ideal S2x1024x6144 .f32) (b : FVec Ideal S2x6144 .f32) :
    FVec Ideal S2x2x6144 .f32 :=
  concatenate S2x2x6144 0 [⟨S1x2x6144, (broadcastInDim S1x2x6144 ![1, 2] bcast_S2x6144_S1x2x6144_1_2 (addf (Host.dotGeneral dot_S2x1024_S1024x6144_S2x6144_1_0_0_1_n_n none (mulf c (Host.divf (broadcastInDim S2x1024 ![] bcast_S_S2x1024 (constant S_ .f32 0x3F800000#32)) (addf (broadcastInDim S2x1024 ![] bcast_S_S2x1024 (constant S_ .f32 0x3F800000#32)) (Host.exp (Host.negf c))))) (shapeCast _ (extractStridedSlice S1x1024x6144 ![0, 0, 0] w slices_S2x1024x6144_S1x1024x6144_0_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![0, 0] b slices_S2x6144_S1x6144_0_0) shapeCasts_S1x6144_S6144)))))⟩, ⟨S1x2x6144, (broadcastInDim S1x2x6144 ![1, 2] bcast_S2x6144_S1x2x6144_1_2 (addf (Host.dotGeneral dot_S2x1024_S1024x6144_S2x6144_1_0_0_1_n_n none (mulf c (Host.divf (broadcastInDim S2x1024 ![] bcast_S_S2x1024 (constant S_ .f32 0x3F800000#32)) (addf (broadcastInDim S2x1024 ![] bcast_S_S2x1024 (constant S_ .f32 0x3F800000#32)) (Host.exp (Host.negf c))))) (shapeCast _ (extractStridedSlice S1x1024x6144 ![1, 0, 0] w slices_S2x1024x6144_S1x1024x6144_1_0_0) shapeCasts_S1x1024x6144_S1024x6144)) (broadcastInDim S2x6144 ![0, 1] bcast_S1x6144_S2x6144_0_1 (broadcastInDim S1x6144 ![1] bcast_S6144_S1x6144_1 (shapeCast _ (extractStridedSlice S1x6144 ![1, 0] b slices_S2x6144_S1x6144_1_0) shapeCasts_S1x6144_S6144)))))⟩] concatenates_S1x2x6144_S1x2x6144_S2x2x6144_d0

variable (c : FVec Ideal S2x1024 .f32) (w : FVec Ideal S2x1024x6144 .f32) (b : FVec Ideal S2x6144 .f32)

theorem first_at (s : Fin 2) (n : Fin 6144) : stacked c w b (ix3 0 s n) = modulation c w b 0 s n := by
  unfold stacked modulation
  pointwise
  rfl

theorem second_at (s : Fin 2) (n : Fin 6144) : stacked c w b (ix3 1 s n) = modulation c w b 1 s n := by
  unfold stacked modulation
  pointwise
  rfl

theorem stacked_at (l s : Fin 2) (n : Fin 6144) : stacked c w b (ix3 l s n) = modulation c w b l s n := by
  fin_cases l
  · exact first_at c w b s n
  · exact second_at c w b s n

end Cert.Reference5Ideal.Ada

namespace Cert.Proof.Ada

open Idealize.ShloMosaic Idealize.ShloMosaic.TcCoe Idealize.SL.Sem

/-- The reference ends with its arguments unchanged; it declares no semaphore. -/
theorem reference_frame :
    Cert.quiescent_Reference5Ideal (hReference5Ideal := Cert.Reference5Ideal.Gen.facts) :=
  fun m g _ => (θ_run _ _ _).mono (fun r h => ⟨fun c => (h c).2, sem_eq_zero_of_no_sems (by decide) r.2⟩)
    (Cert.Reference5Ideal.Value.run m g)

/-- Every index of the result is a layer, a sequence and a column. -/
theorem index_parts (y : (⟨3, ![2, 2, 6144]⟩ : Shape).Idx) : ∃ (l s : Fin 2) (n : Fin 6144), y = ix3 l s n :=
  ⟨y 0, y 1, y 2, funext fun a => by fin_cases a <;> rfl⟩

/-- The value claim of the modulations. -/
theorem algebraic : Cert.algebraic_Kernel5Ideal_Reference5Ideal
    (hKernel5Ideal := Cert.Kernel5Ideal.Gen.facts) (hReference5Ideal := Cert.Reference5Ideal.Gen.facts) := by
  intro m g m' g' _ hargs
  refine ⟨fun c => (Cert.Kernel5Ideal.Gen.dats m 0 c).arrAt 3 Cert.Kernel5Ideal.cfg0.N,
    Cert.Kernel5Ideal.Value.run_blocks m g, ?_⟩
  refine (θ_run _ _ _).mono (fun r h c => ⟨(h c).1.trans ?_, (h c).2⟩) (Cert.Reference5Ideal.Value.run m' g')
  obtain ⟨h0, h1, h2⟩ := hargs c
  funext y
  obtain ⟨l, s, n, rfl⟩ := index_parts y
  refine Eq.trans ?_ (Cert.Kernel5Ideal.Ada.result_at m c l s n).symm
  refine (Cert.Reference5Ideal.Ada.stacked_at _ _ _ l s n).trans ?_
  exact congrFun (congrFun (congrFun (congrArg₂ (fun f x => f x) (congrArg₂ (fun f x => f x)
    (congrArg Cert.Kernel5Ideal.Ada.modulation h0) h1) h2) l) s) n

end Cert.Proof.Ada

end
-- ==== Proof.lean ====
/-
  The proof of `Cert.Claim`. The kernels' frames are the generated ones; the host references end with their arguments
  unchanged and have no semaphore; each value claim is two runs joined (Equal.lean of Proof/Gla, Proof/Ffn,
  Proof/Proj, Proof/GlaProj and Proof/Ada).
-/
module

public import proofs.«01_k».proof.Proof.Gen.KernelIdeal.Value
public import proofs.«01_k».proof.Proof.Gen.ReferenceIdeal.Run
public import proofs.«01_k».proof.Defs
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_decays_below_infinity
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gla.Equal
public import proofs.«01_k».proof.Proof.Ffn.Equal
public import proofs.«01_k».proof.Proof.Proj.Equal
public import proofs.«01_k».proof.Proof.GlaProj.Equal
public import proofs.«01_k».proof.Proof.Ada.Equal
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_decays_below_infinity.Gen.facts,
    fun m g _ => Cert.Kernel.Gen.frame m g, fun m g _ => Cert.KernelIdeal.Gen.frame m g, fun m g _ => Cert.KernelIdeal.Gen.frame m g,
    Gla.reference_frame, fun m g _ => Gla.reference_frame m g trivial,
    fun m g _ => Cert.Kernel2.Gen.frame m g, fun m g _ => Cert.Kernel2Ideal.Gen.frame m g, Ffn.reference_frame,
    fun m g _ => Cert.Kernel3.Gen.frame m g, fun m g _ => Cert.Kernel3Ideal.Gen.frame m g, Proj.reference_frame,
    fun m g _ => Cert.Kernel4.Gen.frame m g, fun m g _ => Cert.Kernel4Ideal.Gen.frame m g, GlaProj.reference_frame,
    fun m g _ => Cert.Kernel5.Gen.frame m g, fun m g _ => Cert.Kernel5Ideal.Gen.frame m g, Ada.reference_frame,
    trivial, Gla.algebraic, trivial, Ffn.algebraic, trivial, Proj.algebraic, trivial, GlaProj.algebraic, trivial, Ada.algebraic⟩

end Cert.Proof

end
